-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleRefIdeal (m : (ℓ : Loc Cert.InprojSampleRefIdeal.nD Cert.InprojSampleRefIdeal.τ Cert.InprojSampleRefIdeal.sig) → Buf (Elt Ideal) ℓ) : Prop :=
  True

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleIdeal_scores_finite [hPre_scores_finite : Cert.Pre_scores_finite.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_scores_finite.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3))).1 = (fun _ => 1#1)
    ∧ (Cert.Pre_scores_finite.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3))).2.1 = (fun _ => 1#1)
    ∧ (Cert.Pre_scores_finite.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3))).2.2 = (fun _ => 1#1)

def Pre_AttnSampleRefIdeal (m : (ℓ : Loc Cert.AttnSampleRefIdeal.nD Cert.AttnSampleRefIdeal.τ Cert.AttnSampleRefIdeal.sig) → Buf (Elt Ideal) ℓ) : Prop :=
  True

def Pre_AttnSampleRefIdeal_scores_finite [hPre_scores_finite : Cert.Pre_scores_finite.Facts] (m : (ℓ : Loc Cert.AttnSampleRefIdeal.nD Cert.AttnSampleRefIdeal.τ Cert.AttnSampleRefIdeal.sig) → Buf (Elt Ideal) ℓ) : Prop :=
  ∀ c : Dev Cert.AttnSampleRefIdeal.nD,
    (Cert.Pre_scores_finite.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3))).1 = (fun _ => 1#1)
    ∧ (Cert.Pre_scores_finite.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3))).2.1 = (fun _ => 1#1)
    ∧ (Cert.Pre_scores_finite.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3))).2.2 = (fun _ => 1#1)

def Pre_AttnWin (m : (ℓ : Loc Cert.AttnWin.nD Cert.AttnWin.τ Cert.AttnWin.sig) → Buf (Elt Bits) ℓ) : Prop :=
  True

def Pre_AttnWinIdeal (m : (ℓ : Loc Cert.AttnWinIdeal.nD Cert.AttnWinIdeal.τ Cert.AttnWinIdeal.sig) → Buf (Elt Ideal) ℓ) : Prop :=
  True

def Pre_AttnWinRefIdeal (m : (ℓ : Loc Cert.AttnWinRefIdeal.nD Cert.AttnWinRefIdeal.τ Cert.AttnWinRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1))
      ∧ r.2.sem = fun _ => 0)

def quiescent_InprojSampleRefIdeal [hInprojSampleRefIdeal : Cert.InprojSampleRefIdeal.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ r.2.sem = fun _ => 0)

def quiescent_AttnSampleIdeal_pre_scores_finite [hAttnSampleIdeal : Cert.AttnSampleIdeal.Facts] [hPre_scores_finite : Cert.Pre_scores_finite.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal_scores_finite m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3))
      ∧ r.2.sem = fun _ => 0)

def quiescent_AttnSampleRefIdeal_pre_scores_finite [hAttnSampleRefIdeal : Cert.AttnSampleRefIdeal.Facts] [hPre_scores_finite : Cert.Pre_scores_finite.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal_scores_finite m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3))
      ∧ r.2.sem = fun _ => 0)

def quiescent_AttnWin [hAttnWin : Cert.AttnWin.Facts] : Prop :=
  ∀ (m : (ℓ : Loc Cert.AttnWin.nD Cert.AttnWin.τ Cert.AttnWin.sig) → Buf (Elt Bits) ℓ) (g : Dev Cert.AttnWin.nD → PrngReg), Pre_AttnWin m →
    θ_run (Cert.AttnWin.defs (F := Bits)) (onTc (τ := Cert.AttnWin.τ) (Cert.AttnWin.main (F := Bits))) ⟨m, fun _ => 0, g⟩ (fun r => (∀ c : Dev Cert.AttnWin.nD,
      r.2.mem ((c.tc : Thread Cert.AttnWin.nD Cert.AttnWin.τ).loc Cert.AttnWin.main_arg0) = m ((c.tc : Thread Cert.AttnWin.nD Cert.AttnWin.τ).loc Cert.AttnWin.main_arg0)
      ∧ r.2.mem ((c.tc : Thread Cert.AttnWin.nD Cert.AttnWin.τ).loc Cert.AttnWin.main_arg1) = m ((c.tc : Thread Cert.AttnWin.nD Cert.AttnWin.τ).loc Cert.AttnWin.main_arg1))
      ∧ r.2.sem = fun _ => 0)

def quiescent_AttnWinIdeal [hAttnWinIdeal : Cert.AttnWinIdeal.Facts] : Prop :=
  ∀ (m : (ℓ : Loc Cert.AttnWinIdeal.nD Cert.AttnWinIdeal.τ Cert.AttnWinIdeal.sig) → Buf (Elt Ideal) ℓ) (g : Dev Cert.AttnWinIdeal.nD → PrngReg), Pre_AttnWinIdeal m →
    θ_run (Cert.AttnWinIdeal.defs (F := Ideal)) (onTc (τ := Cert.AttnWinIdeal.τ) (Cert.AttnWinIdeal.main (F := Ideal))) ⟨m, fun _ => 0, g⟩ (fun r => (∀ c : Dev Cert.AttnWinIdeal.nD,
      r.2.mem ((c.tc : Thread Cert.AttnWinIdeal.nD Cert.AttnWinIdeal.τ).loc Cert.AttnWinIdeal.main_arg0) = m ((c.tc : Thread Cert.AttnWinIdeal.nD Cert.AttnWinIdeal.τ).loc Cert.AttnWinIdeal.main_arg0)
      ∧ r.2.mem ((c.tc : Thread Cert.AttnWinIdeal.nD Cert.AttnWinIdeal.τ).loc Cert.AttnWinIdeal.main_arg1) = m ((c.tc : Thread Cert.AttnWinIdeal.nD Cert.AttnWinIdeal.τ).loc Cert.AttnWinIdeal.main_arg1))
      ∧ r.2.sem = fun _ => 0)

def quiescent_AttnWinRefIdeal [hAttnWinRefIdeal : Cert.AttnWinRefIdeal.Facts] : Prop :=
  ∀ (m : (ℓ : Loc Cert.AttnWinRefIdeal.nD Cert.AttnWinRefIdeal.τ Cert.AttnWinRefIdeal.sig) → Buf (Elt Ideal) ℓ) (g : Dev Cert.AttnWinRefIdeal.nD → PrngReg), Pre_AttnWinRefIdeal m →
    θ_run (Cert.AttnWinRefIdeal.defs (F := Ideal)) (onTc (τ := Cert.AttnWinRefIdeal.τ) (Cert.AttnWinRefIdeal.main (F := Ideal))) ⟨m, fun _ => 0, g⟩ (fun r => (∀ c : Dev Cert.AttnWinRefIdeal.nD,
      r.2.mem ((c.tc : Thread Cert.AttnWinRefIdeal.nD Cert.AttnWinRefIdeal.τ).loc Cert.AttnWinRefIdeal.main_arg0) = m ((c.tc : Thread Cert.AttnWinRefIdeal.nD Cert.AttnWinRefIdeal.τ).loc Cert.AttnWinRefIdeal.main_arg0)
      ∧ r.2.mem ((c.tc : Thread Cert.AttnWinRefIdeal.nD Cert.AttnWinRefIdeal.τ).loc Cert.AttnWinRefIdeal.main_arg1) = m ((c.tc : Thread Cert.AttnWinRefIdeal.nD Cert.AttnWinRefIdeal.τ).loc Cert.AttnWinRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v30) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v3)) (v1 : (c : Dev Cert.InprojIdeal.nD) → Buf (Elt Ideal) ((c.tc : Thread Cert.InprojIdeal.nD Cert.InprojIdeal.τ).loc Cert.InprojIdeal.main_v8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_v8) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v3) = v0 c
          ∧ r.2.mem ((c.tc : Thread Cert.InprojRefIdeal.nD Cert.InprojRefIdeal.τ).loc Cert.InprojRefIdeal.main_v5) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_InprojSample_InprojSampleIdeal : Prop :=
  True

def algebraic_InprojSampleIdeal_InprojSampleRefIdeal [hInprojSampleIdeal : Cert.InprojSampleIdeal.Facts] [hInprojSampleRefIdeal : Cert.InprojSampleRefIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleRefIdeal.nD Cert.InprojSampleRefIdeal.τ Cert.InprojSampleRefIdeal.sig) → Buf (Elt Ideal) ℓ) (g' : Dev Cert.InprojSampleRefIdeal.nD → PrngReg), Pre_InprojSampleIdeal m →
    (∀ c : Dev Cert.InprojSampleIdeal.nD,
      m' ((c.tc : Thread Cert.InprojSampleRefIdeal.nD Cert.InprojSampleRefIdeal.τ).loc Cert.InprojSampleRefIdeal.main_arg0) = m ((c.tc : Thread Cert.InprojSampleIdeal.nD Cert.InprojSampleIdeal.τ).loc Cert.InprojSampleIdeal.main_arg0)
      ∧ m' ((c.tc : Thread Cert.InprojSampleRefIdeal.nD Cert.InprojSampleRefIdeal.τ).loc Cert.InprojSampleRefIdeal.main_arg1) = m ((c.tc : Thread Cert.InprojSampleIdeal.nD Cert.InprojSampleIdeal.τ).loc Cert.InprojSampleIdeal.main_arg1)) →
    ∃ (v0 : (c : Dev Cert.InprojSampleIdeal.nD) → Buf (Elt Ideal) ((c.tc : Thread Cert.InprojSampleIdeal.nD Cert.InprojSampleIdeal.τ).loc Cert.InprojSampleIdeal.main_v3)) (v1 : (c : Dev Cert.InprojSampleIdeal.nD) → Buf (Elt Ideal) ((c.tc : Thread Cert.InprojSampleIdeal.nD Cert.InprojSampleIdeal.τ).loc Cert.InprojSampleIdeal.main_v5)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v3) = v0 c
          ∧ r.2.mem ((c.tc : Thread Cert.InprojSampleIdeal.nD Cert.InprojSampleIdeal.τ).loc Cert.InprojSampleIdeal.main_v5) = v1 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1))
      ∧ θ_run (Cert.InprojSampleRefIdeal.defs (F := Ideal)) (onTc (τ := Cert.InprojSampleRefIdeal.τ) (Cert.InprojSampleRefIdeal.main (F := Ideal))) ⟨m', fun _ => 0, g'⟩ (fun r => ∀ c : Dev Cert.InprojSampleRefIdeal.nD,
          r.2.mem ((c.tc : Thread Cert.InprojSampleRefIdeal.nD Cert.InprojSampleRefIdeal.τ).loc Cert.InprojSampleRefIdeal.main_v3) = v0 c
          ∧ r.2.mem ((c.tc : Thread Cert.InprojSampleRefIdeal.nD Cert.InprojSampleRefIdeal.τ).loc Cert.InprojSampleRefIdeal.main_v5) = v1 c
          ∧ r.2.mem ((c.tc : Thread Cert.InprojSampleRefIdeal.nD Cert.InprojSampleRefIdeal.τ).loc Cert.InprojSampleRefIdeal.main_arg0) = m' ((c.tc : Thread Cert.InprojSampleRefIdeal.nD Cert.InprojSampleRefIdeal.τ).loc Cert.InprojSampleRefIdeal.main_arg0)
          ∧ r.2.mem ((c.tc : Thread Cert.InprojSampleRefIdeal.nD Cert.InprojSampleRefIdeal.τ).loc Cert.InprojSampleRefIdeal.main_arg1) = m' ((c.tc : Thread Cert.InprojSampleRefIdeal.nD Cert.InprojSampleRefIdeal.τ).loc Cert.InprojSampleRefIdeal.main_arg1))

def preserves_AttnSample_AttnSampleIdeal : Prop :=
  True

def algebraic_AttnSampleIdeal_AttnSampleRefIdeal_pre_scores_finite [hAttnSampleIdeal : Cert.AttnSampleIdeal.Facts] [hAttnSampleRefIdeal : Cert.AttnSampleRefIdeal.Facts] [hPre_scores_finite : Cert.Pre_scores_finite.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleRefIdeal.nD Cert.AttnSampleRefIdeal.τ Cert.AttnSampleRefIdeal.sig) → Buf (Elt Ideal) ℓ) (g' : Dev Cert.AttnSampleRefIdeal.nD → PrngReg), Pre_AttnSampleIdeal_scores_finite m →
    (∀ c : Dev Cert.AttnSampleIdeal.nD,
      m' ((c.tc : Thread Cert.AttnSampleRefIdeal.nD Cert.AttnSampleRefIdeal.τ).loc Cert.AttnSampleRefIdeal.main_arg0) = m ((c.tc : Thread Cert.AttnSampleIdeal.nD Cert.AttnSampleIdeal.τ).loc Cert.AttnSampleIdeal.main_arg0)
      ∧ m' ((c.tc : Thread Cert.AttnSampleRefIdeal.nD Cert.AttnSampleRefIdeal.τ).loc Cert.AttnSampleRefIdeal.main_arg1) = m ((c.tc : Thread Cert.AttnSampleIdeal.nD Cert.AttnSampleIdeal.τ).loc Cert.AttnSampleIdeal.main_arg1)
      ∧ m' ((c.tc : Thread Cert.AttnSampleRefIdeal.nD Cert.AttnSampleRefIdeal.τ).loc Cert.AttnSampleRefIdeal.main_arg2) = m ((c.tc : Thread Cert.AttnSampleIdeal.nD Cert.AttnSampleIdeal.τ).loc Cert.AttnSampleIdeal.main_arg2)
      ∧ m' ((c.tc : Thread Cert.AttnSampleRefIdeal.nD Cert.AttnSampleRefIdeal.τ).loc Cert.AttnSampleRefIdeal.main_arg3) = m ((c.tc : Thread Cert.AttnSampleIdeal.nD Cert.AttnSampleIdeal.τ).loc Cert.AttnSampleIdeal.main_arg3)) →
    ∃ (v0 : (c : Dev Cert.AttnSampleIdeal.nD) → Buf (Elt Ideal) ((c.tc : Thread Cert.AttnSampleIdeal.nD Cert.AttnSampleIdeal.τ).loc Cert.AttnSampleIdeal.main_v69_0)) (v1 : (c : Dev Cert.AttnSampleIdeal.nD) → Buf (Elt Ideal) ((c.tc : Thread Cert.AttnSampleIdeal.nD Cert.AttnSampleIdeal.τ).loc Cert.AttnSampleIdeal.main_v69_1)) (v2 : (c : Dev Cert.AttnSampleIdeal.nD) → Buf (Elt Ideal) ((c.tc : Thread Cert.AttnSampleIdeal.nD Cert.AttnSampleIdeal.τ).loc Cert.AttnSampleIdeal.main_v69_2)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v69_0) = v0 c
          ∧ r.2.mem ((c.tc : Thread Cert.AttnSampleIdeal.nD Cert.AttnSampleIdeal.τ).loc Cert.AttnSampleIdeal.main_v69_1) = v1 c
          ∧ r.2.mem ((c.tc : Thread Cert.AttnSampleIdeal.nD Cert.AttnSampleIdeal.τ).loc Cert.AttnSampleIdeal.main_v69_2) = v2 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ θ_run (Cert.AttnSampleRefIdeal.defs (F := Ideal)) (onTc (τ := Cert.AttnSampleRefIdeal.τ) (Cert.AttnSampleRefIdeal.main (F := Ideal))) ⟨m', fun _ => 0, g'⟩ (fun r => ∀ c : Dev Cert.AttnSampleRefIdeal.nD,
          r.2.mem ((c.tc : Thread Cert.AttnSampleRefIdeal.nD Cert.AttnSampleRefIdeal.τ).loc Cert.AttnSampleRefIdeal.main_v131) = v0 c
          ∧ r.2.mem ((c.tc : Thread Cert.AttnSampleRefIdeal.nD Cert.AttnSampleRefIdeal.τ).loc Cert.AttnSampleRefIdeal.main_v134) = v1 c
          ∧ r.2.mem ((c.tc : Thread Cert.AttnSampleRefIdeal.nD Cert.AttnSampleRefIdeal.τ).loc Cert.AttnSampleRefIdeal.main_v137) = v2 c
          ∧ r.2.mem ((c.tc : Thread Cert.AttnSampleRefIdeal.nD Cert.AttnSampleRefIdeal.τ).loc Cert.AttnSampleRefIdeal.main_arg0) = m' ((c.tc : Thread Cert.AttnSampleRefIdeal.nD Cert.AttnSampleRefIdeal.τ).loc Cert.AttnSampleRefIdeal.main_arg0)
          ∧ r.2.mem ((c.tc : Thread Cert.AttnSampleRefIdeal.nD Cert.AttnSampleRefIdeal.τ).loc Cert.AttnSampleRefIdeal.main_arg1) = m' ((c.tc : Thread Cert.AttnSampleRefIdeal.nD Cert.AttnSampleRefIdeal.τ).loc Cert.AttnSampleRefIdeal.main_arg1)
          ∧ r.2.mem ((c.tc : Thread Cert.AttnSampleRefIdeal.nD Cert.AttnSampleRefIdeal.τ).loc Cert.AttnSampleRefIdeal.main_arg2) = m' ((c.tc : Thread Cert.AttnSampleRefIdeal.nD Cert.AttnSampleRefIdeal.τ).loc Cert.AttnSampleRefIdeal.main_arg2)
          ∧ r.2.mem ((c.tc : Thread Cert.AttnSampleRefIdeal.nD Cert.AttnSampleRefIdeal.τ).loc Cert.AttnSampleRefIdeal.main_arg3) = m' ((c.tc : Thread Cert.AttnSampleRefIdeal.nD Cert.AttnSampleRefIdeal.τ).loc Cert.AttnSampleRefIdeal.main_arg3))

def preserves_AttnWin_AttnWinIdeal : Prop :=
  True

def algebraic_AttnWinIdeal_AttnWinRefIdeal [hAttnWinIdeal : Cert.AttnWinIdeal.Facts] [hAttnWinRefIdeal : Cert.AttnWinRefIdeal.Facts] : Prop :=
  ∀ (m : (ℓ : Loc Cert.AttnWinIdeal.nD Cert.AttnWinIdeal.τ Cert.AttnWinIdeal.sig) → Buf (Elt Ideal) ℓ) (g : Dev Cert.AttnWinIdeal.nD → PrngReg)
    (m' : (ℓ : Loc Cert.AttnWinRefIdeal.nD Cert.AttnWinRefIdeal.τ Cert.AttnWinRefIdeal.sig) → Buf (Elt Ideal) ℓ) (g' : Dev Cert.AttnWinRefIdeal.nD → PrngReg), Pre_AttnWinIdeal m →
    (∀ c : Dev Cert.AttnWinIdeal.nD,
      m' ((c.tc : Thread Cert.AttnWinRefIdeal.nD Cert.AttnWinRefIdeal.τ).loc Cert.AttnWinRefIdeal.main_arg0) = m ((c.tc : Thread Cert.AttnWinIdeal.nD Cert.AttnWinIdeal.τ).loc Cert.AttnWinIdeal.main_arg0)
      ∧ m' ((c.tc : Thread Cert.AttnWinRefIdeal.nD Cert.AttnWinRefIdeal.τ).loc Cert.AttnWinRefIdeal.main_arg1) = m ((c.tc : Thread Cert.AttnWinIdeal.nD Cert.AttnWinIdeal.τ).loc Cert.AttnWinIdeal.main_arg1)) →
    ∃ (v0 : (c : Dev Cert.AttnWinIdeal.nD) → Buf (Elt Ideal) ((c.tc : Thread Cert.AttnWinIdeal.nD Cert.AttnWinIdeal.τ).loc Cert.AttnWinIdeal.main_v36_1)) (v1 : (c : Dev Cert.AttnWinIdeal.nD) → Buf (Elt Ideal) ((c.tc : Thread Cert.AttnWinIdeal.nD Cert.AttnWinIdeal.τ).loc Cert.AttnWinIdeal.main_v36_2)),
      θ_run (Cert.AttnWinIdeal.defs (F := Ideal)) (onTc (τ := Cert.AttnWinIdeal.τ) (Cert.AttnWinIdeal.main (F := Ideal))) ⟨m, fun _ => 0, g⟩ (fun r => ∀ c : Dev Cert.AttnWinIdeal.nD,
          r.2.mem ((c.tc : Thread Cert.AttnWinIdeal.nD Cert.AttnWinIdeal.τ).loc Cert.AttnWinIdeal.main_v36_1) = v0 c
          ∧ r.2.mem ((c.tc : Thread Cert.AttnWinIdeal.nD Cert.AttnWinIdeal.τ).loc Cert.AttnWinIdeal.main_v36_2) = v1 c
          ∧ r.2.mem ((c.tc : Thread Cert.AttnWinIdeal.nD Cert.AttnWinIdeal.τ).loc Cert.AttnWinIdeal.main_arg0) = m ((c.tc : Thread Cert.AttnWinIdeal.nD Cert.AttnWinIdeal.τ).loc Cert.AttnWinIdeal.main_arg0)
          ∧ r.2.mem ((c.tc : Thread Cert.AttnWinIdeal.nD Cert.AttnWinIdeal.τ).loc Cert.AttnWinIdeal.main_arg1) = m ((c.tc : Thread Cert.AttnWinIdeal.nD Cert.AttnWinIdeal.τ).loc Cert.AttnWinIdeal.main_arg1))
      ∧ θ_run (Cert.AttnWinRefIdeal.defs (F := Ideal)) (onTc (τ := Cert.AttnWinRefIdeal.τ) (Cert.AttnWinRefIdeal.main (F := Ideal))) ⟨m', fun _ => 0, g'⟩ (fun r => ∀ c : Dev Cert.AttnWinRefIdeal.nD,
          r.2.mem ((c.tc : Thread Cert.AttnWinRefIdeal.nD Cert.AttnWinRefIdeal.τ).loc Cert.AttnWinRefIdeal.main_v45) = v0 c
          ∧ r.2.mem ((c.tc : Thread Cert.AttnWinRefIdeal.nD Cert.AttnWinRefIdeal.τ).loc Cert.AttnWinRefIdeal.main_v47) = v1 c
          ∧ r.2.mem ((c.tc : Thread Cert.AttnWinRefIdeal.nD Cert.AttnWinRefIdeal.τ).loc Cert.AttnWinRefIdeal.main_arg0) = m' ((c.tc : Thread Cert.AttnWinRefIdeal.nD Cert.AttnWinRefIdeal.τ).loc Cert.AttnWinRefIdeal.main_arg0)
          ∧ r.2.mem ((c.tc : Thread Cert.AttnWinRefIdeal.nD Cert.AttnWinRefIdeal.τ).loc Cert.AttnWinRefIdeal.main_arg1) = m' ((c.tc : Thread Cert.AttnWinRefIdeal.nD Cert.AttnWinRefIdeal.τ).loc Cert.AttnWinRefIdeal.main_arg1))

def Claim : Prop :=
  ∃ (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hInprojSample : Cert.InprojSample.Facts) (hInprojSampleIdeal : Cert.InprojSampleIdeal.Facts) (hInprojSampleRefIdeal : Cert.InprojSampleRefIdeal.Facts) (hAttnSample : Cert.AttnSample.Facts) (hAttnSampleIdeal : Cert.AttnSampleIdeal.Facts) (hAttnSampleRefIdeal : Cert.AttnSampleRefIdeal.Facts) (hAttnWin : Cert.AttnWin.Facts) (hAttnWinIdeal : Cert.AttnWinIdeal.Facts) (hAttnWinRefIdeal : Cert.AttnWinRefIdeal.Facts) (hPre_scores_finite : Cert.Pre_scores_finite.Facts),
    quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_InprojSample (hInprojSample := hInprojSample)
    ∧ quiescent_InprojSampleIdeal (hInprojSampleIdeal := hInprojSampleIdeal)
    ∧ quiescent_InprojSampleRefIdeal (hInprojSampleRefIdeal := hInprojSampleRefIdeal)
    ∧ quiescent_AttnSample (hAttnSample := hAttnSample)
    ∧ quiescent_AttnSampleIdeal (hAttnSampleIdeal := hAttnSampleIdeal)
    ∧ quiescent_AttnSampleIdeal_pre_scores_finite (hAttnSampleIdeal := hAttnSampleIdeal) (hPre_scores_finite := hPre_scores_finite)
    ∧ quiescent_AttnSampleRefIdeal (hAttnSampleRefIdeal := hAttnSampleRefIdeal)
    ∧ quiescent_AttnSampleRefIdeal_pre_scores_finite (hAttnSampleRefIdeal := hAttnSampleRefIdeal) (hPre_scores_finite := hPre_scores_finite)
    ∧ quiescent_AttnWin (hAttnWin := hAttnWin)
    ∧ quiescent_AttnWinIdeal (hAttnWinIdeal := hAttnWinIdeal)
    ∧ quiescent_AttnWinRefIdeal (hAttnWinRefIdeal := hAttnWinRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_InprojSample_InprojSampleIdeal
    ∧ algebraic_InprojSampleIdeal_InprojSampleRefIdeal (hInprojSampleIdeal := hInprojSampleIdeal) (hInprojSampleRefIdeal := hInprojSampleRefIdeal)
    ∧ preserves_AttnSample_AttnSampleIdeal
    ∧ algebraic_AttnSampleIdeal_AttnSampleRefIdeal_pre_scores_finite (hAttnSampleIdeal := hAttnSampleIdeal) (hAttnSampleRefIdeal := hAttnSampleRefIdeal) (hPre_scores_finite := hPre_scores_finite)
    ∧ preserves_AttnWin_AttnWinIdeal
    ∧ algebraic_AttnWinIdeal_AttnWinRefIdeal (hAttnWinIdeal := hAttnWinIdeal) (hAttnWinRefIdeal := hAttnWinRefIdeal)
-- ==== Pre_scores_finite.lean ====
abbrev S128x5120 : Shape := ⟨2, ![128, 5120]⟩
abbrev S128x128x4x64 : Shape := ⟨4, ![128, 128, 4, 64]⟩
abbrev S16 : Shape := ⟨1, ![16]⟩
abbrev S128x1280 : Shape := ⟨2, ![128, 1280]⟩
abbrev S_ : Shape := ⟨0, ![]⟩

class Facts : Prop where
  slices_S128x5120_S128x1280_0_0 : S128x5120.Slices ![0, 0] S128x1280
  bitsLt_bf16_f32 : FTy.bits .bf16 < FTy.bits .f32
  bcast_S_S128x1280 : S_.BroadcastsInDim S128x1280 (![] : Fin 0 → Fin S128x1280.rank)
  bcast_S_S128x128x4x64 : S_.BroadcastsInDim S128x128x4x64 (![] : Fin 0 → Fin S128x128x4x64.rank)
  bcast_S_S16 : S_.BroadcastsInDim S16 (![] : Fin 0 → Fin S16.rank)

variable [Facts]

def fn {F : FTy → Type} [FloatOps F] (main_arg0 : FVec F S128x5120 .bf16) (main_arg1 : FVec F S128x128x4x64 .f32) (main_arg2 : FVec F S128x128x4x64 .f32) (main_arg3 : FVec F S16 .f32) : IVec S128x1280 1 × IVec S128x128x4x64 1 × IVec S16 1 :=
  let main_v0 : FVec F S128x1280 .bf16 := (extractStridedSlice S128x1280 ![0, 0] · slices_S128x5120_S128x1280_0_0) main_arg0
  let main_v1 : FVec F S128x1280 .f32 := (extf .f32 · bitsLt_bf16_f32) main_v0
  let main_v2 : FVec F S128x1280 .f32 := Host.absf main_v1
  let main_cst : FVec F S_ .f32 := constant S_ .f32 0x7F800000#32
  let main_v3 : FVec F S128x1280 .f32 := broadcastInDim S128x1280 ![] bcast_S_S128x1280 main_cst
  let main_v4 : IVec S128x1280 1 := cmpf .olt main_v2 main_v3
  let main_v5 : FVec F S128x128x4x64 .f32 := Host.absf main_arg1
  let main_cst_0 : FVec F S_ .f32 := constant S_ .f32 0x7F800000#32
  let main_v6 : FVec F S128x128x4x64 .f32 := broadcastInDim S128x128x4x64 ![] bcast_S_S128x128x4x64 main_cst_0
  let main_v7 : IVec S128x128x4x64 1 := cmpf .olt main_v5 main_v6
  let main_v8 : FVec F S16 .f32 := Host.absf main_arg3
  let main_cst_1 : FVec F S_ .f32 := constant S_ .f32 0x7F800000#32
  let main_v9 : FVec F S16 .f32 := broadcastInDim S16 ![] bcast_S_S16 main_cst_1
  let main_v10 : IVec S16 1 := cmpf .olt main_v8 main_v9
  (main_v4, main_v7, main_v10)
-- ==== Merge.lean ====
abbrev S16384x2048 : Shape := ⟨2, ![16384, 2048]⟩
abbrev S16384x1024 : Shape := ⟨2, ![16384, 1024]⟩
abbrev S2048x8992 : Shape := ⟨2, ![2048, 8992]⟩
abbrev S1024x2048 : Shape := ⟨2, ![1024, 2048]⟩
abbrev S2048x2048 : Shape := ⟨2, ![2048, 2048]⟩
abbrev S2048 : Shape := ⟨1, ![2048]⟩
abbrev S8992x2048 : Shape := ⟨2, ![8992, 2048]⟩
abbrev S1x2048 : Shape := ⟨2, ![1, 2048]⟩
abbrev S512x2048 : Shape := ⟨2, ![512, 2048]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x8992, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S8992x2048, .f32⟩
  | .hbm, ⟨10, _⟩ => ⟨S8992x2048, .bf16⟩
  | .hbm, ⟨11, _⟩ => ⟨S1024x2048, .bf16⟩
  | .hbm, ⟨12, _⟩ => ⟨S1024x2048, .bf16⟩
  | .hbm, ⟨13, _⟩ => ⟨S2048x2048, .bf16⟩
  | .hbm, ⟨14, _⟩ => ⟨S1x2048, .f32⟩
  | .hbm, ⟨15, _⟩ => ⟨S1x2048, .f32⟩
  | .hbm, ⟨16, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S512x2048, .bf16⟩
  | .local _ .vmem, ⟨15, _⟩ => ⟨S512x2048, .bf16⟩
  | .local _ .vmem, ⟨16, _⟩ => ⟨S1x2048, .f32⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let c4896_i32 : BitVec 32 := 4896#32
  let arg1 : BitVec 32 := BitVec.ofNat 32 (i 1).val
  let c512_i32 : BitVec 32 := 512#32
  let v0 : BitVec 32 := Scalar.muli arg1 c512_i32
  let v1 : BitVec 32 := Scalar.addi c4896_i32 v0
  v1
def k0_mult2 (i : grid0.Coords) : BitVec 32 :=
  let c6944_i32 : BitVec 32 := 6944#32
  let arg1 : BitVec 32 := BitVec.ofNat 32 (i 1).val
  let c512_i32 : BitVec 32 := 512#32
  let v0 : BitVec 32 := Scalar.muli arg1 c512_i32
  let v1 : BitVec 32 := Scalar.addi c6944_i32 v0
  v1
def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_30 : BitVec 32 := 0#32
  let v46 : BitVec 1 := Scalar.cmpi .ne v45 c0_i32_30
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4896_i32 : BitVec 32 := 4896#32
  let v1 : BitVec 32 := Scalar.addi c4896_i32 v0
  let v2 : BitVec 32 := v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c6944_i32 : BitVec 32 := 6944#32
  let v1 : BitVec 32 := Scalar.addi c6944_i32 v0
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MergeRefIdeal.lean ====
abbrev S16384x2048 : Shape := ⟨2, ![16384, 2048]⟩
abbrev S16384x1024 : Shape := ⟨2, ![16384, 1024]⟩
abbrev S2048x8992 : Shape := ⟨2, ![2048, 8992]⟩
abbrev S1024x2048 : Shape := ⟨2, ![1024, 2048]⟩
abbrev S2048x2048 : Shape := ⟨2, ![2048, 2048]⟩
abbrev S2048 : Shape := ⟨1, ![2048]⟩
abbrev S2048x4096 : Shape := ⟨2, ![2048, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x8992, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048x4096, .f32⟩
  | .hbm, ⟨10, _⟩ => ⟨S16384x4096, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x1024, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x1024, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x2048, .f32⟩
  | .hbm, ⟨63, _⟩ => ⟨S16384x2048, .f32⟩
  | .hbm, ⟨64, _⟩ => ⟨S1x2048, .f32⟩
  | .hbm, ⟨65, _⟩ => ⟨S16384x2048, .f32⟩
  | .hbm, ⟨66, _⟩ => ⟨S16384x2048, .f32⟩
  | .hbm, ⟨67, _⟩ => ⟨S1x2048, .f32⟩
  | .hbm, ⟨68, _⟩ => ⟨S16384x2048, .f32⟩
  | .hbm, ⟨69, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Ffn.lean ====
abbrev S16384x2048 : Shape := ⟨2, ![16384, 2048]⟩
abbrev S2048x8192 : Shape := ⟨2, ![2048, 8192]⟩
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048x8192 : Shape := ⟨2, ![2048, 8192]⟩
abbrev S8192x2048 : Shape := ⟨2, ![8192, 2048]⟩
abbrev S2048 : Shape := ⟨1, ![2048]⟩
abbrev S16384x8192 : Shape := ⟨2, ![16384, 8192]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S16384x8192, .f32⟩
  | .hbm, ⟨6, _⟩ => ⟨S_, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Inproj.lean ====
abbrev S2x8192x2048 : Shape := ⟨3, ![2, 8192, 2048]⟩
abbrev S2048x8992 : Shape := ⟨2, ![2048, 8992]⟩
abbrev S16384x2048 : Shape := ⟨2, ![16384, 2048]⟩
abbrev S8992x2048 : Shape := ⟨2, ![8992, 2048]⟩
abbrev S16384x5120 : Shape := ⟨2, ![16384, 5120]⟩
abbrev S1024x2048 : Shape := ⟨2, ![1024, 2048]⟩
abbrev S1280x2048 : Shape := ⟨2, ![1280, 2048]⟩
abbrev S1024x1280 : Shape := ⟨2, ![1024, 1280]⟩
abbrev S2x8192x5120 : Shape := ⟨3, ![2, 8192, 5120]⟩
abbrev S2x1x5120 : Shape := ⟨3, ![2, 1, 5120]⟩
abbrev S2x5120 : Shape := ⟨2, ![2, 5120]⟩
abbrev S2x3360 : Shape := ⟨2, ![2, 3360]⟩

abbrev nBuf : Space → Nat
  | .hbm => 11
  | .vmem => 7
  | .smem => 0
  | _ => 0

abbrev bufTy : (tb : Table) → Fin (tcTables nBuf tb) → BufTy
  | .hbm, ⟨0, _⟩ => ⟨S2x8192x2048, .f32⟩
  | .hbm, ⟨1, _⟩ => ⟨S2048x8992, .f32⟩
  | .hbm, ⟨2, _⟩ => ⟨S16384x2048, .f32⟩
  | .hbm, ⟨3, _⟩ => ⟨S8992x2048, .f32⟩
  | .hbm, ⟨4, _⟩ => ⟨S8992x2048, .bf16⟩
  | .hbm, ⟨5, _⟩ => ⟨S16384x5120, .bf16⟩
  | .hbm, ⟨6, _⟩ => ⟨S2x8192x5120, .bf16⟩
  | .hbm, ⟨7, _⟩ => ⟨S2x1x5120, .bf16⟩
  | .hbm, ⟨8, _⟩ => ⟨S2x5120, .bf16⟩
  | .hbm, ⟨9, _⟩ => ⟨S2x3360, .bf16⟩
  | .hbm, ⟨10, _⟩ => ⟨S2x3360, .f32⟩
  | .local _ .vmem, ⟨0, _⟩ => ⟨S1024x2048, .f32⟩
  | .local _ .vmem, ⟨1, _⟩ => ⟨S1024x2048, .f32⟩
  | .local _ .vmem, ⟨2, _⟩ => ⟨S1280x2048, .bf16⟩
  | .local _ .vmem, ⟨3, _⟩ => ⟨S1280x2048, .bf16⟩
  | .local _ .vmem, ⟨4, _⟩ => ⟨S1024x1280, .bf16⟩
  | .local _ .vmem, ⟨5, _⟩ => ⟨S1024x1280, .bf16⟩
  | .local _ .vmem, ⟨6, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojRefIdeal.lean ====
abbrev S2x8192x2048 : Shape := ⟨3, ![2, 8192, 2048]⟩
abbrev S2048x8992 : Shape := ⟨2, ![2048, 8992]⟩
abbrev S2x8192x8992 : Shape := ⟨3, ![2, 8192, 8992]⟩
abbrev S16384x8992 : Shape := ⟨2, ![16384, 8992]⟩
abbrev S16384x5120 : Shape := ⟨2, ![16384, 5120]⟩
abbrev S2x1x3360 : Shape := ⟨3, ![2, 1, 3360]⟩
abbrev S2x3360 : Shape := ⟨2, ![2, 3360]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x8992, .f32⟩
  | .hbm, ⟨2, _⟩ => ⟨S2x8192x8992, .f32⟩
  | .hbm, ⟨3, _⟩ => ⟨S16384x8992, .f32⟩
  | .hbm, ⟨4, _⟩ => ⟨S16384x5120, .f32⟩
  | .hbm, ⟨5, _⟩ => ⟨S16384x5120, .bf16⟩
  | .hbm, ⟨6, _⟩ => ⟨S2x1x3360, .f32⟩
  | .hbm, ⟨7, _⟩ => ⟨S2x3360, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InprojSample.lean ====
abbrev S128x1x2048 : Shape := ⟨3, ![128, 1, 2048]⟩
abbrev S2048x8992 : Shape := ⟨2, ![2048, 8992]⟩
abbrev S128x2048 : Shape := ⟨2, ![128, 2048]⟩
abbrev S8992x2048 : Shape := ⟨2, ![8992, 2048]⟩
abbrev S128x5120 : Shape := ⟨2, ![128, 5120]⟩
abbrev S1280x2048 : Shape := ⟨2, ![1280, 2048]⟩
abbrev S128x1280 : Shape := ⟨2, ![128, 1280]⟩
abbrev S128x3360 : Shape := ⟨2, ![128, 3360]⟩

abbrev nBuf : Space → Nat
  | .hbm => 8
  | .vmem => 6
  | .smem => 0
  | _ => 0

abbrev bufTy : (tb : Table) → Fin (tcTables nBuf tb) → BufTy
  | .hbm, ⟨0, _⟩ => ⟨S128x1x2048, .f32⟩
  | .hbm, ⟨1, _⟩ => ⟨S2048x8992, .f32⟩
  | .hbm, ⟨2, _⟩ => ⟨S128x2048, .f32⟩
  | .hbm, ⟨3, _⟩ => ⟨S8992x2048, .f32⟩
  | .hbm, ⟨4, _⟩ => ⟨S8992x2048, .bf16⟩
  | .hbm, ⟨5, _⟩ => ⟨S128x5120, .bf16⟩
  | .hbm, ⟨6, _⟩ => ⟨S128x3360, .bf16⟩
  | .hbm, ⟨7, _⟩ => ⟨S128x3360, .f32⟩
  | .local _ .vmem, ⟨0, _⟩ => ⟨S128x2048, .f32⟩
  | .local _ .vmem, ⟨1, _⟩ => ⟨S1280x2048, .bf16⟩
  | .local _ .vmem, ⟨2, _⟩ => ⟨S1280x2048, .bf16⟩
  | .local _ .vmem, ⟨3, _⟩ => ⟨S128x1280, .bf16⟩
  | .local _ .vmem, ⟨4, _⟩ => ⟨S128x1280, .bf16⟩
  | .local _ .vmem, ⟨5, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojSampleRefIdeal.lean ====
abbrev S128x1x2048 : Shape := ⟨3, ![128, 1, 2048]⟩
abbrev S2048x8992 : Shape := ⟨2, ![2048, 8992]⟩
abbrev S128x1x8992 : Shape := ⟨3, ![128, 1, 8992]⟩
abbrev S128x8992 : Shape := ⟨2, ![128, 8992]⟩
abbrev S128x5120 : Shape := ⟨2, ![128, 5120]⟩
abbrev S128x1x3360 : Shape := ⟨3, ![128, 1, 3360]⟩
abbrev S128x3360 : Shape := ⟨2, ![128, 3360]⟩

abbrev nBuf : Space → Nat
  | .hbm => 8
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048x8992, .f32⟩
  | .hbm, ⟨2, _⟩ => ⟨S128x1x8992, .f32⟩
  | .hbm, ⟨3, _⟩ => ⟨S128x8992, .f32⟩
  | .hbm, ⟨4, _⟩ => ⟨S128x5120, .f32⟩
  | .hbm, ⟨5, _⟩ => ⟨S128x5120, .bf16⟩
  | .hbm, ⟨6, _⟩ => ⟨S128x1x3360, .f32⟩
  | .hbm, ⟨7, _⟩ => ⟨S128x3360, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnSample.lean ====
abbrev S128x5120 : Shape := ⟨2, ![128, 5120]⟩
abbrev S128x128x4x64 : Shape := ⟨4, ![128, 128, 4, 64]⟩
abbrev S16 : Shape := ⟨1, ![16]⟩
abbrev S128x1024 : Shape := ⟨2, ![128, 1024]⟩
abbrev S128x4x4x64 : Shape := ⟨4, ![128, 4, 4, 64]⟩
abbrev S4x4 : Shape := ⟨2, ![4, 4]⟩
abbrev S16x1 : Shape := ⟨2, ![16, 1]⟩
abbrev S16x128 : Shape := ⟨2, ![16, 128]⟩
abbrev S128x512 : Shape := ⟨2, ![128, 512]⟩
abbrev S512x128 : Shape := ⟨2, ![512, 128]⟩
abbrev S128x4x64x128 : Shape := ⟨4, ![128, 4, 64, 128]⟩
abbrev S128x256x128 : Shape := ⟨3, ![128, 256, 128]⟩
abbrev S_ : Shape := ⟨0, ![]⟩
abbrev S1 : Shape := ⟨1, ![1]⟩
abbrev S8 : Shape := ⟨1, ![8]⟩
abbrev S1x1 : Shape := ⟨2, ![1, 1]⟩
abbrev S1x8 : Shape := ⟨2, ![1, 8]⟩
abbrev S1x48 : Shape := ⟨2, ![1, 48]⟩
abbrev S1x64 : Shape := ⟨2, ![1, 64]⟩
abbrev S1x56 : Shape := ⟨2, ![1, 56]⟩
abbrev S1x1x1x64 : Shape := ⟨4, ![1, 1, 1, 64]⟩
abbrev S1x1x2x64 : Shape := ⟨4, ![1, 1, 2, 64]⟩
abbrev S1x128 : Shape := ⟨2, ![1, 128]⟩
abbrev S8x128 : Shape := ⟨2, ![8, 128]⟩
abbrev S1x1x1x128 : Shape := ⟨4, ![1, 1, 1, 128]⟩
abbrev S1x1x2x128 : Shape := ⟨4, ![1, 1, 2, 128]⟩
abbrev S1x256 : Shape := ⟨2, ![1, 256]⟩
abbrev S256x1 : Shape := ⟨2, ![256, 1]⟩
abbrev S256x128 : Shape := ⟨2, ![256, 128]⟩
abbrev S16x1024 : Shape := ⟨2, ![16, 1024]⟩
abbrev S16x256x128 : Shape := ⟨3, ![16, 256, 128]⟩
abbrev S16x256 : Shape := ⟨2, ![16, 256]⟩
abbrev S256 : Shape := ⟨1, ![256]⟩
abbrev S1x256x128 : Shape := ⟨3, ![1, 256, 128]⟩
abbrev S1x1024 : Shape := ⟨2, ![1, 1024]⟩

abbrev nBuf : Space → Nat
  | .hbm => 85
  | .vmem => 20
  | .smem => 0
  | _ => 0

abbrev bufTy : (tb : Table) → Fin (tcTables nBuf tb) → BufTy
  | .hbm, ⟨0, _⟩ => ⟨S128x5120, .bf16⟩
  | .hbm, ⟨1, _⟩ => ⟨S128x128x4x64, .f32⟩
  | .hbm, ⟨2, _⟩ => ⟨S128x128x4x64, .f32⟩
  | .hbm, ⟨3, _⟩ => ⟨S16, .f32⟩
  | .hbm, ⟨4, _⟩ => ⟨S128x1024, .bf16⟩
  | .hbm, ⟨5, _⟩ => ⟨S128x1024, .f32⟩
  | .hbm, ⟨6, _⟩ => ⟨S128x4x4x64, .f32⟩
  | .hbm, ⟨7, _⟩ => ⟨S128x4x4x64, .f32⟩
  | .hbm, ⟨8, _⟩ => ⟨S128x1024, .f32⟩
  | .hbm, ⟨9, _⟩ => ⟨S4x4, .f32⟩
  | .hbm, ⟨10, _⟩ => ⟨S4x4, .f32⟩
  | .hbm, ⟨11, _⟩ => ⟨S16x1, .f32⟩
  | .hbm, ⟨12, _⟩ => ⟨S16x128, .f32⟩
  | .hbm, ⟨13, _⟩ => ⟨S128x512, .bf16⟩
  | .hbm, ⟨14, _⟩ => ⟨S512x128, .bf16⟩
  | .hbm, ⟨15, _⟩ => ⟨S512x128, .f32⟩
  | .hbm, ⟨16, _⟩ => ⟨S128x4x64x128, .f32⟩
  | .hbm, ⟨17, _⟩ => ⟨S128x256x128, .f32⟩
  | .hbm, ⟨18, _⟩ => ⟨S128x4x64x128, .f32⟩
  | .hbm, ⟨19, _⟩ => ⟨S128x256x128, .f32⟩
  | .hbm, ⟨20, _⟩ => ⟨S_, .i32⟩
  | .hbm, ⟨21, _⟩ => ⟨S1, .i32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S1, .f32⟩
  | .hbm, ⟨37, _⟩ => ⟨S1x1, .f32⟩
  | .hbm, ⟨38, _⟩ => ⟨S1x8, .f32⟩
  | .hbm, ⟨39, _⟩ => ⟨S1x8, .f32⟩
  | .hbm, ⟨40, _⟩ => ⟨S1x8, .f32⟩
  | .hbm, ⟨41, _⟩ => ⟨S1x8, .f32⟩
  | .hbm, ⟨42, _⟩ => ⟨S1x8, .f32⟩
  | .hbm, ⟨43, _⟩ => ⟨S_, .f32⟩
  | .hbm, ⟨44, _⟩ => ⟨S1x48, .f32⟩
  | .hbm, ⟨45, _⟩ => ⟨S1x64, .f32⟩
  | .hbm, ⟨46, _⟩ => ⟨S1x8, .f32⟩
  | .hbm, ⟨47, _⟩ => ⟨S_, .f32⟩
  | .hbm, ⟨48, _⟩ => ⟨S1x56, .f32⟩
  | .hbm, ⟨49, _⟩ => ⟨S1x64, .f32⟩
  | .hbm, ⟨50, _⟩ => ⟨S_, .f32⟩
  | .hbm, ⟨51, _⟩ => ⟨S1x8, .f32⟩
  | .hbm, ⟨52, _⟩ => ⟨S_, .f32⟩
  | .hbm, ⟨53, _⟩ => ⟨S1x48, .f32⟩
  | .hbm, ⟨54, _⟩ => ⟨S1x64, .f32⟩
  | .hbm, ⟨55, _⟩ => ⟨S1x1x1x64, .f32⟩
  | .hbm, ⟨56, _⟩ => ⟨S1x1x2x64, .f32⟩
  | .hbm, ⟨57, _⟩ => ⟨S1x128, .f32⟩
  | .hbm, ⟨58, _⟩ => ⟨S1x1x1x64, .f32⟩
  | .hbm, ⟨59, _⟩ => ⟨S1x1x2x64, .f32⟩
  | .hbm, ⟨60, _⟩ => ⟨S1x128, .f32⟩
  | .hbm, ⟨61, _⟩ => ⟨S1x1x1x64, .f32⟩
  | .hbm, ⟨62, _⟩ => ⟨S1x1x2x64, .f32⟩
  | .hbm, ⟨63, _⟩ => ⟨S1x128, .f32⟩
  | .hbm, ⟨64, _⟩ => ⟨S8x128, .f32⟩
  | .hbm, ⟨65, _⟩ => ⟨S8x128, .f32⟩
  | .hbm, ⟨66, _⟩ => ⟨S8x128, .f32⟩
  | .hbm, ⟨67, _⟩ => ⟨S1x1x1x128, .f32⟩
  | .hbm, ⟨68, _⟩ => ⟨S1x1x2x128, .f32⟩
  | .hbm, ⟨69, _⟩ => ⟨S1x256, .f32⟩
  | .hbm, ⟨70, _⟩ => ⟨S256x1, .f32⟩
  | .hbm, ⟨71, _⟩ => ⟨S256x128, .f32⟩
  | .hbm, ⟨72, _⟩ => ⟨S1x1x1x128, .f32⟩
  | .hbm, ⟨73, _⟩ => ⟨S1x1x2x128, .f32⟩
  | .hbm, ⟨74, _⟩ => ⟨S1x256, .f32⟩
  | .hbm, ⟨75, _⟩ => ⟨S256x1, .f32⟩
  | .hbm, ⟨76, _⟩ => ⟨S256x128, .f32⟩
  | .hbm, ⟨77, _⟩ => ⟨S1x1x1x128, .f32⟩
  | .hbm, ⟨78, _⟩ => ⟨S1x1x2x128, .f32⟩
  | .hbm, ⟨79, _⟩ => ⟨S1x256, .f32⟩
  | .hbm, ⟨80, _⟩ => ⟨S256x1, .f32⟩
  | .hbm, ⟨81, _⟩ => ⟨S256x128, .f32⟩
  | .hbm, ⟨82, _⟩ => ⟨S128x1024, .bf16⟩
  | .hbm, ⟨83, _⟩ => ⟨S128x256x128, .f32⟩
  | .hbm, ⟨84, _⟩ => ⟨S128x256x128, .f32⟩
  | .local _ .vmem, ⟨0, _⟩ => ⟨S16x1024, .f32⟩
  | .local _ .vmem, ⟨1, _⟩ => ⟨S16x1024, .f32⟩
  | .local _ .vmem, ⟨2, _⟩ => ⟨S512x128, .f32⟩
  | .local _ .vmem, ⟨3, _⟩ => ⟨S16x256x128, .f32⟩
  | .local _ .vmem, ⟨4, _⟩ => ⟨S16x256x128, .f32⟩
  | .local _ .vmem, ⟨5, _⟩ => ⟨S16x256x128, .f32⟩
  | .local _ .vmem, ⟨6, _⟩ => ⟨S16x256x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S16x128, .f32⟩
  | .local _ .vmem, ⟨14, _⟩ => ⟨S16x1024, .bf16⟩
  | .local _ .vmem, ⟨15, _⟩ => ⟨S16x1024, .bf16⟩
  | .local _ .vmem, ⟨16, _⟩ => ⟨S16x256x128, .f32⟩
  | .local _ .vmem, ⟨17, _⟩ => ⟨S16x256x128, .f32⟩
  | .local _ .vmem, ⟨18, _⟩ => ⟨S16x256x128, .f32⟩
  | .local _ .vmem, ⟨19, _⟩ => ⟨S16x256x128, .f32⟩
  | _, _ => ⟨S128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69_0 : Ref sig .tc := ⟨.hbm, 82, rfl⟩
abbrev main_v69_1 : Ref sig .tc := ⟨.hbm, 83, rfl⟩
abbrev main_v69_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AttnSampleRefIdeal.lean ====
abbrev S128x5120 : Shape := ⟨2, ![128, 5120]⟩
abbrev S128x128x4x64 : Shape := ⟨4, ![128, 128, 4, 64]⟩
abbrev S16 : Shape := ⟨1, ![16]⟩
abbrev S128x1536 : Shape := ⟨2, ![128, 1536]⟩
abbrev S128x1024 : Shape := ⟨2, ![128, 1024]⟩
abbrev S128x256 : Shape := ⟨2, ![128, 256]⟩
abbrev S1 : Shape := ⟨1, ![1]⟩
abbrev S_ : Shape := ⟨0, ![]⟩
abbrev S128x1x16x64 : Shape := ⟨4, ![128, 1, 16, 64]⟩
abbrev S8 : Shape := ⟨1, ![8]⟩
abbrev S1x1 : Shape := ⟨2, ![1, 1]⟩
abbrev S1x8 : Shape := ⟨2, ![1, 8]⟩
abbrev S1x1x8 : Shape := ⟨3, ![1, 1, 8]⟩
abbrev S128x1x16x8 : Shape := ⟨4, ![128, 1, 16, 8]⟩
abbrev S1x1x1x8 : Shape := ⟨4, ![1, 1, 1, 8]⟩
abbrev S128x1x16x48 : Shape := ⟨4, ![128, 1, 16, 48]⟩
abbrev S128x1x4x64 : Shape := ⟨4, ![128, 1, 4, 64]⟩
abbrev S128x1x4x8 : Shape := ⟨4, ![128, 1, 4, 8]⟩
abbrev S128x1x4x48 : Shape := ⟨4, ![128, 1, 4, 48]⟩
abbrev S128x129x4x64 : Shape := ⟨4, ![128, 129, 4, 64]⟩
abbrev S128 : Shape := ⟨1, ![128]⟩
abbrev S129 : Shape := ⟨1, ![129]⟩
abbrev S128x1x4x4x64 : Shape := ⟨5, ![128, 1, 4, 4, 64]⟩
abbrev S128x4x129x1x4 : Shape := ⟨5, ![128, 4, 129, 1, 4]⟩
abbrev S128x4x4x1x129 : Shape := ⟨5, ![128, 4, 4, 1, 129]⟩
abbrev S1x129 : Shape := ⟨2, ![1, 129]⟩
abbrev S1x1x1x129 : Shape := ⟨4, ![1, 1, 1, 129]⟩
abbrev S4x4x1x1 : Shape := ⟨4, ![4, 4, 1, 1]⟩
abbrev S128x4x4x1x1 : Shape := ⟨5, ![128, 4, 4, 1, 1]⟩
abbrev S128x4x4x1x130 : Shape := ⟨5, ![128, 4, 4, 1, 130]⟩
abbrev S128x4x4x1 : Shape := ⟨4, ![128, 4, 4, 1]⟩
abbrev S128x4x64x4x1 : Shape := ⟨5, ![128, 4, 64, 4, 1]⟩
abbrev S128x4x4x64 : Shape := ⟨4, ![128, 4, 4, 64]⟩
abbrev S128x4x64x128 : Shape := ⟨4, ![128, 4, 64, 128]⟩
abbrev S128x256x128 : Shape := ⟨3, ![128, 256, 128]⟩

abbrev nBuf : Space → Nat
  | .hbm => 163
  | .vmem => 0
  | .smem => 0
  | _ => 0

abbrev hbmTy0_0 (i : Nat) : BufTy := match i % 128 with
  | 0 => ⟨S128x5120, .bf16⟩
  | 1 => ⟨S128x128x4x64, .f32⟩
  | 2 => ⟨S128x128x4x64, .f32⟩
  | 3 => ⟨S16, .f32⟩
  | 4 => ⟨S128x1536, .bf16⟩
  | 5 => ⟨S128x1536, .f32⟩
  | 6 => ⟨S128x1024, .f32⟩
  | 7 => ⟨S128x256, .f32⟩
  | 8 => ⟨S128x256, .f32⟩
  | 9 => ⟨S1, .i32⟩
  | 10 => ⟨S_, .i32⟩
  | 11 => ⟨S1, .i32⟩
  | 12 => ⟨S1, .i32⟩
  | 13 => ⟨S128x1x16x64, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S1, .f32⟩
  | 29 => ⟨S1x1, .f32⟩
  | 30 => ⟨S1x8, .f32⟩
  | 31 => ⟨S1x8, .f32⟩
  | 32 => ⟨S1x8, .f32⟩
  | 33 => ⟨S1x8, .f32⟩
  | 34 => ⟨S1x1x8, .f32⟩
  | 35 => ⟨S1x8, .f32⟩
  | 36 => ⟨S1x1x8, .f32⟩
  | 37 => ⟨S128x1x16x8, .f32⟩
  | 38 => ⟨S128x1x16x8, .f32⟩
  | 39 => ⟨S1x1x1x8, .f32⟩
  | 40 => ⟨S128x1x16x8, .f32⟩
  | 41 => ⟨S128x1x16x8, .f32⟩
  | 42 => ⟨S1x1x1x8, .f32⟩
  | 43 => ⟨S128x1x16x8, .f32⟩
  | 44 => ⟨S128x1x16x8, .f32⟩
  | 45 => ⟨S128x1x16x8, .f32⟩
  | 46 => ⟨S1x1x1x8, .f32⟩
  | 47 => ⟨S128x1x16x8, .f32⟩
  | 48 => ⟨S128x1x16x8, .f32⟩
  | 49 => ⟨S1x1x1x8, .f32⟩
  | 50 => ⟨S128x1x16x8, .f32⟩
  | 51 => ⟨S128x1x16x8, .f32⟩
  | 52 => ⟨S128x1x16x8, .f32⟩
  | 53 => ⟨S128x1x16x48, .f32⟩
  | 54 => ⟨S128x1x16x64, .f32⟩
  | 55 => ⟨S128x1x4x64, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S1, .f32⟩
  | 71 => ⟨S1x1, .f32⟩
  | 72 => ⟨S1x8, .f32⟩
  | 73 => ⟨S1x8, .f32⟩
  | 74 => ⟨S1x8, .f32⟩
  | 75 => ⟨S1x8, .f32⟩
  | 76 => ⟨S1x1x8, .f32⟩
  | 77 => ⟨S1x8, .f32⟩
  | 78 => ⟨S1x1x8, .f32⟩
  | 79 => ⟨S128x1x4x8, .f32⟩
  | 80 => ⟨S128x1x4x8, .f32⟩
  | 81 => ⟨S1x1x1x8, .f32⟩
  | 82 => ⟨S128x1x4x8, .f32⟩
  | 83 => ⟨S128x1x4x8, .f32⟩
  | 84 => ⟨S1x1x1x8, .f32⟩
  | 85 => ⟨S128x1x4x8, .f32⟩
  | 86 => ⟨S128x1x4x8, .f32⟩
  | 87 => ⟨S128x1x4x8, .f32⟩
  | 88 => ⟨S1x1x1x8, .f32⟩
  | 89 => ⟨S128x1x4x8, .f32⟩
  | 90 => ⟨S128x1x4x8, .f32⟩
  | 91 => ⟨S1x1x1x8, .f32⟩
  | 92 => ⟨S128x1x4x8, .f32⟩
  | 93 => ⟨S128x1x4x8, .f32⟩
  | 94 => ⟨S128x1x4x8, .f32⟩
  | 95 => ⟨S128x1x4x48, .f32⟩
  | 96 => ⟨S128x1x4x64, .f32⟩
  | 97 => ⟨S128x129x4x64, .f32⟩
  | 98 => ⟨S128x1x4x64, .f32⟩
  | 99 => ⟨S128x129x4x64, .f32⟩
  | 100 => ⟨S128, .i32⟩
  | 101 => ⟨S_, .i32⟩
  | 102 => ⟨S128, .i32⟩
  | 103 => ⟨S128, .i32⟩
  | 104 => ⟨S129, .i32⟩
  | 105 => ⟨S128x1x4x4x64, .f32⟩
  | 106 => ⟨S128x4x129x1x4, .f32⟩
  | 107 => ⟨S128x4x4x1x129, .f32⟩
  | 108 => ⟨S_, .f32⟩
  | 109 => ⟨S128x4x4x1x129, .f32⟩
  | 110 => ⟨S128x4x4x1x129, .f32⟩
  | 111 => ⟨S1x1, .i32⟩
  | 112 => ⟨S1x129, .i32⟩
  | 113 => ⟨S1x129, .i32⟩
  | 114 => ⟨S1x129, .i32⟩
  | 115 => ⟨S_, .i32⟩
  | 116 => ⟨S1x129, .i32⟩
  | 117 => ⟨S1x129, .i1⟩
  | 118 => ⟨S_, .i32⟩
  | 119 => ⟨S1x129, .i32⟩
  | 120 => ⟨S1x129, .i1⟩
  | 121 => ⟨S1x129, .i1⟩
  | 122 => ⟨S1x129, .i32⟩
  | 123 => ⟨S_, .i32⟩
  | 124 => ⟨S1x129, .i32⟩
  | 125 => ⟨S1x129, .i1⟩
  | 126 => ⟨S1x129, .i1⟩
  | 127 => ⟨S1x1x1x129, .i1⟩
  | _ => ⟨S128x5120, .bf16⟩

abbrev hbmTy0_1 (i : Nat) : BufTy := match i % 128 with
  | 0 => ⟨S_, .f32⟩
  | 1 => ⟨S_, .f32⟩
  | 2 => ⟨S128x4x4x1x129, .i1⟩
  | 3 => ⟨S128x4x4x1x129, .f32⟩
  | 4 => ⟨S128x4x4x1x129, .f32⟩
  | 5 => ⟨S4x4x1x1, .f32⟩
  | 6 => ⟨S128x4x4x1x1, .f32⟩
  | 7 => ⟨S128x4x4x1x130, .f32⟩
  | 8 => ⟨S_, .f32⟩
  | 9 => ⟨S128x4x4x1, .f32⟩
  | 10 => ⟨S_, .f32⟩
  | 11 => ⟨S128x4x4x1, .f32⟩
  | 12 => ⟨S128x4x4x1, .f32⟩
  | 13 => ⟨S128x4x4x1x1, .f32⟩
  | 14 => ⟨S128x4x4x1x130, .f32⟩
  | 15 => ⟨S128x4x4x1x130, .f32⟩
  | 16 => ⟨S128x4x4x1x130, .f32⟩
  | 17 => ⟨S_, .f32⟩
  | 18 => ⟨S128x4x4x1, .f32⟩
  | 19 => ⟨S128x4x4x1x1, .f32⟩
  | 20 => ⟨S128x4x4x1x130, .f32⟩
  | 21 => ⟨S128x4x4x1x130, .f32⟩
  | 22 => ⟨S128x4x4x1x129, .f32⟩
  | 23 => ⟨S128x4x64x4x1, .f32⟩
  | 24 => ⟨S128x1x4x4x64, .f32⟩
  | 25 => ⟨S128x4x4x64, .f32⟩
  | 26 => ⟨S128x4x4x64, .f32⟩
  | 27 => ⟨S128x1024, .f32⟩
  | 28 => ⟨S128x1024, .bf16⟩
  | 29 => ⟨S128x128x4x64, .f32⟩
  | 30 => ⟨S128x4x64x128, .f32⟩
  | 31 => ⟨S128x256x128, .f32⟩
  | 32 => ⟨S128x128x4x64, .f32⟩
  | 33 => ⟨S128x4x64x128, .f32⟩
  | 34 => ⟨S128x256x128, .f32⟩
  | _ => ⟨S128x5120, .bf16⟩

abbrev hbmTy (i : Nat) : BufTy := match i / 128 with
  | 0 => hbmTy0_0 i
  | 1 => hbmTy0_1 i
  | _ => ⟨S128x5120, .bf16⟩

abbrev bufTy : (tb : Table) → Fin (tcTables nBuf tb) → BufTy
  | .hbm, ⟨i, _⟩ => hbmTy i
  | _, _ => ⟨S128x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_c_7 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_8 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_c_9 : Ref sig .tc := ⟨.hbm, 115, rfl⟩
abbrev main_v100 : Ref sig .tc := ⟨.hbm, 116, rfl⟩
abbrev main_v101 : Ref sig .tc := ⟨.hbm, 117, rfl⟩
abbrev main_c_10 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_c_11 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_12 : Ref sig .tc := ⟨.hbm, 128, rfl⟩
abbrev main_call0_v0 : Ref sig .tc := ⟨.hbm, 129, rfl⟩
abbrev main_call0_v1 : Ref sig .tc := ⟨.hbm, 130, rfl⟩
abbrev main_call0_v2 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_13 : Ref sig .tc := ⟨.hbm, 136, rfl⟩
abbrev main_v114 : Ref sig .tc := ⟨.hbm, 137, rfl⟩
abbrev main_cst_14 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_15 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩

abbrev nD : Nat := 1
abbrev τ : Topo := Topo.v7x

variable {F : FTy → Type} [FloatOps F]
-- ==== AttnWin.lean ====
abbrev S16384x5120 : Shape := ⟨2, ![16384, 5120]⟩
abbrev S16 : Shape := ⟨1, ![16]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x1024 : Shape := ⟨2, ![16384, 1024]⟩
abbrev S2x128x256 : Shape := ⟨3, ![2, 128, 256]⟩
abbrev S128x1024 : Shape := ⟨2, ![128, 1024]⟩
abbrev S128x256 : Shape := ⟨2, ![128, 256]⟩
abbrev S128x128 : Shape := ⟨2, ![128, 128]⟩
abbrev S1x128x256 : Shape := ⟨3, ![1, 128, 256]⟩
abbrev S256x128 : Shape := ⟨2, ![256, 128]⟩
abbrev S1x128x128 : Shape := ⟨3, ![1, 128, 128]⟩
abbrev S1 : Shape := ⟨1, ![1]⟩
abbrev S128 : Shape := ⟨1, ![128]⟩
abbrev S128x1 : Shape := ⟨2, ![128, 1]⟩

abbrev nBuf : Space → Nat
  | .hbm => 49
  | .vmem => 20
  | .smem => 1
  | _ => 0

abbrev bufTy : (tb : Table) → Fin (tcTables nBuf tb) → BufTy
  | .hbm, ⟨0, _⟩ => ⟨S16384x5120, .bf16⟩
  | .hbm, ⟨1, _⟩ => ⟨S16, .f32⟩
  | .hbm, ⟨2, _⟩ => ⟨S8192, .i32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192x48, .f32⟩
  | .hbm, ⟨27, _⟩ => ⟨S8192x64, .f32⟩
  | .hbm, ⟨28, _⟩ => ⟨S8192x8, .f32⟩
  | .hbm, ⟨29, _⟩ => ⟨S_, .f32⟩
  | .hbm, ⟨30, _⟩ => ⟨S8192x56, .f32⟩
  | .hbm, ⟨31, _⟩ => ⟨S8192x64, .f32⟩
  | .hbm, ⟨32, _⟩ => ⟨S_, .f32⟩
  | .hbm, ⟨33, _⟩ => ⟨S8192x8, .f32⟩
  | .hbm, ⟨34, _⟩ => ⟨S_, .f32⟩
  | .hbm, ⟨35, _⟩ => ⟨S8192x48, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S1x8192x1x64, .f32⟩
  | .hbm, ⟨41, _⟩ => ⟨S1x8192x2x64, .f32⟩
  | .hbm, ⟨42, _⟩ => ⟨S8192x128, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S16384x1024, .bf16⟩
  | .hbm, ⟨47, _⟩ => ⟨S2x128x256, .f32⟩
  | .hbm, ⟨48, _⟩ => ⟨S2x128x256, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x1024, .bf16⟩
  | .local _ .vmem, ⟨13, _⟩ => ⟨S128x1024, .bf16⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S128x256, .f32⟩
  | .local _ .vmem, ⟨19, _⟩ => ⟨S128x256, .f32⟩
  | .local _ .smem, ⟨0, _⟩ => ⟨S16, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36_0 : Ref sig .tc := ⟨.hbm, 46, rfl⟩
abbrev main_v36_1 : Ref sig .tc := ⟨.hbm, 47, rfl⟩
abbrev main_v36_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttnWinRefIdeal.lean ====
abbrev S16384x5120 : Shape := ⟨2, ![16384, 5120]⟩
abbrev S16 : Shape := ⟨1, ![16]⟩
abbrev S16384x256 : Shape := ⟨2, ![16384, 256]⟩
abbrev S2x8192x4x64 : Shape := ⟨4, ![2, 8192, 4, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x4x8 : Shape := ⟨4, ![2, 8192, 4, 8]⟩
abbrev S1x8192x1x8 : Shape := ⟨4, ![1, 8192, 1, 8]⟩
abbrev S2x8192x4x48 : Shape := ⟨4, ![2, 8192, 4, 48]⟩
abbrev S2x128x4x64 : Shape := ⟨4, ![2, 128, 4, 64]⟩
abbrev S2x128x256 : Shape := ⟨3, ![2, 128, 256]⟩

abbrev nBuf : Space → Nat
  | .hbm => 54
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S16, .f32⟩
  | .hbm, ⟨2, _⟩ => ⟨S16384x5120, .f32⟩
  | .hbm, ⟨3, _⟩ => ⟨S16384x256, .f32⟩
  | .hbm, ⟨4, _⟩ => ⟨S2x8192x4x64, .f32⟩
  | .hbm, ⟨5, _⟩ => ⟨S8192, .i32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8192, .f32⟩
  | .hbm, ⟨21, _⟩ => ⟨S8192x1, .f32⟩
  | .hbm, ⟨22, _⟩ => ⟨S1x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x1x8, .f32⟩
  | .hbm, ⟨28, _⟩ => ⟨S8192x8, .f32⟩
  | .hbm, ⟨29, _⟩ => ⟨S8192x1x8, .f32⟩
  | .hbm, ⟨30, _⟩ => ⟨S2x8192x4x8, .f32⟩
  | .hbm, ⟨31, _⟩ => ⟨S2x8192x4x8, .f32⟩
  | .hbm, ⟨32, _⟩ => ⟨S1x8192x1x8, .f32⟩
  | .hbm, ⟨33, _⟩ => ⟨S2x8192x4x8, .f32⟩
  | .hbm, ⟨34, _⟩ => ⟨S2x8192x4x8, .f32⟩
  | .hbm, ⟨35, _⟩ => ⟨S1x8192x1x8, .f32⟩
  | .hbm, ⟨36, _⟩ => ⟨S2x8192x4x8, .f32⟩
  | .hbm, ⟨37, _⟩ => ⟨S2x8192x4x8, .f32⟩
  | .hbm, ⟨38, _⟩ => ⟨S2x8192x4x8, .f32⟩
  | .hbm, ⟨39, _⟩ => ⟨S1x8192x1x8, .f32⟩
  | .hbm, ⟨40, _⟩ => ⟨S2x8192x4x8, .f32⟩
  | .hbm, ⟨41, _⟩ => ⟨S2x8192x4x8, .f32⟩
  | .hbm, ⟨42, _⟩ => ⟨S1x8192x1x8, .f32⟩
  | .hbm, ⟨43, _⟩ => ⟨S2x8192x4x8, .f32⟩
  | .hbm, ⟨44, _⟩ => ⟨S2x8192x4x8, .f32⟩
  | .hbm, ⟨45, _⟩ => ⟨S2x8192x4x8, .f32⟩
  | .hbm, ⟨46, _⟩ => ⟨S2x8192x4x48, .f32⟩
  | .hbm, ⟨47, _⟩ => ⟨S2x8192x4x64, .f32⟩
  | .hbm, ⟨48, _⟩ => ⟨S16384x256, .f32⟩
  | .hbm, ⟨49, _⟩ => ⟨S2x8192x4x64, .f32⟩
  | .hbm, ⟨50, _⟩ => ⟨S2x128x4x64, .f32⟩
  | .hbm, ⟨51, _⟩ => ⟨S2x128x256, .f32⟩
  | .hbm, ⟨52, _⟩ => ⟨S2x128x4x64, .f32⟩
  | .hbm, ⟨53, _⟩ => ⟨S2x128x256, .f32⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]
-- ==== Proof.MergeStep.lean ====
/-
  What each case of the merge kernel's body leaves in its buffers, as a term of the blocks it read (hand-written).
  Case A (the first of a row block's four column steps) stores the cast rows of `x` and the first partial product,
  cases B and C add their own partial product to what the step before left, and case C also stores the layer
  normalisation of `2^(1/4) x +` the finished sum.
-/
module

public import proofs.«01_k».proof.Proof.Gen.MergeIdeal.Value
public import Idealize.ShloMosaic.Lib.Tactic

@[expose] public section

noncomputable section

open Idealize.ShloMosaic Idealize.ShloMosaic.TcCoe Idealize.SL.Sem

namespace Cert.MergeIdeal.Hand

open Cert.MergeIdeal Cert.MergeIdeal.Gen

variable {F : FTy → Type} [FloatOps F]

/-- The two zero offsets of a load or store of a whole buffer. -/
theorem hz : (![0, 0] : Fin 2 → Nat) = fun _ => 0 := funext fun a => by fin_cases a <;> rfl

/-- The number 1 as the kernel's sigmoid prints it. -/
abbrev one : F .f32 := Scalar.ofBits .f32 0x3F800000#32

/-- One column step: the gated sum of the two projections of this step's 512 columns, times this step's 512 rows of
    the output weights, added to `acc`; `xb` is the cast row block. -/
abbrev stepOf (xb : Vec F S512x2048 .bf16) (x1 x2 : Vec F S512x1024 .bf16) (x3 x4 : Vec F S512x2048 .bf16)
    (x5 x6 : Vec F S1024x512 .bf16) (x7 : Vec F S512x2048 .bf16) (acc : Vec F S512x2048 .f32) : Vec F S512x2048 .f32 :=
  k0_pay1 (k0_pay5 x2 x6) (k0_pay6 xb x3 x1 x5) (k0_pay7 xb x4) one acc x7

variable (c : Dev nD) (i : grid0.Coords)
  (a2 : Memref sig .tc .vmem S512x2048 .f32) (h2 : a2.IsWhole)
  (a3 : Memref sig .tc .vmem S512x1024 .bf16) (h3 : a3.IsWhole)
  (a4 : Memref sig .tc .vmem S512x1024 .bf16) (h4 : a4.IsWhole)
  (a5 : Memref sig .tc .vmem S512x2048 .bf16) (h5 : a5.IsWhole)
  (a6 : Memref sig .tc .vmem S512x2048 .bf16) (h6 : a6.IsWhole)
  (a7 : Memref sig .tc .vmem S1024x512 .bf16) (h7 : a7.IsWhole)
  (a8 : Memref sig .tc .vmem S1024x512 .bf16) (h8 : a8.IsWhole)
  (a9 : Memref sig .tc .vmem S512x2048 .bf16) (h9 : a9.IsWhole)
  (a10 : Memref sig .tc .vmem S1x2048 .f32) (h10 : a10.IsWhole)
  (a11 : Memref sig .tc .vmem S1x2048 .f32) (h11 : a11.IsWhole)
  (a12 : Memref sig .tc .vmem S512x2048 .f32) (h12 : a12.IsWhole)
  (a13 : Memref sig .tc .vmem S512x2048 .bf16) (h13 : a13.IsWhole)
  (a14 : Memref sig .tc .vmem S512x2048 .f32) (h14 : a14.IsWhole)
  (x0 : Vec F S512x2048 .f32) (x1 : Vec F S512x1024 .bf16) (x2 : Vec F S512x1024 .bf16) (x3 : Vec F S512x2048 .bf16)
  (x4 : Vec F S512x2048 .bf16) (x5 : Vec F S1024x512 .bf16) (x6 : Vec F S1024x512 .bf16) (x7 : Vec F S512x2048 .bf16)
  (x8 : Vec F S1x2048 .f32) (x9 : Vec F S1x2048 .f32) (xs0 : Vec F S512x2048 .bf16) (xs1 : Vec F S512x2048 .f32)

/-- Case A leaves the cast row block in the first scratch buffer. -/
theorem sout_A_0 (p : cond0_0 i) (q : ¬cond0_1 i) :
    sout0_A_0 c i a2 h2 a3 h3 a4 h4 a5 h5 a6 h6 a7 h7 a8 h8 a9 h9 a10 h10 a11 h11 a12 h12 a13 h13 a14 h14 p q x0 x1 x2 x3 x4 x5 x6 x7 x8 x9 = k0_pay3 x0 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 p q x0 x1 x2 x3 x4 x5 x6 x7 x8 x9)]
  unfold kernelRun0_A
  dsimp only
  sl_unfold_words
  rw [View.canon_unit_zero hz]
  simp only [View.readAt_eq_ld, h2.read_unread, View.ld_unit_zero (S := S512x2048) hz]

/-- Case A leaves the first column step over the zero block in the accumulator. -/
theorem sout_A_1 (p : cond0_0 i) (q : ¬cond0_1 i) :
    sout0_A_1 c i a2 h2 a3 h3 a4 h4 a5 h5 a6 h6 a7 h7 a8 h8 a9 h9 a10 h10 a11 h11 a12 h12 a13 h13 a14 h14 p q x0 x1 x2 x3 x4 x5 x6 x7 x8 x9 = stepOf (k0_pay3 x0) x1 x2 x3 x4 x5 x6 x7 k0_pay4 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 p q x0 x1 x2 x3 x4 x5 x6 x7 x8 x9)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread,
    h5.read_unread, h6.read_unread, h7.read_unread, h8.read_unread, h9.read_unread,
    View.ld_unit_zero (S := S512x2048) hz, View.ld_unit_zero (S := S512x1024) hz, View.ld_unit_zero (S := S1024x512) hz]

/-- Case B adds its column step to the accumulator. -/
theorem sout_B_1 (p : ¬cond0_0 i) (q : ¬cond0_1 i) :
    sout0_B_1 c i a2 h2 a3 h3 a4 h4 a5 h5 a6 h6 a7 h7 a8 h8 a9 h9 a10 h10 a11 h11 a12 h12 a13 h13 a14 h14 p q x0 x1 x2 x3 x4 x5 x6 x7 x8 x9 xs0 xs1 = stepOf xs0 x1 x2 x3 x4 x5 x6 x7 xs1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 p q x0 x1 x2 x3 x4 x5 x6 x7 x8 x9 xs0 xs1)]
  unfold kernelRun0_B
  dsimp only
  sl_unfold_words
  rw [View.canon_unit_zero hz]
  simp only [View.readAt_eq_ld, h2.read_unread, h3.read_unread, h4.read_unread,
    h5.read_unread, h6.read_unread, h7.read_unread, h8.read_unread, h9.read_unread, h13.read_unread, h14.read_unread,
    View.ld_unit_zero (S := S512x2048) hz, View.ld_unit_zero (S := S512x1024) hz, View.ld_unit_zero (S := S1024x512) hz]

/-- Case C adds its column step to the accumulator. -/
theorem sout_C_1 (p : ¬cond0_0 i) (q : cond0_1 i) :
    sout0_C_1 c i a2 h2 a3 h3 a4 h4 a5 h5 a6 h6 a7 h7 a8 h8 a9 h9 a10 h10 a11 h11 a12 h12 a13 h13 a14 h14 p q x0 x1 x2 x3 x4 x5 x6 x7 x8 x9 xs0 xs1 = stepOf xs0 x1 x2 x3 x4 x5 x6 x7 xs1 := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 p q x0 x1 x2 x3 x4 x5 x6 x7 x8 x9 xs0 xs1)]
  unfold kernelRun0_C
  dsimp only
  sl_unfold_words
  rw [View.canon_unit_zero hz]
  simp only [View.readAt_eq_ld, h2.read_unread, h3.read_unread, h4.read_unread,
    h5.read_unread, h6.read_unread, h7.read_unread, h8.read_unread, h9.read_unread, h13.read_unread, h14.read_unread,
    View.ld_unit_zero (S := S512x2048) hz, View.ld_unit_zero (S := S512x1024) hz, View.ld_unit_zero (S := S1024x512) hz]

/-- Case C leaves in the output block the layer normalisation of the finished sum. -/
theorem out_C (p : ¬cond0_0 i) (q : cond0_1 i) :
    out0_C_10 c i a2 h2 a3 h3 a4 h4 a5 h5 a6 h6 a7 h7 a8 h8 a9 h9 a10 h10 a11 h11 a12 h12 a13 h13 a14 h14 p q x0 x1 x2 x3 x4 x5 x6 x7 x8 x9 xs0 xs1 = k0_pay2 x0 (stepOf xs0 x1 x2 x3 x4 x5 x6 x7 xs1) x8 x9 := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 p q x0 x1 x2 x3 x4 x5 x6 x7 x8 x9 xs0 xs1)]
  unfold kernelRun0_C
  dsimp only
  sl_unfold_words
  rw [View.canon_unit_zero hz]
  simp only [View.readCov_unit_zero (S := S512x2048) _ hz, View.readAt_eq_ld, h2.read_unread, h3.read_unread, h4.read_unread,
    h5.read_unread, h6.read_unread, h7.read_unread, h8.read_unread, h9.read_unread, h10.read_unread, h11.read_unread, h13.read_unread, h14.read_unread,
    View.ld_unit_zero (S := S512x2048) hz, View.ld_unit_zero (S := S512x1024) hz, View.ld_unit_zero (S := S1024x512) hz, View.ld_unit_zero (S := S1x2048) hz]

end Cert.MergeIdeal.Hand

end
-- ==== Proof.MergeBlocks.lean ====
/-
  The blocks the merge kernel reads at a point of its grid, as entries of the arrays @main was given (hand-written):
  the row block of `x` and of the two attention outputs, the two windows on the gate columns of the input projection
  (element-indexed: they begin at column 4896 + 512 j and 6944 + 512 j), the column blocks of the two output
  projections, the row block of the last projection, and the layer normalisation's two vectors.
-/
module

public import proofs.«01_k».proof.Proof.MergeStep
public import Idealize.ShloMosaic.Lib.Pipeline.ValueKit.Point
public import Idealize.ShloMosaic.Lib.Pointwise.Tactic

@[expose] public section

noncomputable section

open Idealize.ShloMosaic Idealize.ShloMosaic.TcCoe Idealize.SL.Sem

namespace Cert.MergeIdeal.Hand

open Cert.MergeIdeal Cert.MergeIdeal.Gen

/-- Where each window stands at point `t`: row block `t / 4`, column step `t % 4`. -/
theorem idx : ∀ t : Fin cfg0.N, win0_0.index t = ![t.val / 4, 0] ∧ win0_1.index t = ![t.val / 4, 0]
    ∧ win0_2.index t = ![t.val / 4, 0] ∧ win0_3.index t = ![4896 + 512 * (t.val % 4), 0]
    ∧ win0_4.index t = ![6944 + 512 * (t.val % 4), 0] ∧ win0_5.index t = ![0, t.val % 4]
    ∧ win0_6.index t = ![0, t.val % 4] ∧ win0_7.index t = ![t.val % 4, 0] ∧ win0_8.index t = ![0, 0]
    ∧ win0_9.index t = ![0, 0] := by
  decide +kernel

variable (m : (ℓ : Loc nD τ sig) → Buf (Elt Ideal) ℓ) (c : Dev nD) (t : Fin cfg0.N)

/-- The row block of `x`. -/
theorem blk0 (r : Fin 512) (d : Fin 2048) (R : Fin 16384) (hR : R.val = t.val / 4 * 512 + r.val) :
    (iblk m c 0 t : Vec Ideal S512x2048 .f32) (ix2 r d) = m ((c : Thread nD τ).loc main_arg0) (ix2 R d) := by
  blk_ext [iblk, V, (idx t).1]

/-- The row block of the attention output. -/
theorem blk1 (r : Fin 512) (d : Fin 1024) (R : Fin 16384) (hR : R.val = t.val / 4 * 512 + r.val) :
    (iblk m c 1 t : Vec Ideal S512x1024 .bf16) (ix2 r d) = m ((c : Thread nD τ).loc main_arg1) (ix2 R d) := by
  blk_ext [iblk, V, (idx t).2.1]

/-- The row block of the recurrence's output. -/
theorem blk2 (r : Fin 512) (d : Fin 1024) (R : Fin 16384) (hR : R.val = t.val / 4 * 512 + r.val) :
    (iblk m c 2 t : Vec Ideal S512x1024 .bf16) (ix2 r d) = m ((c : Thread nD τ).loc main_arg2) (ix2 R d) := by
  blk_ext [iblk, V, (idx t).2.2.1]

/-- The first gate window: the input projection at column `C`, the 4896 + 512 j-th on. -/
theorem blk3 (k : Fin 512) (d : Fin 2048) (C : Fin 8992) (hC : C.val = 4896 + 512 * (t.val % 4) + k.val) :
    (iblk m c 3 t : Vec Ideal S512x2048 .bf16) (ix2 k d) = m ((c : Thread nD τ).loc main_arg3) (ix2 d C) := by
  blk_simp [iblk, (idx t).2.2.2.1]; entry_read; pointwise
  have e := (idx t).2.2.2.1
  congr 1
  funext a
  apply Fin.ext
  match a with
  | ⟨0, _⟩ => show win0_3.index t 1 + 1 * d.val = d.val; rw [e]; simp
  | ⟨1, _⟩ => show win0_3.index t 0 + 1 * k.val = C.val; rw [e, hC]; simp

/-- The second gate window: the input projection at column `C`, the 6944 + 512 j-th on. -/
theorem blk4 (k : Fin 512) (d : Fin 2048) (C : Fin 8992) (hC : C.val = 6944 + 512 * (t.val % 4) + k.val) :
    (iblk m c 4 t : Vec Ideal S512x2048 .bf16) (ix2 k d) = m ((c : Thread nD τ).loc main_arg3) (ix2 d C) := by
  blk_simp [iblk, (idx t).2.2.2.2.1]; entry_read; pointwise
  have e := (idx t).2.2.2.2.1
  congr 1
  funext a
  apply Fin.ext
  match a with
  | ⟨0, _⟩ => show win0_4.index t 1 + 1 * d.val = d.val; rw [e]; simp
  | ⟨1, _⟩ => show win0_4.index t 0 + 1 * k.val = C.val; rw [e, hC]; simp

/-- The column block of the attention output's projection. -/
theorem blk5 (d : Fin 1024) (k : Fin 512) (C : Fin 2048) (hC : C.val = t.val % 4 * 512 + k.val) :
    (iblk m c 5 t : Vec Ideal S1024x512 .bf16) (ix2 d k) = m ((c : Thread nD τ).loc main_arg4) (ix2 d C) := by
  blk_simp [iblk, (idx t).2.2.2.2.2.1]; entry_read; pointwise
  blk_ext [(idx t).2.2.2.2.2.1]

/-- The column block of the recurrence output's projection. -/
theorem blk6 (d : Fin 1024) (k : Fin 512) (C : Fin 2048) (hC : C.val = t.val % 4 * 512 + k.val) :
    (iblk m c 6 t : Vec Ideal S1024x512 .bf16) (ix2 d k) = m ((c : Thread nD τ).loc main_arg5) (ix2 d C) := by
  blk_simp [iblk, (idx t).2.2.2.2.2.2.1]; entry_read; pointwise
  blk_ext [(idx t).2.2.2.2.2.2.1]

/-- The row block of the last projection. -/
theorem blk7 (k : Fin 512) (d : Fin 2048) (C : Fin 2048) (hC : C.val = t.val % 4 * 512 + k.val) :
    (iblk m c 7 t : Vec Ideal S512x2048 .bf16) (ix2 k d) = m ((c : Thread nD τ).loc main_arg6) (ix2 C d) := by
  blk_simp [iblk, (idx t).2.2.2.2.2.2.2.1]; entry_read; pointwise
  blk_ext [(idx t).2.2.2.2.2.2.2.1]

/-- The layer normalisation's gain. -/
theorem blk8 (d : Fin 2048) :
    (iblk m c 8 t : Vec Ideal S1x2048 .f32) (ix2 0 d) = m ((c : Thread nD τ).loc main_arg7) (ix1 d) := by
  blk_simp [iblk, (idx t).2.2.2.2.2.2.2.2.1]; entry_read; pointwise
  blk_ext [(idx t).2.2.2.2.2.2.2.2.1]

/-- The layer normalisation's bias. -/
theorem blk9 (d : Fin 2048) :
    (iblk m c 9 t : Vec Ideal S1x2048 .f32) (ix2 0 d) = m ((c : Thread nD τ).loc main_arg8) (ix1 d) := by
  blk_simp [iblk, (idx t).2.2.2.2.2.2.2.2.2]; entry_read; pointwise
  blk_ext [(idx t).2.2.2.2.2.2.2.2.2]

end Cert.MergeIdeal.Hand

end
-- ==== Proof.LayerMath.lean ====
/-
  The plain mathematics two of the layer's calls share (hand-written), over the extended reals: the logistic gate and
  the layer normalisation of a row of 2048 numbers.
-/
module

public import Idealize.ShloMosaic.PureOps.Ideal
public import Idealize.ShloMosaic.Lib.Pipeline.ValueKit.Point
public import Idealize.ShloMosaic.Lib.Pointwise.Tactic

@[expose] public section

noncomputable section

open Idealize.ShloMosaic

namespace Cert.LayerMath

/-- An array as a function of its coordinates. -/
abbrev arr {n k : ℕ} (X : Shape.Idx ⟨2, ![n, k]⟩ → EReal) (i : Fin n) (j : Fin k) : EReal := X (ix2 i j)

/-- The logistic function, `1 / (1 + exp (-s))`. -/
def gate (s : EReal) : EReal := Ideal.div 1 (1 + Ideal.exp (-s))

/-- The residual scale `2^(1/4)`, as the number the programs print. -/
def alpha : EReal := Ideal.ofBits .f32 0x3F9837F0#32

/-- The mean of a row of 2048. -/
def mean (z : Fin 2048 → EReal) : EReal := Ideal.div (∑ k, z k) (Ideal.ofBits .f32 0x45000000#32)

/-- The layer normalisation of the row `z` at column `d`, with gain `g` and bias `b`. -/
def layerNorm (z g b : Fin 2048 → EReal) (d : Fin 2048) : EReal :=
  (z d - mean z)
    * Ideal.rsqrt (mean (fun k => (z k - mean z) * (z k - mean z)) + Ideal.ofBits .f32 0x3727C5AC#32)
    * g d + b d

/-- The gated sum of the two projected outputs of a token at column `q`: the gates are the logistic of the token's own
    columns `4896 + q` and `6944 + q` of the input projection. -/
def merged (x : Fin 2048 → EReal) (ao ro : Fin 1024 → EReal) (wi : Fin 2048 → Fin 8992 → EReal)
    (wa wr : Fin 1024 → Fin 2048 → EReal) (q : Fin 2048) : EReal :=
  gate (∑ d, x d * wi d ⟨4896 + q.val, by omega⟩) * ∑ k, ao k * wa k q
    + gate (∑ d, x d * wi d ⟨4896 + (2048 + q.val), by omega⟩) * ∑ k, ro k * wr k q

/-- One token of the merge: the gated sum through the last projection, added to the scaled residual and normalised. -/
def mergeRow (x : Fin 2048 → EReal) (ao ro : Fin 1024 → EReal) (wi : Fin 2048 → Fin 8992 → EReal)
    (wa wr : Fin 1024 → Fin 2048 → EReal) (wo : Fin 2048 → Fin 2048 → EReal) (g b : Fin 2048 → EReal) (d : Fin 2048) : EReal :=
  layerNorm (fun d => alpha * x d + ∑ q, merged x ao ro wi wa wr q * wo q d) g b d

/-- The squared rectifier. -/
def relu2 (s : EReal) : EReal := max s 0 * max s 0

/-- Column `q` of a token's hidden layer: the squared rectified projection. -/
def hiddenCol (h : Fin 2048 → EReal) (wu : Fin 2048 → Fin 8192 → EReal) (q : Fin 8192) : EReal := relu2 (∑ e, h e * wu e q)

/-- One token of the feed-forward: the squared rectified projection through the second matrix, added to the scaled
    residual and normalised. -/
def ffnRow (h : Fin 2048 → EReal) (wu : Fin 2048 → Fin 8192 → EReal) (wd : Fin 8192 → Fin 2048 → EReal)
    (g b : Fin 2048 → EReal) (d : Fin 2048) : EReal :=
  layerNorm (fun d => alpha * h d + ∑ q, hiddenCol h wu q * wd q d) g b d

/-! ## The reference's layer normalisation, as its operations -/

abbrev Mat : Shape := ⟨2, ![16384, 2048]⟩
abbrev Col : Shape := ⟨2, ![16384, 1]⟩
abbrev Row : Shape := ⟨2, ![1, 2048]⟩
abbrev Rows : Shape := ⟨1, ![16384]⟩
abbrev Cols : Shape := ⟨1, ![2048]⟩
abbrev One : Shape := ⟨0, ![]⟩

/-- The layer normalisation of every row of `Z` as the references' operations compute it, read at an entry. -/
theorem hostLN (h1 : Col.BroadcastsInDim Mat ![0, 1]) (h2 : Rows.BroadcastsInDim Col ![0]) (h3 : Mat.ReducesTo [1] Rows)
    (h4 : 0 < One.numel) (h5 : One.BroadcastsInDim Col ![]) (h6 : Cols.BroadcastsInDim Row ![1]) (h7 : Row.BroadcastsInDim Mat ![0, 1])
    (Z : FVec Ideal Mat .f32) (g b : FVec Ideal Cols .f32) (R : Fin 16384) (d : Fin 2048) :
    (addf (mulf (mulf
        (subf Z (broadcastInDim Mat ![0, 1] h1 (Host.divf (broadcastInDim Col ![0] h2 (Host.reduceAdd Z (constant One .f32 0x00000000#32) h3 h4)) (broadcastInDim Col ![] h5 (constant One .f32 0x45000000#32)))))
        (broadcastInDim Mat ![0, 1] h1 (Host.rsqrt (addf (Host.divf (broadcastInDim Col ![0] h2 (Host.reduceAdd
          (mulf (subf Z (broadcastInDim Mat ![0, 1] h1 (Host.divf (broadcastInDim Col ![0] h2 (Host.reduceAdd Z (constant One .f32 0x00000000#32) h3 h4)) (broadcastInDim Col ![] h5 (constant One .f32 0x45000000#32)))))
            (subf Z (broadcastInDim Mat ![0, 1] h1 (Host.divf (broadcastInDim Col ![0] h2 (Host.reduceAdd Z (constant One .f32 0x00000000#32) h3 h4)) (broadcastInDim Col ![] h5 (constant One .f32 0x45000000#32))))))
          (constant One .f32 0x00000000#32) h3 h4)) (broadcastInDim Col ![] h5 (constant One .f32 0x45000000#32))) (broadcastInDim Col ![] h5 (constant One .f32 0x3727C5AC#32))))))
        (broadcastInDim Mat ![0, 1] h7 (broadcastInDim Row ![1] h6 g))) (broadcastInDim Mat ![0, 1] h7 (broadcastInDim Row ![1] h6 b)) : FVec Ideal Mat .f32) (ix2 R d)
      = layerNorm (fun k => Z (ix2 R k)) (fun k => g (ix1 k)) (fun k => b (ix1 k)) d := by
  unfold layerNorm mean
  pointwise

end Cert.LayerMath

end
-- ==== Proof.MergeValue.lean ====
/-
  The merge call's result, entry by entry, at the extended reals (hand-written). The kernel walks 32 row blocks of 512
  tokens; within a row block four column steps each add the product of 512 gated columns with 512 rows of the last
  projection to an accumulator, and the fourth stores the layer normalisation. The four partial sums are the whole sum
  over the 2048 columns, so every entry is `LayerMath.mergeRow` of the token's row.
-/
module

public import proofs.«01_k».proof.Proof.MergeBlocks
public import proofs.«01_k».proof.Proof.LayerMath

@[expose] public section

noncomputable section

open Idealize.ShloMosaic Idealize.ShloMosaic.TcCoe Idealize.SL.Sem

namespace Cert.MergeIdeal.Hand

open Cert.MergeIdeal Cert.MergeIdeal.Gen Cert.LayerMath

/-- What one column step adds to the accumulator at row `r`, column `d`. -/
def part (xb : Vec Ideal S512x2048 .f32) (x1 x2 : Vec Ideal S512x1024 .bf16) (x3 x4 : Vec Ideal S512x2048 .bf16)
    (x5 x6 : Vec Ideal S1024x512 .bf16) (x7 : Vec Ideal S512x2048 .bf16) (j : S512x2048.Idx) : EReal :=
  ∑ q : Fin 512, (gate (∑ d : Fin 2048, xb (ix2 (j 0) d) * x3 (ix2 q d)) * (∑ k : Fin 1024, x1 (ix2 (j 0) k) * x5 (ix2 k q))
    + gate (∑ d : Fin 2048, xb (ix2 (j 0) d) * x4 (ix2 q d)) * (∑ k : Fin 1024, x2 (ix2 (j 0) k) * x6 (ix2 k q))) * x7 (ix2 q (j 1))

/-- A column step is an addition of `part`. -/
theorem step_apply (xb : Vec Ideal S512x2048 .f32) (x1 x2 : Vec Ideal S512x1024 .bf16) (x3 x4 : Vec Ideal S512x2048 .bf16)
    (x5 x6 : Vec Ideal S1024x512 .bf16) (x7 : Vec Ideal S512x2048 .bf16) (acc : Vec Ideal S512x2048 .f32) (j : S512x2048.Idx) :
    stepOf (k0_pay3 xb) x1 x2 x3 x4 x5 x6 x7 acc j = acc j + part xb x1 x2 x3 x4 x5 x6 x7 j := by
  unfold stepOf one part gate
  unfold_payloads
  pointwise
  simp only [zero_sub]

/-- `part` over blocks whose entries in row `r` (and column `d`) are known. -/
theorem part_eq (xb : Vec Ideal S512x2048 .f32) (x1 x2 : Vec Ideal S512x1024 .bf16) (x3 x4 : Vec Ideal S512x2048 .bf16)
    (x5 x6 : Vec Ideal S1024x512 .bf16) (x7 : Vec Ideal S512x2048 .bf16) (r : Fin 512) (d : Fin 2048)
    (X : Fin 2048 → EReal) (AO RO : Fin 1024 → EReal) (GA GB : Fin 512 → Fin 2048 → EReal) (WA WR : Fin 512 → Fin 1024 → EReal)
    (WO : Fin 512 → EReal)
    (e0 : ∀ e, xb (ix2 r e) = X e) (e1 : ∀ e, x1 (ix2 r e) = AO e) (e2 : ∀ e, x2 (ix2 r e) = RO e)
    (e3 : ∀ k e, x3 (ix2 k e) = GA k e) (e4 : ∀ k e, x4 (ix2 k e) = GB k e)
    (e5 : ∀ k e, x5 (ix2 e k) = WA k e) (e6 : ∀ k e, x6 (ix2 e k) = WR k e) (e7 : ∀ k, x7 (ix2 k d) = WO k) :
    part xb x1 x2 x3 x4 x5 x6 x7 (ix2 r d)
      = ∑ q : Fin 512, (gate (∑ e, X e * GA q e) * (∑ k, AO k * WA q k) + gate (∑ e, X e * GB q e) * (∑ k, RO k * WR q k)) * WO q := by
  have h : part xb x1 x2 x3 x4 x5 x6 x7 (ix2 r d)
      = ∑ q : Fin 512, (gate (∑ e : Fin 2048, xb (ix2 r e) * x3 (ix2 q e)) * (∑ k : Fin 1024, x1 (ix2 r k) * x5 (ix2 k q))
        + gate (∑ e : Fin 2048, xb (ix2 r e) * x4 (ix2 q e)) * (∑ k : Fin 1024, x2 (ix2 r k) * x6 (ix2 k q))) * x7 (ix2 q d) := rfl
  simp only [h, e0, e1, e2, e3, e4, e5, e6, e7]

/-- The block the first step starts from is zero. -/
theorem zero_apply (j : S512x2048.Idx) : (k0_pay4 (F := Ideal)) j = 0 := by
  unfold_payloads
  pointwise

/-- The last step's store is the layer normalisation of each row of `2^(1/4) x + acc`. -/
theorem ln_apply (x0 acc : Vec Ideal S512x2048 .f32) (x8 x9 : Vec Ideal S1x2048 .f32) (r : Fin 512) (d : Fin 2048) :
    k0_pay2 x0 acc x8 x9 (ix2 r d)
      = layerNorm (fun k => alpha * x0 (ix2 r k) + acc (ix2 r k)) (fun k => x8 (ix2 0 k)) (fun k => x9 (ix2 0 k)) d := by
  unfold layerNorm mean alpha
  unfold_payloads
  pointwise

variable (m : (ℓ : Loc nD τ sig) → Buf (Elt Ideal) ℓ) (c : Dev nD)

/-- The grid has 128 points. -/
theorem lt128 (t : Fin cfg0.N) : t.val < 128 := lt_of_lt_of_eq t.isLt (show cfg0.N = 128 from N_0)

/-- The row block of `x` is the same at the four steps of a row block. -/
theorem blk0_congr (t s : Fin cfg0.N) (h : t.val / 4 = s.val / 4) :
    (iblk m c 0 t : Vec Ideal S512x2048 .f32) = (iblk m c 0 s : Vec Ideal S512x2048 .f32) := by
  refine funext fun j : S512x2048.Idx => ?_
  obtain ⟨r, d, rfl⟩ : ∃ (r : Fin 512) (d : Fin 2048), j = ix2 r d := ⟨j 0, j 1, eq_ix2 j⟩
  have := lt128 t
  exact (blk0 m c t r d ⟨t.val / 4 * 512 + r.val, by omega⟩ rfl).trans
    (blk0 m c s r d ⟨t.val / 4 * 512 + r.val, by omega⟩ (by dsimp only; omega)).symm

/-- The first scratch buffer holds the cast row block of `x` after every point. -/
theorem scratch0 : ∀ (n : ℕ) (hn : n < cfg0.N),
    (outsAt0 m c n hn).2.1 = k0_pay3 (iblk m c 0 ⟨n, hn⟩ : Vec Ideal S512x2048 .f32)
  | n, hn => by
    have hN := lt128 ⟨n, hn⟩
    by_cases h0 : n % 4 = 0
    · rw [outsAt0_A m c ⟨n, hn⟩ h0 (by dsimp only; omega)]
      dsimp only
      rw [sout_A_0]
    · obtain ⟨k, rfl⟩ : ∃ k, n = k + 1 := ⟨n - 1, by omega⟩
      have ih := scratch0 k (Nat.lt_of_succ_lt hn)
      have hb := blk0_congr m c ⟨k, Nat.lt_of_succ_lt hn⟩ ⟨k + 1, hn⟩ (by dsimp only; omega)
      by_cases h1 : (k + 1) % 4 = 3
      · rw [outsAt0_C m c ⟨k + 1, hn⟩ h0 h1]
        dsimp only
        unfold sout0_C_0
        exact ih.trans (congrArg _ hb)
      · rw [outsAt0_B m c ⟨k + 1, hn⟩ h0 h1]
        dsimp only
        unfold sout0_B_0
        exact ih.trans (congrArg _ hb)

/-- What the step at point `t` adds, over the blocks of that point. -/
def term (t : Fin cfg0.N) (j : S512x2048.Idx) : EReal :=
  part (iblk m c 0 t) (iblk m c 1 t) (iblk m c 2 t) (iblk m c 3 t) (iblk m c 4 t) (iblk m c 5 t) (iblk m c 6 t) (iblk m c 7 t) j

/-- The scratch the step at a later point of a row block takes: the cast rows of its own block. -/
theorem scratch0_pred (t : Fin cfg0.N) (h0 : ¬t.val % 4 = 0) (hp : t.val - 1 < cfg0.N) :
    (outsAt0 m c (t.val - 1) hp).2.1 = k0_pay3 (iblk m c 0 t : Vec Ideal S512x2048 .f32) :=
  (scratch0 m c _ _).trans (congrArg _ (blk0_congr m c _ t (by dsimp only; omega)))

/-- The accumulator after the first step of a row block. -/
theorem acc_first (t : Fin cfg0.N) (h : t.val % 4 = 0) (j : S512x2048.Idx) :
    (outsAt0 m c t.val t.isLt).2.2 j = 0 + term m c t j := by
  rw [outsAt0_A m c t h (by omega)]
  dsimp only
  rw [sout_A_1, step_apply, zero_apply]
  rfl

/-- The accumulator after a later step. -/
theorem acc_step (t : Fin cfg0.N) (h : ¬t.val % 4 = 0) (j : S512x2048.Idx) :
    (outsAt0 m c t.val t.isLt).2.2 j
      = (outsAt0 m c (t.val - 1) (Nat.lt_of_le_of_lt (Nat.sub_le _ _) t.isLt)).2.2 j + term m c t j := by
  by_cases h1 : t.val % 4 = 3
  · rw [outsAt0_C m c t h h1]
    dsimp only
    rw [sout_C_1, scratch0_pred m c t h, step_apply]
    rfl
  · rw [outsAt0_B m c t h h1]
    dsimp only
    rw [sout_B_1, scratch0_pred m c t h, step_apply]
    rfl

/-- The accumulator after the last step of a row block: the sum of the four steps. -/
theorem acc_last (t : Fin cfg0.N) (h : t.val % 4 = 3) (j : S512x2048.Idx) :
    (outsAt0 m c t.val t.isLt).2.2 j
      = ∑ s : Fin 4, term m c ⟨4 * (t.val / 4) + s.val, Pipeline.run_point_lt_of_flush (J := 4) t h s⟩ j :=
  (Pipeline.eq_sum_fin_of_reset_step_apply_of_flush (fun n hn => (outsAt0 m c n hn).2.2) 4 (fun _ => (0 : EReal)) (term m c)
    (acc_first m c) (acc_step m c) t h j).trans (zero_add _)

/-- The output block after the last step of a row block: the layer normalisation over the finished accumulator. -/
theorem out_last (t : Fin cfg0.N) (h : t.val % 4 = 3) :
    (outsAt0 m c t.val t.isLt).1
      = k0_pay2 (iblk m c 0 t) (outsAt0 m c t.val t.isLt).2.2 (iblk m c 8 t) (iblk m c 9 t) := by
  rw [outsAt0_C m c t (by omega) h]
  dsimp only
  rw [out_C, sout_C_1]

/-- The merge of token `R` over @main's arguments. -/
def G (m : (ℓ : Loc nD τ sig) → Buf (Elt Ideal) ℓ) (c : Dev nD) (R : Fin 16384) (d : Fin 2048) : EReal :=
  mergeRow (arr (m ((c : Thread nD τ).loc main_arg0)) R) (arr (m ((c : Thread nD τ).loc main_arg1)) R)
    (arr (m ((c : Thread nD τ).loc main_arg2)) R) (arr (m ((c : Thread nD τ).loc main_arg3)))
    (arr (m ((c : Thread nD τ).loc main_arg4))) (arr (m ((c : Thread nD τ).loc main_arg5)))
    (arr (m ((c : Thread nD τ).loc main_arg6))) (fun k => m ((c : Thread nD τ).loc main_arg7) (ix1 k))
    (fun k => m ((c : Thread nD τ).loc main_arg8) (ix1 k)) d

/-- The four steps of a row block add up to the product of the gated sum with the last projection. -/
theorem acc_eq (t : Fin cfg0.N) (h : t.val % 4 = 3) (r : Fin 512) (d : Fin 2048) (R : Fin 16384) (hR : R.val = t.val / 4 * 512 + r.val) :
    (outsAt0 m c t.val t.isLt).2.2 (ix2 r d)
      = ∑ q : Fin 2048, merged (arr (m ((c : Thread nD τ).loc main_arg0)) R) (arr (m ((c : Thread nD τ).loc main_arg1)) R)
          (arr (m ((c : Thread nD τ).loc main_arg2)) R) (arr (m ((c : Thread nD τ).loc main_arg3)))
          (arr (m ((c : Thread nD τ).loc main_arg4))) (arr (m ((c : Thread nD τ).loc main_arg5))) q
          * m ((c : Thread nD τ).loc main_arg6) (ix2 q d) := by
  rw [acc_last m c t h]
  have key : ∀ s : Fin 4, term m c ⟨4 * (t.val / 4) + s.val, Pipeline.run_point_lt_of_flush (J := 4) t h s⟩ (ix2 r d)
      = ∑ k : Fin 512, merged (arr (m ((c : Thread nD τ).loc main_arg0)) R) (arr (m ((c : Thread nD τ).loc main_arg1)) R)
          (arr (m ((c : Thread nD τ).loc main_arg2)) R) (arr (m ((c : Thread nD τ).loc main_arg3)))
          (arr (m ((c : Thread nD τ).loc main_arg4))) (arr (m ((c : Thread nD τ).loc main_arg5))) ⟨s.val * 512 + k.val, by omega⟩
          * m ((c : Thread nD τ).loc main_arg6) (ix2 ⟨s.val * 512 + k.val, by omega⟩ d) := fun s => by
    have hs : (4 * (t.val / 4) + s.val) / 4 = t.val / 4 := by omega
    have hm : (4 * (t.val / 4) + s.val) % 4 = s.val := by omega
    exact part_eq _ _ _ _ _ _ _ _ r d _ _ _ _ _ _ _ _
      (fun e => blk0 m c _ r e R (by dsimp only; rw [hs, hR]))
      (fun e => blk1 m c _ r e R (by dsimp only; rw [hs, hR]))
      (fun e => blk2 m c _ r e R (by dsimp only; rw [hs, hR]))
      (fun k e => blk3 m c _ k e ⟨4896 + (s.val * 512 + k.val), by omega⟩ (by dsimp only; rw [hm]; omega))
      (fun k e => blk4 m c _ k e ⟨4896 + (2048 + (s.val * 512 + k.val)), by omega⟩ (by dsimp only; rw [hm]; omega))
      (fun k e => blk5 m c _ e k ⟨s.val * 512 + k.val, by omega⟩ (by dsimp only; rw [hm]))
      (fun k e => blk6 m c _ e k ⟨s.val * 512 + k.val, by omega⟩ (by dsimp only; rw [hm]))
      (fun k => blk7 m c _ k d ⟨s.val * 512 + k.val, by omega⟩ (by dsimp only; rw [hm]))
  exact (Finset.sum_congr rfl fun s _ => key s).trans (Fin.sum_mul_add_fin 4 512 (fun q : Fin 2048 =>
    merged (arr (m ((c : Thread nD τ).loc main_arg0)) R) (arr (m ((c : Thread nD τ).loc main_arg1)) R)
      (arr (m ((c : Thread nD τ).loc main_arg2)) R) (arr (m ((c : Thread nD τ).loc main_arg3)))
      (arr (m ((c : Thread nD τ).loc main_arg4))) (arr (m ((c : Thread nD τ).loc main_arg5))) q
      * m ((c : Thread nD τ).loc main_arg6) (ix2 q d)))

/-- Every entry of the result array is the merge of its token's row. -/
theorem result (R : Fin 16384) (d : Fin 2048) : Value.G10 m c (ix2 R d) = G m c R d := by
  have hR := R.isLt
  have hd := d.isLt
  unfold Value.G10
  have hpt : Value.pt10Of (ix2 R d) = 4 * (R.val / 512) + 3 := by
    show 4 * (1 * (R.val / 512 - 0) + 1 * (d.val / 2048 - 0)) + 3 = _
    omega
  have hN : cfg0.N = 128 := N_0
  have hlt : 4 * (R.val / 512) + 3 < cfg0.N := by omega
  rw [dif_pos (by rw [hpt]; exact hlt), ← Value.outsAt0_sweep m c _ (by rw [hpt]; exact hlt)]
  have hloc : Value.loc10Of (ix2 R d) = ix2 ⟨R.val % 512, Nat.mod_lt _ (by decide)⟩ d := by
    funext a
    match a with
    | ⟨0, _⟩ => rfl
    | ⟨1, _⟩ => exact Fin.ext (Nat.mod_eq_of_lt hd)
  simp only [hpt]
  rw [hloc]
  have h3 : (⟨4 * (R.val / 512) + 3, hlt⟩ : Fin cfg0.N).val % 4 = 3 := by dsimp only; omega
  have hR' : R.val = (⟨4 * (R.val / 512) + 3, hlt⟩ : Fin cfg0.N).val / 4 * 512 + (⟨R.val % 512, Nat.mod_lt _ (by decide)⟩ : Fin 512).val := by
    dsimp only; omega
  rw [out_last m c ⟨4 * (R.val / 512) + 3, hlt⟩ h3, ln_apply]
  unfold G mergeRow
  congr 1
  · funext k
    rw [blk0 m c _ _ k R hR', acc_eq m c _ h3 _ k R hR']
  · funext k
    exact blk8 m c _ k
  · funext k
    exact blk9 m c _ k

end Cert.MergeIdeal.Hand

end
-- ==== Proof.MergeRef.lean ====
/-
  The merge reference's result, entry by entry, at the extended reals (hand-written): `LayerMath.mergeRow` of the token's row.
-/
module

public import proofs.«01_k».proof.Proof.LayerMath
public import proofs.«01_k».proof.Proof.Gen.MergeRefIdeal.Run

@[expose] public section

noncomputable section

open Idealize.ShloMosaic Idealize.ShloMosaic.TcCoe Idealize.SL.Sem

namespace Cert.MergeRefIdeal.Hand

open Cert.MergeRefIdeal Cert.MergeRefIdeal.Gen Cert.LayerMath

/-- Every entry of the reference's result is the merge of its token's row. -/
theorem result (m : (ℓ : Loc nD τ sig) → Buf (Elt Ideal) ℓ) (c : Dev nD) (R : Fin 16384) (d : Fin 2048) :
    (Value.res_out0 m c : FVec Ideal S16384x2048 .f32) (ix2 R d)
      = mergeRow (fun k => m ((c : Thread nD τ).loc main_arg0) (ix2 R k)) (fun k => m ((c : Thread nD τ).loc main_arg1) (ix2 R k))
          (fun k => m ((c : Thread nD τ).loc main_arg2) (ix2 R k)) (fun i k => m ((c : Thread nD τ).loc main_arg3) (ix2 i k))
          (fun i k => m ((c : Thread nD τ).loc main_arg4) (ix2 i k)) (fun i k => m ((c : Thread nD τ).loc main_arg5) (ix2 i k))
          (fun i k => m ((c : Thread nD τ).loc main_arg6) (ix2 i k)) (fun k => m ((c : Thread nD τ).loc main_arg7) (ix1 k))
          (fun k => m ((c : Thread nD τ).loc main_arg8) (ix1 k)) d := by
  unfold Value.res_out0 Value.res_main_v50 mergeRow
  refine (hostLN _ _ _ _ _ _ _ _ _ _ R d).trans ?_
  refine congrArg (fun z : Fin 2048 → EReal => layerNorm z (fun k => m ((c : Thread nD τ).loc main_arg7) (ix1 k))
    (fun k => m ((c : Thread nD τ).loc main_arg8) (ix1 k)) d) (funext fun k => ?_)
  unfold alpha merged gate
  pointwise

end Cert.MergeRefIdeal.Hand

end
-- ==== Proof.MergeClaims.lean ====
/-
  The claims of the merge call (hand-written): the frames, and that its result is the reference's at the extended reals.
-/
module

public import proofs.«01_k».proof.Defs
public import proofs.«01_k».proof.Proof.MergeValue
public import proofs.«01_k».proof.Proof.MergeRef
public import proofs.«01_k».proof.Proof.Gen.Merge.Frame
public import Idealize.ShloMosaic.Lib.Quiescent

@[expose] public section

noncomputable section

open Idealize.ShloMosaic Idealize.ShloMosaic.TcCoe Idealize.SL.Sem

namespace Cert.Proof.Merge

/-- The merge kernel as printed runs, keeps its arguments and ends with every counter at zero. -/
theorem frame_bits : Cert.quiescent_Merge := fun m ρ _ => Cert.Merge.Gen.frame m ρ

/-- The same of the kernel at the extended reals. -/
theorem frame_ideal : Cert.quiescent_MergeIdeal := fun m ρ _ => Cert.MergeIdeal.Gen.frame m ρ

/-- The reference runs and keeps its arguments; it declares no semaphore. -/
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- From arguments that agree the kernel and the reference end with equal results, every entry being
    `LayerMath.mergeRow` of its token's row. -/
theorem algebraic : Cert.algebraic_MergeIdeal_MergeRefIdeal := fun m ρ m' ρ' _ hag =>
  ⟨fun c => Cert.MergeIdeal.Value.G10 m c, Cert.MergeIdeal.Value.run (F := Ideal) m ρ,
    (θ_run Cert.MergeRefIdeal.defs _ _).mono (fun r h c => ⟨(h c).1.trans (funext fun j => by
        obtain ⟨R, d, rfl⟩ : ∃ (R : Fin 16384) (d : Fin 2048), j = ix2 R d := ⟨j 0, j 1, eq_ix2 j⟩
        obtain ⟨e0, e1, e2, e3, e4, e5, e6, e7, e8⟩ := hag c
        refine (Cert.MergeRefIdeal.Hand.result m' c R d).trans ((Cert.MergeIdeal.Hand.result m c R d).trans ?_).symm
        rw [e0, e1, e2, e3, e4, e5, e6, e7, e8]
        rfl), (h c).2⟩)
      (Cert.MergeRefIdeal.Value.run (F := Ideal) m' ρ')⟩

end Cert.Proof.Merge

end
-- ==== Proof.FfnStep.lean ====
/-
  What each case of the feed-forward kernel's body leaves in its buffers, as a term of the blocks it read
  (hand-written). Case A (the first of a row block's eight column steps) stores the cast rows of `h` and the first
  partial product, cases B and C add their own partial product to what the step before left, and case C also stores
  the layer normalisation of `2^(1/4) h +` the finished sum.
-/
module

public import proofs.«01_k».proof.Proof.Gen.FfnIdeal.Value
public import Idealize.ShloMosaic.Lib.Tactic

@[expose] public section

noncomputable section

open Idealize.ShloMosaic Idealize.ShloMosaic.TcCoe Idealize.SL.Sem

namespace Cert.FfnIdeal.Hand

open Cert.FfnIdeal Cert.FfnIdeal.Gen

variable {F : FTy → Type} [FloatOps F]

/-- The two zero offsets of a load or store of a whole buffer. -/
theorem hz : (![0, 0] : Fin 2 → Nat) = fun _ => 0 := funext fun a => by fin_cases a <;> rfl

variable (c : Dev nD) (i : grid0.Coords)
  (a2 : Memref sig .tc .vmem S512x2048 .f32) (h2 : a2.IsWhole)
  (a3 : Memref sig .tc .vmem S2048x1024 .bf16) (h3 : a3.IsWhole)
  (a4 : Memref sig .tc .vmem S1024x2048 .bf16) (h4 : a4.IsWhole)
  (a5 : Memref sig .tc .vmem S1x2048 .f32) (h5 : a5.IsWhole)
  (a6 : Memref sig .tc .vmem S1x2048 .f32) (h6 : a6.IsWhole)
  (a7 : Memref sig .tc .vmem S512x2048 .f32) (h7 : a7.IsWhole)
  (a8 : Memref sig .tc .vmem S512x2048 .bf16) (h8 : a8.IsWhole)
  (a9 : Memref sig .tc .vmem S512x2048 .f32) (h9 : a9.IsWhole)
  (x0 : Vec F S512x2048 .f32) (x1 : Vec F S2048x1024 .bf16) (x2 : Vec F S1024x2048 .bf16)
  (x3 : Vec F S1x2048 .f32) (x4 : Vec F S1x2048 .f32) (xs0 : Vec F S512x2048 .bf16) (xs1 : Vec F S512x2048 .f32)

/-- Case A leaves the cast row block in the first scratch buffer. -/
theorem sout_A_0 (p : cond0_0 i) (q : ¬cond0_1 i) :
    sout0_A_0 c i a2 h2 a3 h3 a4 h4 a5 h5 a6 h6 a7 h7 a8 h8 a9 h9 p q x0 x1 x2 x3 x4 = k0_pay1 x0 := by
  unfold sout0_A_0
  rw [View.read_writes_eq_canon _ _ _ (scover0_A_0 c i a2 h2 a3 h3 a4 h4 a5 h5 a6 h6 a7 h7 a8 h8 a9 h9 p q x0 x1 x2 x3 x4)]
  unfold kernelRun0_A
  dsimp only
  sl_unfold_words
  rw [View.canon_unit_zero hz]
  simp only [View.readAt_eq_ld, h2.read_unread,
    View.ld_unit_zero (S := S512x2048) hz]

/-- Case A leaves the first column step over the zero block in the accumulator. -/
theorem sout_A_1 (p : cond0_0 i) (q : ¬cond0_1 i) :
    sout0_A_1 c i a2 h2 a3 h3 a4 h4 a5 h5 a6 h6 a7 h7 a8 h8 a9 h9 p q x0 x1 x2 x3 x4 = k0_pay3 (k0_pay1 x0) x1 k0_pay2 x2 := by
  unfold sout0_A_1
  rw [View.read_writes_eq_canon _ _ _ (scover0_A_1 c i a2 h2 a3 h3 a4 h4 a5 h5 a6 h6 a7 h7 a8 h8 a9 h9 p q x0 x1 x2 x3 x4)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread,
    View.ld_unit_zero (S := S512x2048) hz, View.ld_unit_zero (S := S2048x1024) hz, View.ld_unit_zero (S := S1024x2048) hz]

/-- Case B adds its column step to the accumulator. -/
theorem sout_B_1 (p : ¬cond0_0 i) (q : ¬cond0_1 i) :
    sout0_B_1 c i a2 h2 a3 h3 a4 h4 a5 h5 a6 h6 a7 h7 a8 h8 a9 h9 p q x0 x1 x2 x3 x4 xs0 xs1 = k0_pay3 xs0 x1 xs1 x2 := by
  unfold sout0_B_1
  rw [View.read_writes_eq_canon _ _ _ (scover0_B_1 c i a2 h2 a3 h3 a4 h4 a5 h5 a6 h6 a7 h7 a8 h8 a9 h9 p q x0 x1 x2 x3 x4 xs0 xs1)]
  unfold kernelRun0_B
  dsimp only
  sl_unfold_words
  rw [View.canon_unit_zero hz]
  simp only [View.readAt_eq_ld, h2.read_unread, h3.read_unread, h4.read_unread, h8.read_unread, h9.read_unread,
    View.ld_unit_zero (S := S512x2048) hz, View.ld_unit_zero (S := S2048x1024) hz, View.ld_unit_zero (S := S1024x2048) hz]

/-- Case C adds its column step to the accumulator. -/
theorem sout_C_1 (p : ¬cond0_0 i) (q : cond0_1 i) :
    sout0_C_1 c i a2 h2 a3 h3 a4 h4 a5 h5 a6 h6 a7 h7 a8 h8 a9 h9 p q x0 x1 x2 x3 x4 xs0 xs1 = k0_pay3 xs0 x1 xs1 x2 := by
  unfold sout0_C_1
  rw [View.read_writes_eq_canon _ _ _ (scover0_C_1 c i a2 h2 a3 h3 a4 h4 a5 h5 a6 h6 a7 h7 a8 h8 a9 h9 p q x0 x1 x2 x3 x4 xs0 xs1)]
  unfold kernelRun0_C
  dsimp only
  sl_unfold_words
  rw [View.canon_unit_zero hz]
  simp only [View.readAt_eq_ld, h2.read_unread, h3.read_unread, h4.read_unread, h8.read_unread, h9.read_unread,
    View.ld_unit_zero (S := S512x2048) hz, View.ld_unit_zero (S := S2048x1024) hz, View.ld_unit_zero (S := S1024x2048) hz]

/-- Case C leaves in the output block the layer normalisation of the finished sum. -/
theorem out_C (p : ¬cond0_0 i) (q : cond0_1 i) :
    out0_C_5 c i a2 h2 a3 h3 a4 h4 a5 h5 a6 h6 a7 h7 a8 h8 a9 h9 p q x0 x1 x2 x3 x4 xs0 xs1 = k0_pay4 x0 (k0_pay3 xs0 x1 xs1 x2) x3 x4 := by
  unfold out0_C_5
  rw [View.read_writes_eq_canon _ _ _ (cover0_C_5 c i a2 h2 a3 h3 a4 h4 a5 h5 a6 h6 a7 h7 a8 h8 a9 h9 p q x0 x1 x2 x3 x4 xs0 xs1)]
  unfold kernelRun0_C
  dsimp only
  sl_unfold_words
  rw [View.canon_unit_zero hz]
  simp only [View.readCov_unit_zero (S := S512x2048) _ hz, View.readAt_eq_ld, h2.read_unread, h3.read_unread, h4.read_unread, h5.read_unread, h6.read_unread, h8.read_unread, h9.read_unread,
    View.ld_unit_zero (S := S512x2048) hz, View.ld_unit_zero (S := S2048x1024) hz, View.ld_unit_zero (S := S1024x2048) hz, View.ld_unit_zero (S := S1x2048) hz]

end Cert.FfnIdeal.Hand

end
-- ==== Proof.FfnBlocks.lean ====
/-
  The blocks the feed-forward kernel reads at a point of its grid, as entries of the arrays @main was given
  (hand-written): the row block of `h`, the column block of the first matrix, the row block of the second and the layer
  normalisation's two vectors.
-/
module

public import proofs.«01_k».proof.Proof.FfnStep
public import Idealize.ShloMosaic.Lib.Pipeline.ValueKit.Point
public import Idealize.ShloMosaic.Lib.Pointwise.Tactic

@[expose] public section

noncomputable section

open Idealize.ShloMosaic Idealize.ShloMosaic.TcCoe Idealize.SL.Sem

namespace Cert.FfnIdeal.Hand

open Cert.FfnIdeal Cert.FfnIdeal.Gen

/-- Where each window stands at point `t`: row block `t / 8`, column step `t % 8`. -/
theorem idx : ∀ t : Fin cfg0.N, win0_0.index t = ![t.val / 8, 0] ∧ win0_1.index t = ![0, t.val % 8]
    ∧ win0_2.index t = ![t.val % 8, 0] ∧ win0_3.index t = ![0, 0] ∧ win0_4.index t = ![0, 0] := by
  decide +kernel

variable (m : (ℓ : Loc nD τ sig) → Buf (Elt Ideal) ℓ) (c : Dev nD) (t : Fin cfg0.N)

/-- The row block of `h`. -/
theorem blk0 (r : Fin 512) (d : Fin 2048) (R : Fin 16384) (hR : R.val = t.val / 8 * 512 + r.val) :
    (iblk m c 0 t : Vec Ideal S512x2048 .f32) (ix2 r d) = m ((c : Thread nD τ).loc main_arg0) (ix2 R d) := by
  blk_ext [iblk, V, (idx t).1]

/-- The column block of the first matrix. -/
theorem blk1 (d : Fin 2048) (k : Fin 1024) (C : Fin 8192) (hC : C.val = t.val % 8 * 1024 + k.val) :
    (iblk m c 1 t : Vec Ideal S2048x1024 .bf16) (ix2 d k) = m ((c : Thread nD τ).loc main_arg1) (ix2 d C) := by
  blk_simp [iblk, (idx t).2.1]; entry_read; pointwise
  blk_ext [(idx t).2.1]

/-- The row block of the second matrix. -/
theorem blk2 (k : Fin 1024) (d : Fin 2048) (C : Fin 8192) (hC : C.val = t.val % 8 * 1024 + k.val) :
    (iblk m c 2 t : Vec Ideal S1024x2048 .bf16) (ix2 k d) = m ((c : Thread nD τ).loc main_arg2) (ix2 C d) := by
  blk_simp [iblk, (idx t).2.2.1]; entry_read; pointwise
  blk_ext [(idx t).2.2.1]

/-- The layer normalisation's gain. -/
theorem blk3 (d : Fin 2048) :
    (iblk m c 3 t : Vec Ideal S1x2048 .f32) (ix2 0 d) = m ((c : Thread nD τ).loc main_arg3) (ix1 d) := by
  blk_simp [iblk, (idx t).2.2.2.1]; entry_read; pointwise
  blk_ext [(idx t).2.2.2.1]

/-- The layer normalisation's bias. -/
theorem blk4 (d : Fin 2048) :
    (iblk m c 4 t : Vec Ideal S1x2048 .f32) (ix2 0 d) = m ((c : Thread nD τ).loc main_arg4) (ix1 d) := by
  blk_simp [iblk, (idx t).2.2.2.2]; entry_read; pointwise
  blk_ext [(idx t).2.2.2.2]

end Cert.FfnIdeal.Hand

end
-- ==== Proof.FfnValue.lean ====
/-
  The feed-forward call's result, entry by entry, at the extended reals (hand-written). The kernel walks 32 row blocks
  of 512 tokens; within a row block eight column steps each add the product of 1024 squared rectified columns with 1024
  rows of the second matrix to an accumulator, and the eighth stores the layer normalisation. The eight partial sums are
  the whole sum over the 8192 columns, so every entry is `LayerMath.ffnRow` of the token's row.
-/
module

public import proofs.«01_k».proof.Proof.FfnBlocks
public import proofs.«01_k».proof.Proof.LayerMath

@[expose] public section

noncomputable section

open Idealize.ShloMosaic Idealize.ShloMosaic.TcCoe Idealize.SL.Sem

namespace Cert.FfnIdeal.Hand

open Cert.FfnIdeal Cert.FfnIdeal.Gen Cert.LayerMath

/-- What one column step adds to the accumulator at row `r`, column `d`. -/
def part (xb : Vec Ideal S512x2048 .f32) (x1 : Vec Ideal S2048x1024 .bf16) (x2 : Vec Ideal S1024x2048 .bf16) (j : S512x2048.Idx) : EReal :=
  ∑ q : Fin 1024, relu2 (∑ d : Fin 2048, xb (ix2 (j 0) d) * x1 (ix2 d q)) * x2 (ix2 q (j 1))

/-- A column step is an addition of `part`. -/
theorem step_apply (xb : Vec Ideal S512x2048 .f32) (x1 : Vec Ideal S2048x1024 .bf16) (x2 : Vec Ideal S1024x2048 .bf16)
    (acc : Vec Ideal S512x2048 .f32) (j : S512x2048.Idx) :
    k0_pay3 (k0_pay1 xb) x1 acc x2 j = acc j + part xb x1 x2 j := by
  unfold part relu2
  unfold_payloads
  pointwise

/-- `part` over blocks whose entries in row `r` (and column `d`) are known. -/
theorem part_eq (xb : Vec Ideal S512x2048 .f32) (x1 : Vec Ideal S2048x1024 .bf16) (x2 : Vec Ideal S1024x2048 .bf16)
    (r : Fin 512) (d : Fin 2048) (X : Fin 2048 → EReal) (WU : Fin 1024 → Fin 2048 → EReal) (WD : Fin 1024 → EReal)
    (e0 : ∀ e, xb (ix2 r e) = X e) (e1 : ∀ k e, x1 (ix2 e k) = WU k e) (e2 : ∀ k, x2 (ix2 k d) = WD k) :
    part xb x1 x2 (ix2 r d) = ∑ q : Fin 1024, relu2 (∑ e, X e * WU q e) * WD q := by
  have h : part xb x1 x2 (ix2 r d)
      = ∑ q : Fin 1024, relu2 (∑ e : Fin 2048, xb (ix2 r e) * x1 (ix2 e q)) * x2 (ix2 q d) := rfl
  simp only [h, e0, e1, e2]

/-- The block the first step starts from is zero. -/
theorem zero_apply (j : S512x2048.Idx) : (k0_pay2 (F := Ideal)) j = 0 := by
  unfold_payloads
  pointwise

/-- The last step's store is the layer normalisation of each row of `2^(1/4) h + acc`. -/
theorem ln_apply (x0 acc : Vec Ideal S512x2048 .f32) (x3 x4 : Vec Ideal S1x2048 .f32) (r : Fin 512) (d : Fin 2048) :
    k0_pay4 x0 acc x3 x4 (ix2 r d)
      = layerNorm (fun k => alpha * x0 (ix2 r k) + acc (ix2 r k)) (fun k => x3 (ix2 0 k)) (fun k => x4 (ix2 0 k)) d := by
  unfold layerNorm mean alpha
  unfold_payloads
  pointwise

variable (m : (ℓ : Loc nD τ sig) → Buf (Elt Ideal) ℓ) (c : Dev nD)

/-- The grid has 256 points. -/
theorem lt256 (t : Fin cfg0.N) : t.val < 256 := lt_of_lt_of_eq t.isLt (show cfg0.N = 256 from N_0)

/-- The row block of `h` is the same at the eight steps of a row block. -/
theorem blk0_congr (t s : Fin cfg0.N) (h : t.val / 8 = s.val / 8) :
    (iblk m c 0 t : Vec Ideal S512x2048 .f32) = (iblk m c 0 s : Vec Ideal S512x2048 .f32) := by
  refine funext fun j : S512x2048.Idx => ?_
  obtain ⟨r, d, rfl⟩ : ∃ (r : Fin 512) (d : Fin 2048), j = ix2 r d := ⟨j 0, j 1, eq_ix2 j⟩
  have := lt256 t
  exact (blk0 m c t r d ⟨t.val / 8 * 512 + r.val, by omega⟩ rfl).trans
    (blk0 m c s r d ⟨t.val / 8 * 512 + r.val, by omega⟩ (by dsimp only; omega)).symm

/-- The first scratch buffer holds the cast row block of `h` after every point. -/
theorem scratch0 : ∀ (n : ℕ) (hn : n < cfg0.N),
    (outsAt0 m c n hn).2.1 = k0_pay1 (iblk m c 0 ⟨n, hn⟩ : Vec Ideal S512x2048 .f32)
  | n, hn => by
    have hN := lt256 ⟨n, hn⟩
    by_cases h0 : n % 8 = 0
    · rw [outsAt0_A m c ⟨n, hn⟩ h0 (by dsimp only; omega)]
      dsimp only
      rw [sout_A_0]
    · obtain ⟨k, rfl⟩ : ∃ k, n = k + 1 := ⟨n - 1, by omega⟩
      have ih := scratch0 k (Nat.lt_of_succ_lt hn)
      have hb := blk0_congr m c ⟨k, Nat.lt_of_succ_lt hn⟩ ⟨k + 1, hn⟩ (by dsimp only; omega)
      by_cases h1 : (k + 1) % 8 = 7
      · rw [outsAt0_C m c ⟨k + 1, hn⟩ h0 h1]
        dsimp only
        unfold sout0_C_0
        exact ih.trans (congrArg _ hb)
      · rw [outsAt0_B m c ⟨k + 1, hn⟩ h0 h1]
        dsimp only
        unfold sout0_B_0
        exact ih.trans (congrArg _ hb)

/-- What the step at point `t` adds, over the blocks of that point. -/
def term (t : Fin cfg0.N) (j : S512x2048.Idx) : EReal := part (iblk m c 0 t) (iblk m c 1 t) (iblk m c 2 t) j

/-- The scratch the step at a later point of a row block takes: the cast rows of its own block. -/
theorem scratch0_pred (t : Fin cfg0.N) (h0 : ¬t.val % 8 = 0) (hp : t.val - 1 < cfg0.N) :
    (outsAt0 m c (t.val - 1) hp).2.1 = k0_pay1 (iblk m c 0 t : Vec Ideal S512x2048 .f32) :=
  (scratch0 m c _ _).trans (congrArg _ (blk0_congr m c _ t (by dsimp only; omega)))

/-- The accumulator after the first step of a row block. -/
theorem acc_first (t : Fin cfg0.N) (h : t.val % 8 = 0) (j : S512x2048.Idx) :
    (outsAt0 m c t.val t.isLt).2.2 j = 0 + term m c t j := by
  rw [outsAt0_A m c t h (by omega)]
  dsimp only
  rw [sout_A_1, step_apply, zero_apply]
  rfl

/-- The accumulator after a later step. -/
theorem acc_step (t : Fin cfg0.N) (h : ¬t.val % 8 = 0) (j : S512x2048.Idx) :
    (outsAt0 m c t.val t.isLt).2.2 j
      = (outsAt0 m c (t.val - 1) (Nat.lt_of_le_of_lt (Nat.sub_le _ _) t.isLt)).2.2 j + term m c t j := by
  by_cases h1 : t.val % 8 = 7
  · rw [outsAt0_C m c t h h1]
    dsimp only
    rw [sout_C_1, scratch0_pred m c t h, step_apply]
    rfl
  · rw [outsAt0_B m c t h h1]
    dsimp only
    rw [sout_B_1, scratch0_pred m c t h, step_apply]
    rfl

/-- The accumulator after the last step of a row block: the sum of the eight steps. -/
theorem acc_last (t : Fin cfg0.N) (h : t.val % 8 = 7) (j : S512x2048.Idx) :
    (outsAt0 m c t.val t.isLt).2.2 j
      = ∑ s : Fin 8, term m c ⟨8 * (t.val / 8) + s.val, Pipeline.run_point_lt_of_flush (J := 8) t h s⟩ j :=
  (Pipeline.eq_sum_fin_of_reset_step_apply_of_flush (fun n hn => (outsAt0 m c n hn).2.2) 8 (fun _ => (0 : EReal)) (term m c)
    (acc_first m c) (acc_step m c) t h j).trans (zero_add _)

/-- The output block after the last step of a row block: the layer normalisation over the finished accumulator. -/
theorem out_last (t : Fin cfg0.N) (h : t.val % 8 = 7) :
    (outsAt0 m c t.val t.isLt).1
      = k0_pay4 (iblk m c 0 t) (outsAt0 m c t.val t.isLt).2.2 (iblk m c 3 t) (iblk m c 4 t) := by
  rw [outsAt0_C m c t (by omega) h]
  dsimp only
  rw [out_C, sout_C_1]

/-- The feed-forward of token `R` over @main's arguments. -/
def G (m : (ℓ : Loc nD τ sig) → Buf (Elt Ideal) ℓ) (c : Dev nD) (R : Fin 16384) (d : Fin 2048) : EReal :=
  ffnRow (arr (m ((c : Thread nD τ).loc main_arg0)) R) (arr (m ((c : Thread nD τ).loc main_arg1)))
    (arr (m ((c : Thread nD τ).loc main_arg2))) (fun k => m ((c : Thread nD τ).loc main_arg3) (ix1 k))
    (fun k => m ((c : Thread nD τ).loc main_arg4) (ix1 k)) d

/-- The eight steps of a row block add up to the product of the squared rectified columns with the second matrix. -/
theorem acc_eq (t : Fin cfg0.N) (h : t.val % 8 = 7) (r : Fin 512) (d : Fin 2048) (R : Fin 16384) (hR : R.val = t.val / 8 * 512 + r.val) :
    (outsAt0 m c t.val t.isLt).2.2 (ix2 r d)
      = ∑ q : Fin 8192, hiddenCol (arr (m ((c : Thread nD τ).loc main_arg0)) R) (arr (m ((c : Thread nD τ).loc main_arg1))) q
          * m ((c : Thread nD τ).loc main_arg2) (ix2 q d) := by
  rw [acc_last m c t h]
  have key : ∀ s : Fin 8, term m c ⟨8 * (t.val / 8) + s.val, Pipeline.run_point_lt_of_flush (J := 8) t h s⟩ (ix2 r d)
      = ∑ k : Fin 1024, hiddenCol (arr (m ((c : Thread nD τ).loc main_arg0)) R) (arr (m ((c : Thread nD τ).loc main_arg1))) ⟨s.val * 1024 + k.val, by omega⟩
          * m ((c : Thread nD τ).loc main_arg2) (ix2 ⟨s.val * 1024 + k.val, by omega⟩ d) := fun s => by
    have hs : (8 * (t.val / 8) + s.val) / 8 = t.val / 8 := by omega
    have hm : (8 * (t.val / 8) + s.val) % 8 = s.val := by omega
    exact part_eq _ _ _ r d _ _ _
      (fun e => blk0 m c _ r e R (by dsimp only; rw [hs, hR]))
      (fun k e => blk1 m c _ e k ⟨s.val * 1024 + k.val, by omega⟩ (by dsimp only; rw [hm]))
      (fun k => blk2 m c _ k d ⟨s.val * 1024 + k.val, by omega⟩ (by dsimp only; rw [hm]))
  exact (Finset.sum_congr rfl fun s _ => key s).trans (Fin.sum_mul_add_fin 8 1024 (fun q : Fin 8192 =>
    hiddenCol (arr (m ((c : Thread nD τ).loc main_arg0)) R) (arr (m ((c : Thread nD τ).loc main_arg1))) q
      * m ((c : Thread nD τ).loc main_arg2) (ix2 q d)))

/-- Every entry of the result array is the feed-forward of its token's row. -/
theorem result (R : Fin 16384) (d : Fin 2048) : Value.G5 m c (ix2 R d) = G m c R d := by
  have hR := R.isLt
  have hd := d.isLt
  unfold Value.G5
  have hpt : Value.pt5Of (ix2 R d) = 8 * (R.val / 512) + 7 := by
    show 8 * (1 * (R.val / 512 - 0) + 1 * (d.val / 2048 - 0)) + 7 = _
    omega
  have hN : cfg0.N = 256 := N_0
  have hlt : 8 * (R.val / 512) + 7 < cfg0.N := by omega
  rw [dif_pos (by rw [hpt]; exact hlt), ← Value.outsAt0_sweep m c _ (by rw [hpt]; exact hlt)]
  have hloc : Value.loc5Of (ix2 R d) = ix2 ⟨R.val % 512, Nat.mod_lt _ (by decide)⟩ d := by
    funext a
    match a with
    | ⟨0, _⟩ => rfl
    | ⟨1, _⟩ => exact Fin.ext (Nat.mod_eq_of_lt hd)
  simp only [hpt]
  rw [hloc]
  have h3 : (⟨8 * (R.val / 512) + 7, hlt⟩ : Fin cfg0.N).val % 8 = 7 := by dsimp only; omega
  have hR' : R.val = (⟨8 * (R.val / 512) + 7, hlt⟩ : Fin cfg0.N).val / 8 * 512 + (⟨R.val % 512, Nat.mod_lt _ (by decide)⟩ : Fin 512).val := by
    dsimp only; omega
  rw [out_last m c ⟨8 * (R.val / 512) + 7, hlt⟩ h3, ln_apply]
  unfold G ffnRow
  congr 1
  · funext k
    rw [blk0 m c _ _ k R hR', acc_eq m c _ h3 _ k R hR']
  · funext k
    exact blk3 m c _ k
  · funext k
    exact blk4 m c _ k

end Cert.FfnIdeal.Hand

end
-- ==== Proof.FfnRef.lean ====
/-
  The feed-forward reference's result, entry by entry, at the extended reals (hand-written): `LayerMath.ffnRow` of the
  token's row.
-/
module

public import proofs.«01_k».proof.Proof.LayerMath
public import proofs.«01_k».proof.Proof.Gen.FfnRefIdeal.Run

@[expose] public section

noncomputable section

open Idealize.ShloMosaic Idealize.ShloMosaic.TcCoe Idealize.SL.Sem

namespace Cert.FfnRefIdeal.Hand

open Cert.FfnRefIdeal Cert.FfnRefIdeal.Gen Cert.LayerMath

/-- Every entry of the reference's result is the feed-forward of its token's row. -/
theorem result (m : (ℓ : Loc nD τ sig) → Buf (Elt Ideal) ℓ) (c : Dev nD) (R : Fin 16384) (d : Fin 2048) :
    (Value.res_out0 m c : FVec Ideal S16384x2048 .f32) (ix2 R d)
      = ffnRow (fun k => m ((c : Thread nD τ).loc main_arg0) (ix2 R k)) (fun i k => m ((c : Thread nD τ).loc main_arg1) (ix2 i k))
          (fun i k => m ((c : Thread nD τ).loc main_arg2) (ix2 i k)) (fun k => m ((c : Thread nD τ).loc main_arg3) (ix1 k))
          (fun k => m ((c : Thread nD τ).loc main_arg4) (ix1 k)) d := by
  unfold Value.res_out0 Value.res_main_v30 ffnRow
  refine (hostLN _ _ _ _ _ _ _ _ _ _ R d).trans ?_
  refine congrArg (fun z : Fin 2048 → EReal => layerNorm z (fun k => m ((c : Thread nD τ).loc main_arg3) (ix1 k))
    (fun k => m ((c : Thread nD τ).loc main_arg4) (ix1 k)) d) (funext fun k => ?_)
  unfold alpha hiddenCol relu2
  pointwise

end Cert.FfnRefIdeal.Hand

end
-- ==== Proof.FfnClaims.lean ====
/-
  The claims of the feed-forward call (hand-written): the frames, and that its result is the reference's at the extended reals.
-/
module

public import proofs.«01_k».proof.Defs
public import proofs.«01_k».proof.Proof.FfnValue
public import proofs.«01_k».proof.Proof.FfnRef
public import proofs.«01_k».proof.Proof.Gen.Ffn.Frame
public import Idealize.ShloMosaic.Lib.Quiescent

@[expose] public section

noncomputable section

open Idealize.ShloMosaic Idealize.ShloMosaic.TcCoe Idealize.SL.Sem

namespace Cert.Proof.Ffn

/-- The feed-forward kernel as printed runs, keeps its arguments and ends with every counter at zero. -/
theorem frame_bits : Cert.quiescent_Ffn := fun m ρ _ => Cert.Ffn.Gen.frame m ρ

/-- The same of the kernel at the extended reals. -/
theorem frame_ideal : Cert.quiescent_FfnIdeal := fun m ρ _ => Cert.FfnIdeal.Gen.frame m ρ

/-- The reference runs and keeps its arguments; it declares no semaphore. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- From arguments that agree the kernel and the reference end with equal results, every entry being
    `LayerMath.ffnRow` of its token's row. -/
theorem algebraic : Cert.algebraic_FfnIdeal_FfnRefIdeal := fun m ρ m' ρ' _ hag =>
  ⟨fun c => Cert.FfnIdeal.Value.G5 m c, Cert.FfnIdeal.Value.run (F := Ideal) m ρ,
    (θ_run Cert.FfnRefIdeal.defs _ _).mono (fun r h c => ⟨(h c).1.trans (funext fun j => by
        obtain ⟨R, d, rfl⟩ : ∃ (R : Fin 16384) (d : Fin 2048), j = ix2 R d := ⟨j 0, j 1, eq_ix2 j⟩
        obtain ⟨e0, e1, e2, e3, e4⟩ := hag c
        refine (Cert.FfnRefIdeal.Hand.result m' c R d).trans ((Cert.FfnIdeal.Hand.result m c R d).trans ?_).symm
        rw [e0, e1, e2, e3, e4]
        rfl), (h c).2⟩)
      (Cert.FfnRefIdeal.Value.run (F := Ideal) m' ρ')⟩

end Cert.Proof.Ffn

end
-- ==== Proof.InprojValue.lean ====
/-
  The packed input projection of the prompt, entry by entry, at the extended reals (hand-written). The kernel walks 16
  row blocks of 1024 tokens and four column steps of 1280 columns; the first step of a row block keeps the cast rows of
  `x` in a scratch buffer, and every step stores the product of those rows with its 1280 columns of `w_in`. The lines
  after the call slice the last token's shift columns out of the result.
-/
module

public import proofs.«01_k».proof.Proof.Gen.InprojIdeal.Frame
public import Idealize.ShloMosaic.Lib.Pipeline.Value
public import Idealize.ShloMosaic.Lib.Tactic
public import Idealize.ShloMosaic.Lib.Pipeline.ValueKit.Point
public import Idealize.ShloMosaic.Lib.Pointwise.Tactic

@[expose] public section

noncomputable section

open Idealize.ShloMosaic Idealize.ShloMosaic.TcCoe Idealize.SL.Sem

namespace Cert.InprojIdeal.Hand

open Cert.InprojIdeal Cert.InprojIdeal.Gen

/-- The two zero offsets of a load or store of a whole buffer. -/
theorem hz : (![0, 0] : Fin 2 → Nat) = fun _ => 0 := funext fun a => by fin_cases a <;> rfl

section Step

variable {F : FTy → Type} [FloatOps F]
variable (c : Dev nD) (i : grid0.Coords)
  (a2 : Memref sig .tc .vmem S1024x2048 .f32) (h2 : a2.IsWhole)
  (a3 : Memref sig .tc .vmem S1280x2048 .bf16) (h3 : a3.IsWhole)
  (a4 : Memref sig .tc .vmem S1024x1280 .bf16) (h4 : a4.IsWhole)
  (a5 : Memref sig .tc .vmem S1024x2048 .bf16) (h5 : a5.IsWhole)
  (x0 : Vec F S1024x2048 .f32) (x1 : Vec F S1280x2048 .bf16) (xs0 : Vec F S1024x2048 .bf16)

/-- The first column step leaves the cast row block in the scratch buffer. -/
theorem sout_A (p : cond0_0 i) : sout0_A_0 c i a2 h2 a3 h3 a4 h4 a5 h5 p x0 x1 = k0_pay1 x0 := by
  unfold sout0_A_0
  rw [View.read_writes_eq_canon _ _ _ (scover0_A_0 c i a2 h2 a3 h3 a4 h4 a5 h5 p x0 x1)]
  unfold kernelRun0_A
  dsimp only
  sl_unfold_words
  rw [View.canon_unit_zero hz]
  simp only [View.readAt_eq_ld, h2.read_unread, View.ld_unit_zero (S := S1024x2048) hz]

/-- The first column step stores the product of the cast rows with its columns. -/
theorem out_A (p : cond0_0 i) : out0_A_2 c i a2 h2 a3 h3 a4 h4 a5 h5 p x0 x1 = k0_pay2 (k0_pay1 x0) x1 := by
  unfold out0_A_2
  rw [View.read_writes_eq_canon _ _ _ (cover0_A_2 c i a2 h2 a3 h3 a4 h4 a5 h5 p x0 x1)]
  unfold kernelRun0_A
  dsimp only
  sl_unfold_words
  rw [View.canon_unit_zero hz]
  simp only [View.readCov_unit_zero (S := S1024x2048) _ hz, View.readAt_eq_ld, h2.read_unread, h3.read_unread,
    View.ld_unit_zero (S := S1024x2048) hz, View.ld_unit_zero (S := S1280x2048) hz]

/-- A later column step stores the product of the scratch buffer with its columns. -/
theorem out_B (p : ¬cond0_0 i) : out0_B_2 c i a2 h2 a3 h3 a4 h4 a5 h5 p x0 x1 xs0 = k0_pay2 xs0 x1 := by
  unfold out0_B_2
  rw [View.read_writes_eq_canon _ _ _ (cover0_B_2 c i a2 h2 a3 h3 a4 h4 a5 h5 p x0 x1 xs0)]
  unfold kernelRun0_B
  dsimp only
  sl_unfold_words
  rw [View.canon_unit_zero hz]
  simp only [View.readAt_eq_ld, h3.read_unread, h5.read_unread,
    View.ld_unit_zero (S := S1024x2048) hz, View.ld_unit_zero (S := S1280x2048) hz]

end Step

/-- Where each window stands at point `t`: row block `t / 4`, column step `t % 4`. -/
theorem idx : ∀ t : Fin cfg0.N, win0_0.index t = ![t.val / 4, 0] ∧ win0_1.index t = ![t.val % 4, 0]
    ∧ win0_2.index t = ![t.val / 4, t.val % 4] := by
  decide +kernel

/-- Every point writes its output block back. -/
theorem flush_all : ∀ t : Fin cfg0.N, (cfg0.win 2).flush t = true := by
  decide +kernel

variable (m : (ℓ : Loc nD τ sig) → Buf (Elt Ideal) ℓ) (c : Dev nD) (t : Fin cfg0.N)

/-- Token `R` of the flattened prompt. -/
def X (R : Fin 16384) (d : Fin 2048) : EReal :=
  m ((c : Thread nD τ).loc main_arg0) (ix3 ⟨R.val / 8192, by omega⟩ ⟨R.val % 8192, by omega⟩ d)

/-- The row block of `x`. -/
theorem blk0 (r : Fin 1024) (d : Fin 2048) (R : Fin 16384) (hR : R.val = t.val / 4 * 1024 + r.val) :
    (iblk m c 0 t : Vec Ideal S1024x2048 .f32) (ix2 r d) = X m c R d := by
  unfold X
  blk_simp [iblk, (idx t).1]
  simp only [V, V0, List.flatten_cons, List.flatten_nil, List.append_nil]
  entry_read; pointwise
  blk_ext [(idx t).1]

/-- The 1280 columns of `w_in` of a column step. -/
theorem blk1 (q : Fin 1280) (d : Fin 2048) (C : Fin 8992) (hC : C.val = t.val % 4 * 1280 + q.val) :
    (X0_1 m c t : Vec Ideal S1280x2048 .bf16) (ix2 q d) = m ((c : Thread nD τ).loc main_arg1) (ix2 d C) := by
  unfold X0_1 Pipeline.Window.fill
  rw [dif_pos (moved0_1 t _)]
  blk_simp [iblk, (idx t).2.1]
  simp only [V, V0, List.flatten_cons, List.flatten_nil, List.append_nil]
  entry_read; pointwise
  blk_ext [(idx t).2.1]

/-- The row block of `x` is the same at the four steps of a row block. -/
theorem blk0_congr (t s : Fin cfg0.N) (h : t.val / 4 = s.val / 4) :
    (iblk m c 0 t : Vec Ideal S1024x2048 .f32) = (iblk m c 0 s : Vec Ideal S1024x2048 .f32) := by
  refine funext fun j : S1024x2048.Idx => ?_
  obtain ⟨r, d, rfl⟩ : ∃ (r : Fin 1024) (d : Fin 2048), j = ix2 r d := ⟨j 0, j 1, eq_ix2 j⟩
  have := lt_of_lt_of_eq t.isLt (show cfg0.N = 64 from N_0)
  exact (blk0 m c t r d ⟨t.val / 4 * 1024 + r.val, by omega⟩ rfl).trans
    (blk0 m c s r d ⟨t.val / 4 * 1024 + r.val, by omega⟩ (by dsimp only; omega)).symm

/-- The scratch buffer holds the cast row block of `x` after every point. -/
theorem scratch0 : ∀ (n : ℕ) (hn : n < cfg0.N),
    (outsAt0 m c n hn).2 = k0_pay1 (iblk m c 0 ⟨n, hn⟩ : Vec Ideal S1024x2048 .f32)
  | n, hn => by
    by_cases h0 : n % 4 = 0
    · rw [outsAt0_A m c ⟨n, hn⟩ h0]
      dsimp only
      rw [sout_A]
    · obtain ⟨k, rfl⟩ : ∃ k, n = k + 1 := ⟨n - 1, by omega⟩
      have ih := scratch0 k (Nat.lt_of_succ_lt hn)
      have hb := blk0_congr m c ⟨k, Nat.lt_of_succ_lt hn⟩ ⟨k + 1, hn⟩ (by dsimp only; omega)
      rw [outsAt0_B m c ⟨k + 1, hn⟩ h0]
      dsimp only
      unfold sout0_B_0
      exact ih.trans (congrArg _ hb)

/-- What every point stores: the product of its cast row block with its columns. -/
theorem out_eq : (outsAt0 m c t.val t.isLt).1
    = k0_pay2 (k0_pay1 (iblk m c 0 t : Vec Ideal S1024x2048 .f32)) (X0_1 m c t) := by
  by_cases h0 : t.val % 4 = 0
  · rw [outsAt0_A m c t h0]
    dsimp only
    rw [out_A]
  · rw [outsAt0_B m c t h0]
    dsimp only
    rw [out_B, scratch0, blk0_congr m c _ t (by dsimp only; omega)]

/-- A point's product, entry by entry. -/
theorem pay_apply (x0 : Vec Ideal S1024x2048 .f32) (x1 : Vec Ideal S1280x2048 .bf16) (r : Fin 1024) (q : Fin 1280) :
    k0_pay2 (k0_pay1 x0) x1 (ix2 r q) = ∑ d : Fin 2048, x0 (ix2 r d) * x1 (ix2 q d) := by
  unfold_payloads
  pointwise

/-- The packed projection of token `R` at column `C`. -/
def proj (R : Fin 16384) (C : Fin 8992) : EReal :=
  ∑ d : Fin 2048, X m c R d * m ((c : Thread nD τ).loc main_arg1) (ix2 d C)

/-- The packed projection of every token: the first 5120 columns of `x @ w_in`. -/
def G : Buf (Elt Ideal) ((c : Thread nD τ).loc main_v3) := fun i : S16384x5120.Idx =>
  proj m c (i 0) ((i 1).castLE (by decide))

/-- Membership in a point's output block. -/
theorem mem_blk2 (i : S16384x5120.Idx) :
    i ∈ ((cfg0.win 2).blk t).view.set ↔ ∀ a : Fin 2, win0_2.index t a * S1024x1280.size a ≤ (i a).val
      ∧ (i a).val < win0_2.index t a * S1024x1280.size a + S1024x1280.size a := by
  show i ∈ ((View.whole main_v3).slice (win0_2.rect t)).set ↔ _
  rw [View.set_slice_whole, Rect.mem_set_unit]
  exact Iff.rfl

/-- What a point writes back is its block of `G`. -/
theorem flushed_eq : (dats m 0 c).flushed 2 t = ((cfg0.win 2).blk t).view.read (Elt Ideal) (G m c) := by
  show (cfg0.win 2).cut (grid0.coords t) ((dats m 0 c).after 2 t) = _
  rw [after0_2, out_eq]
  refine funext fun y : S1024x1280.Idx => ?_
  obtain ⟨r, q, rfl⟩ : ∃ (r : Fin 1024) (q : Fin 1280), y = ix2 r q := ⟨y 0, y 1, eq_ix2 y⟩
  have hN := lt_of_lt_of_eq t.isLt (show cfg0.N = 64 from N_0)
  have e := (idx t).2.2
  have hemb : ((cfg0.win 2).blk t).view.emb (ix2 r q)
      = (ix2 ⟨t.val / 4 * 1024 + r.val, by omega⟩ ⟨t.val % 4 * 1280 + q.val, by omega⟩ : S16384x5120.Idx) := by
    funext a
    apply Fin.ext
    match a with
    | ⟨0, _⟩ => show win0_2.index t 0 * 1024 + 1 * r.val = _; rw [e]; simp
    | ⟨1, _⟩ => show win0_2.index t 1 * 1280 + 1 * q.val = _; rw [e]; simp
  show k0_pay2 (k0_pay1 (iblk m c 0 t : Vec Ideal S1024x2048 .f32)) (X0_1 m c t) (ix2 r q)
    = G m c (((cfg0.win 2).blk t).view.emb (ix2 r q))
  rw [hemb, pay_apply]
  exact Finset.sum_congr rfl fun d _ => congrArg₂ _ (blk0 m c t r d _ rfl) (blk1 m c t q d _ rfl)

/-- The call's result is `G`. -/
theorem final : (dats m 0 c).arrAt 2 cfg0.N = G m c :=
  (dats m 0 c).arrAt_eq_of_cover 2 _ (fun t _ => flushed_eq m c t) fun (i : S16384x5120.Idx) => by
    have h0 : (i 0).val < 16384 := (i 0).isLt
    have h1 : (i 1).val < 5120 := (i 1).isLt
    refine ⟨⟨4 * ((i 0).val / 1024) + (i 1).val / 1280, lt_of_lt_of_eq (by omega) N_0.symm⟩, flush_all _, ?_⟩
    rw [mem_blk2]
    intro a
    rw [(idx _).2.2]
    match a with
    | ⟨0, _⟩ =>
      show (4 * ((i 0).val / 1024) + (i 1).val / 1280) / 4 * 1024 ≤ (i 0).val
        ∧ (i 0).val < (4 * ((i 0).val / 1024) + (i 1).val / 1280) / 4 * 1024 + 1024
      omega
    | ⟨1, _⟩ =>
      show (4 * ((i 0).val / 1024) + (i 1).val / 1280) % 4 * 1280 ≤ (i 1).val
        ∧ (i 1).val < (4 * ((i 0).val / 1024) + (i 1).val / 1280) % 4 * 1280 + 1280
      omega

/-- The new shift state of sequence `b`: the projection's columns 1536–4895 at its last token. -/
def shift : Buf (Elt Ideal) ((c : Thread nD τ).loc main_v8) := fun i : S2x3360.Idx =>
  proj m c ⟨(i 0).val * 8192 + 8191, by have := (i 0).isLt; have : (i 0).val < 2 := this; omega⟩
    ⟨1536 + (i 1).val, by have := (i 1).isLt; have : (i 1).val < 3360 := this; omega⟩

/-- Token 8191 of sequence `b`, read through the flattened prompt. -/
theorem X_last (b : Fin 2) (d : Fin 2048) (h : b.val * 8192 + 8191 < 16384) :
    X m c ⟨b.val * 8192 + 8191, h⟩ d = m ((c : Thread nD τ).loc main_arg0) (ix3 b (8191 : Fin 8192) d) := by
  have h1 : (⟨(b.val * 8192 + 8191) / 8192, by omega⟩ : Fin 2) = b := Fin.ext (by dsimp only; omega)
  have h2 : (⟨(b.val * 8192 + 8191) % 8192, by omega⟩ : Fin 8192) = 8191 := Fin.ext (by
    show (b.val * 8192 + 8191) % 8192 = 8191
    omega)
  unfold X
  dsimp only
  rw [h1, h2]

/-- The lines after the call take the shift columns of each sequence's last token. -/
theorem slice_apply (g : FVec Ideal S16384x5120 .bf16) (b : Fin 2) (k : Fin 3360) :
    (extf .f32 (extractStridedSlice S2x3360 ![0, 1536] (fun i => shapeCast S2x5120
        (extractStridedSlice S2x1x5120 ![0, 8191, 0] (fun i => shapeCast S2x8192x5120 g
          shapeCasts_S16384x5120_S2x8192x5120 i) slices_S2x8192x5120_S2x1x5120_0_8191_0)
        shapeCasts_S2x1x5120_S2x5120 i) slices_S2x5120_S2x3360_0_1536) bitsLt_bf16_f32 : FVec Ideal S2x3360 .f32) (ix2 b k)
      = g (ix2 ⟨b.val * 8192 + 8191, by omega⟩ ⟨1536 + k.val, by omega⟩) := by
  have hb := b.isLt
  have hk := k.isLt
  show extractStridedSlice S2x3360 ![0, 1536] (shapeCast S2x5120
        (extractStridedSlice S2x1x5120 ![0, 8191, 0] (shapeCast S2x8192x5120 g
          shapeCasts_S16384x5120_S2x8192x5120) slices_S2x8192x5120_S2x1x5120_0_8191_0)
        shapeCasts_S2x1x5120_S2x5120) slices_S2x5120_S2x3360_0_1536 (ix2 b k) = _
  refine (extractStridedSlice_apply _ _ _ _ (ix2 b ⟨1536 + k.val, by omega⟩) fun a => ?_).trans
    ((shapeCast_apply _ _ _ (ix3 b (0 : Fin 1) ⟨1536 + k.val, by omega⟩) ?_).trans
    ((extractStridedSlice_apply _ _ _ _ (ix3 b (⟨8191, by omega⟩ : Fin 8192) ⟨1536 + k.val, by omega⟩) fun a => ?_).trans
    (shapeCast_apply _ _ _ (ix2 ⟨b.val * 8192 + 8191, by omega⟩ ⟨1536 + k.val, by omega⟩) ?_)))
  · match a with
    | ⟨0, _⟩ => exact (Nat.zero_add _).symm
    | ⟨1, _⟩ => rfl
  · rw [Shape.rowMajor_val_two, Shape.rowMajor_val_three]
    show (b.val * 1 + 0) * 5120 + (1536 + k.val) = b.val * 5120 + (1536 + k.val)
    omega
  · match a with
    | ⟨0, _⟩ => exact (Nat.zero_add _).symm
    | ⟨1, _⟩ => rfl
    | ⟨2, _⟩ => exact (Nat.zero_add _).symm
  · rw [Shape.rowMajor_val_two, Shape.rowMajor_val_three]
    show (b.val * 8192 + 8191) * 5120 + (1536 + k.val) = (b.val * 8192 + 8191) * 5120 + (1536 + k.val)
    rfl

/-- The lines after the call leave the shift state in their last buffer. -/
theorem tail_shift : Pipeline.afterTail₀ cfgs (dats m) 0 (V0 m) [hostOps1] c main_v8 = shift m c := by
  unfold Pipeline.afterTail₀
  simp only [List.flatten_cons, List.flatten_nil, List.append_nil]
  entry_read
  have e : Pipeline.withArrays (cfgs 0).spec c (V0 m c) (fun w => (dats m 0 c).arrAt w (cfgs 0).N) (Proc.devRef .tc main_v3)
      = G m c :=
    (Pipeline.withArrays_arr spec0 launch0.win.arr_inj c (V0 m c) _ 2).trans (final m c)
  rw [e]
  refine funext fun i : S2x3360.Idx => ?_
  obtain ⟨b, k, rfl⟩ : ∃ (b : Fin 2) (k : Fin 3360), i = ix2 b k := ⟨i 0, i 1, eq_ix2 i⟩
  exact slice_apply (G m c) b k

/-- The run of the kernel: both results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_v8) = shift m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.2 c).1 2 |>.trans (final m c),
      ((h.2 c).2 main_v8 (Pipeline.mem_restRefs_of main_v8 (by decide) (by decide))).trans (tail_shift m c), h.1 c⟩)
    (θ_run_and (unchanged m ρ) (run_main m ρ))

end Cert.InprojIdeal.Hand

end
-- ==== Proof.InprojRef.lean ====
/-
  The prompt's input projection as the reference writes it, entry by entry, at the extended reals (hand-written).
-/
module

public import proofs.«01_k».proof.Proof.Gen.InprojRefIdeal.Run
public import Idealize.ShloMosaic.Lib.Pipeline.ValueKit.Point
public import Idealize.ShloMosaic.Lib.Pointwise.Tactic

@[expose] public section

noncomputable section

open Idealize.ShloMosaic Idealize.ShloMosaic.TcCoe Idealize.SL.Sem

namespace Cert.InprojRefIdeal.Hand

open Cert.InprojRefIdeal Cert.InprojRefIdeal.Gen

/-- The packed projection of token `R` at a column below 5120. -/
theorem packed (x : FVec Ideal S2x8192x2048 .f32) (w : FVec Ideal S2048x8992 .f32) (R : Fin 16384) (C : Fin 5120) :
    (truncf .bf16 (extractStridedSlice S16384x5120 ![0, 0] (shapeCast _ (Host.dotGeneral
        dot_S2x8192x2048_S2048x8992_S2x8192x8992_2_0_01_1_n_n none x w) shapeCasts_S2x8192x8992_S16384x8992)
        slices_S16384x8992_S16384x5120_0_0) bitsLt_bf16_f32 : FVec Ideal S16384x5120 .bf16) (ix2 R C)
      = ∑ d : Fin 2048, x (ix3 ⟨R.val / 8192, by omega⟩ ⟨R.val % 8192, by omega⟩ d) * w (ix2 d (C.castLE (by decide))) := by
  pointwise
  rfl

set_option maxRecDepth 65536 in
/-- The shift columns of the last token of sequence `b`. -/
theorem shift (x : FVec Ideal S2x8192x2048 .f32) (w : FVec Ideal S2048x8992 .f32) (b : Fin 2) (k : Fin 3360) :
    (shapeCast _ (extractStridedSlice S2x1x3360 ![0, 8191, 1536] (Host.dotGeneral
        dot_S2x8192x2048_S2048x8992_S2x8192x8992_2_0_01_1_n_n none x w)
        slices_S2x8192x8992_S2x1x3360_0_8191_1536) shapeCasts_S2x1x3360_S2x3360 : FVec Ideal S2x3360 .f32) (ix2 b k)
      = ∑ d : Fin 2048, x (ix3 b (8191 : Fin 8192) d) * w (ix2 d ⟨1536 + k.val, by omega⟩) := by
  pointwise

end Cert.InprojRefIdeal.Hand

end
-- ==== Proof.InprojClaims.lean ====
/-
  The claims of the prompt's input projection (hand-written): the frames, and that the packed projection and the new
  shift state are the reference's at the extended reals.
-/
module

public import proofs.«01_k».proof.Defs
public import proofs.«01_k».proof.Proof.InprojValue
public import proofs.«01_k».proof.Proof.InprojRef
public import proofs.«01_k».proof.Proof.Gen.Inproj.Frame
public import Idealize.ShloMosaic.Lib.Quiescent

@[expose] public section

noncomputable section

open Idealize.ShloMosaic Idealize.ShloMosaic.TcCoe Idealize.SL.Sem

namespace Cert.Proof.Inproj

/-- The projection as printed runs, keeps its arguments and ends with every counter at zero. -/
theorem frame_bits : Cert.quiescent_Inproj := fun m ρ _ => Cert.Inproj.Gen.frame m ρ

/-- The same of the kernel at the extended reals. -/
theorem frame_ideal : Cert.quiescent_InprojIdeal := fun m ρ _ => Cert.InprojIdeal.Gen.frame m ρ

/-- The reference runs and keeps its arguments; it declares no semaphore. -/
theorem frame_ref : Cert.quiescent_InprojRefIdeal := fun m ρ _ =>
  (θ_run Cert.InprojRefIdeal.defs _ _).mono (fun r h => ⟨fun c => (h c).2.2, sem_eq_zero_of_no_sems (by decide) r.2⟩)
    (Cert.InprojRefIdeal.Value.run (F := Ideal) m ρ)

/-- From arguments that agree the kernel and the reference end with equal packed projections and equal shift states:
    every entry is a token's row times a column of `w_in`. -/
theorem algebraic : Cert.algebraic_InprojIdeal_InprojRefIdeal := fun m ρ m' ρ' _ hag =>
  ⟨fun c => Cert.InprojIdeal.Hand.G m c, fun c => Cert.InprojIdeal.Hand.shift m c, Cert.InprojIdeal.Hand.run m ρ,
    (θ_run Cert.InprojRefIdeal.defs _ _).mono (fun r h c => ⟨(h c).1.trans (funext fun j => by
        obtain ⟨R, C, rfl⟩ : ∃ (R : Fin 16384) (C : Fin 5120), j = ix2 R C := ⟨j 0, j 1, eq_ix2 j⟩
        obtain ⟨e0, e1⟩ := hag c
        rw [e0, e1]
        exact Cert.InprojRefIdeal.Hand.packed _ _ R C),
      (h c).2.1.trans (funext fun j => by
        obtain ⟨b, k, rfl⟩ : ∃ (b : Fin 2) (k : Fin 3360), j = ix2 b k := ⟨j 0, j 1, eq_ix2 j⟩
        obtain ⟨e0, e1⟩ := hag c
        rw [e0, e1]
        exact (Cert.InprojRefIdeal.Hand.shift _ _ b k).trans
          (Finset.sum_congr rfl fun d _ => congrArg₂ (fun u v : EReal => u * v) (Cert.InprojIdeal.Hand.X_last m c b d (by omega)).symm rfl)), (h c).2.2⟩)
      (Cert.InprojRefIdeal.Value.run (F := Ideal) m' ρ')⟩

end Cert.Proof.Inproj

end
-- ==== Proof.InprojSampleValue.lean ====
/-
  The packed input projection of the sample, entry by entry, at the extended reals (hand-written). The kernel takes the
  128 rows at once in four column steps of 1280 columns; the first step keeps the cast rows in a scratch buffer, and
  every step stores their product with its 1280 columns of `w_in`. The lines after the call slice each row's shift
  columns out of the result.
-/
module

public import proofs.«01_k».proof.Proof.Gen.InprojSampleIdeal.Frame
public import Idealize.ShloMosaic.Lib.Pipeline.Value
public import Idealize.ShloMosaic.Lib.Tactic
public import Idealize.ShloMosaic.Lib.Pipeline.ValueKit.Point
public import Idealize.ShloMosaic.Lib.Pointwise.Tactic

@[expose] public section

noncomputable section

open Idealize.ShloMosaic Idealize.ShloMosaic.TcCoe Idealize.SL.Sem

namespace Cert.InprojSampleIdeal.Hand

open Cert.InprojSampleIdeal Cert.InprojSampleIdeal.Gen

/-- The two zero offsets of a load or store of a whole buffer. -/
theorem hz : (![0, 0] : Fin 2 → Nat) = fun _ => 0 := funext fun a => by fin_cases a <;> rfl

section Step

variable {F : FTy → Type} [FloatOps F]
variable (c : Dev nD) (i : grid0.Coords)
  (a2 : Memref sig .tc .vmem S128x2048 .f32) (h2 : a2.IsWhole)
  (a3 : Memref sig .tc .vmem S1280x2048 .bf16) (h3 : a3.IsWhole)
  (a4 : Memref sig .tc .vmem S128x1280 .bf16) (h4 : a4.IsWhole)
  (a5 : Memref sig .tc .vmem S128x2048 .bf16) (h5 : a5.IsWhole)
  (x0 : Vec F S128x2048 .f32) (x1 : Vec F S1280x2048 .bf16) (xs0 : Vec F S128x2048 .bf16)

/-- The first column step leaves the cast row block in the scratch buffer. -/
theorem sout_A (p : cond0_0 i) : sout0_A_0 c i a2 h2 a3 h3 a4 h4 a5 h5 p x0 x1 = k0_pay1 x0 := by
  unfold sout0_A_0
  rw [View.read_writes_eq_canon _ _ _ (scover0_A_0 c i a2 h2 a3 h3 a4 h4 a5 h5 p x0 x1)]
  unfold kernelRun0_A
  dsimp only
  sl_unfold_words
  rw [View.canon_unit_zero hz]
  simp only [View.readAt_eq_ld, h2.read_unread, View.ld_unit_zero (S := S128x2048) hz]

/-- The first column step stores the product of the cast rows with its columns. -/
theorem out_A (p : cond0_0 i) : out0_A_2 c i a2 h2 a3 h3 a4 h4 a5 h5 p x0 x1 = k0_pay2 (k0_pay1 x0) x1 := by
  unfold out0_A_2
  rw [View.read_writes_eq_canon _ _ _ (cover0_A_2 c i a2 h2 a3 h3 a4 h4 a5 h5 p x0 x1)]
  unfold kernelRun0_A
  dsimp only
  sl_unfold_words
  rw [View.canon_unit_zero hz]
  simp only [View.readCov_unit_zero (S := S128x2048) _ hz, View.readAt_eq_ld, h2.read_unread, h3.read_unread,
    View.ld_unit_zero (S := S128x2048) hz, View.ld_unit_zero (S := S1280x2048) hz]

/-- A later column step stores the product of the scratch buffer with its columns. -/
theorem out_B (p : ¬cond0_0 i) : out0_B_2 c i a2 h2 a3 h3 a4 h4 a5 h5 p x0 x1 xs0 = k0_pay2 xs0 x1 := by
  unfold out0_B_2
  rw [View.read_writes_eq_canon _ _ _ (cover0_B_2 c i a2 h2 a3 h3 a4 h4 a5 h5 p x0 x1 xs0)]
  unfold kernelRun0_B
  dsimp only
  sl_unfold_words
  rw [View.canon_unit_zero hz]
  simp only [View.readAt_eq_ld, h3.read_unread, h5.read_unread,
    View.ld_unit_zero (S := S128x2048) hz, View.ld_unit_zero (S := S1280x2048) hz]

end Step

/-- Where each window stands at point `t`: row block `t / 4`, column step `t % 4`. -/
theorem idx : ∀ t : Fin cfg0.N, win0_0.index t = ![t.val / 4, 0] ∧ win0_1.index t = ![t.val % 4, 0]
    ∧ win0_2.index t = ![t.val / 4, t.val % 4] := by
  decide +kernel

/-- Every point writes its output block back. -/
theorem flush_all : ∀ t : Fin cfg0.N, (cfg0.win 2).flush t = true := by
  decide +kernel

variable (m : (ℓ : Loc nD τ sig) → Buf (Elt Ideal) ℓ) (c : Dev nD) (t : Fin cfg0.N)

/-- Row `R` of the sample. -/
def X (R : Fin 128) (d : Fin 2048) : EReal :=
  m ((c : Thread nD τ).loc main_arg0) (ix3 R (0 : Fin 1) d)

/-- The row block of `x`. -/
theorem blk0 (r : Fin 128) (d : Fin 2048) (R : Fin 128) (hR : R.val = t.val / 4 * 128 + r.val) :
    (iblk m c 0 t : Vec Ideal S128x2048 .f32) (ix2 r d) = X m c R d := by
  unfold X
  blk_simp [iblk, (idx t).1]
  simp only [V, V0, List.flatten_cons, List.flatten_nil, List.append_nil]
  entry_read; pointwise
  blk_ext [(idx t).1]

/-- The 1280 columns of `w_in` of a column step. -/
theorem blk1 (q : Fin 1280) (d : Fin 2048) (C : Fin 8992) (hC : C.val = t.val % 4 * 1280 + q.val) :
    (X0_1 m c t : Vec Ideal S1280x2048 .bf16) (ix2 q d) = m ((c : Thread nD τ).loc main_arg1) (ix2 d C) := by
  unfold X0_1 Pipeline.Window.fill
  rw [dif_pos (moved0_1 t _)]
  blk_simp [iblk, (idx t).2.1]
  simp only [V, V0, List.flatten_cons, List.flatten_nil, List.append_nil]
  entry_read; pointwise
  blk_ext [(idx t).2.1]

/-- The row block of `x` is the same at the four steps of a row block. -/
theorem blk0_congr (t s : Fin cfg0.N) (h : t.val / 4 = s.val / 4) :
    (iblk m c 0 t : Vec Ideal S128x2048 .f32) = (iblk m c 0 s : Vec Ideal S128x2048 .f32) := by
  refine funext fun j : S128x2048.Idx => ?_
  obtain ⟨r, d, rfl⟩ : ∃ (r : Fin 128) (d : Fin 2048), j = ix2 r d := ⟨j 0, j 1, eq_ix2 j⟩
  have := lt_of_lt_of_eq t.isLt (show cfg0.N = 4 from N_0)
  exact (blk0 m c t r d ⟨t.val / 4 * 128 + r.val, by omega⟩ rfl).trans
    (blk0 m c s r d ⟨t.val / 4 * 128 + r.val, by omega⟩ (by dsimp only; omega)).symm

/-- The scratch buffer holds the cast row block of `x` after every point. -/
theorem scratch0 : ∀ (n : ℕ) (hn : n < cfg0.N),
    (outsAt0 m c n hn).2 = k0_pay1 (iblk m c 0 ⟨n, hn⟩ : Vec Ideal S128x2048 .f32)
  | n, hn => by
    by_cases h0 : n % 4 = 0
    · rw [outsAt0_A m c ⟨n, hn⟩ h0]
      dsimp only
      rw [sout_A]
    · obtain ⟨k, rfl⟩ : ∃ k, n = k + 1 := ⟨n - 1, by omega⟩
      have ih := scratch0 k (Nat.lt_of_succ_lt hn)
      have hb := blk0_congr m c ⟨k, Nat.lt_of_succ_lt hn⟩ ⟨k + 1, hn⟩ (by dsimp only; omega)
      rw [outsAt0_B m c ⟨k + 1, hn⟩ h0]
      dsimp only
      unfold sout0_B_0
      exact ih.trans (congrArg _ hb)

/-- What every point stores: the product of its cast row block with its columns. -/
theorem out_eq : (outsAt0 m c t.val t.isLt).1
    = k0_pay2 (k0_pay1 (iblk m c 0 t : Vec Ideal S128x2048 .f32)) (X0_1 m c t) := by
  by_cases h0 : t.val % 4 = 0
  · rw [outsAt0_A m c t h0]
    dsimp only
    rw [out_A]
  · rw [outsAt0_B m c t h0]
    dsimp only
    rw [out_B, scratch0, blk0_congr m c _ t (by dsimp only; omega)]

/-- A point's product, entry by entry. -/
theorem pay_apply (x0 : Vec Ideal S128x2048 .f32) (x1 : Vec Ideal S1280x2048 .bf16) (r : Fin 128) (q : Fin 1280) :
    k0_pay2 (k0_pay1 x0) x1 (ix2 r q) = ∑ d : Fin 2048, x0 (ix2 r d) * x1 (ix2 q d) := by
  unfold_payloads
  pointwise

/-- The packed projection of token `R` at column `C`. -/
def proj (R : Fin 128) (C : Fin 8992) : EReal :=
  ∑ d : Fin 2048, X m c R d * m ((c : Thread nD τ).loc main_arg1) (ix2 d C)

/-- The packed projection of every token: the first 5120 columns of `x @ w_in`. -/
def G : Buf (Elt Ideal) ((c : Thread nD τ).loc main_v3) := fun i : S128x5120.Idx =>
  proj m c (i 0) ((i 1).castLE (by decide))

/-- Membership in a point's output block. -/
theorem mem_blk2 (i : S128x5120.Idx) :
    i ∈ ((cfg0.win 2).blk t).view.set ↔ ∀ a : Fin 2, win0_2.index t a * S128x1280.size a ≤ (i a).val
      ∧ (i a).val < win0_2.index t a * S128x1280.size a + S128x1280.size a := by
  show i ∈ ((View.whole main_v3).slice (win0_2.rect t)).set ↔ _
  rw [View.set_slice_whole, Rect.mem_set_unit]
  exact Iff.rfl

/-- What a point writes back is its block of `G`. -/
theorem flushed_eq : (dats m 0 c).flushed 2 t = ((cfg0.win 2).blk t).view.read (Elt Ideal) (G m c) := by
  show (cfg0.win 2).cut (grid0.coords t) ((dats m 0 c).after 2 t) = _
  rw [after0_2, out_eq]
  refine funext fun y : S128x1280.Idx => ?_
  obtain ⟨r, q, rfl⟩ : ∃ (r : Fin 128) (q : Fin 1280), y = ix2 r q := ⟨y 0, y 1, eq_ix2 y⟩
  have hN := lt_of_lt_of_eq t.isLt (show cfg0.N = 4 from N_0)
  have e := (idx t).2.2
  have hemb : ((cfg0.win 2).blk t).view.emb (ix2 r q)
      = (ix2 ⟨t.val / 4 * 128 + r.val, by omega⟩ ⟨t.val % 4 * 1280 + q.val, by omega⟩ : S128x5120.Idx) := by
    funext a
    apply Fin.ext
    match a with
    | ⟨0, _⟩ => show win0_2.index t 0 * 128 + 1 * r.val = _; rw [e]; simp
    | ⟨1, _⟩ => show win0_2.index t 1 * 1280 + 1 * q.val = _; rw [e]; simp
  show k0_pay2 (k0_pay1 (iblk m c 0 t : Vec Ideal S128x2048 .f32)) (X0_1 m c t) (ix2 r q)
    = G m c (((cfg0.win 2).blk t).view.emb (ix2 r q))
  rw [hemb, pay_apply]
  exact Finset.sum_congr rfl fun d _ => congrArg₂ _ (blk0 m c t r d _ rfl) (blk1 m c t q d _ rfl)

/-- The call's result is `G`. -/
theorem final : (dats m 0 c).arrAt 2 cfg0.N = G m c :=
  (dats m 0 c).arrAt_eq_of_cover 2 _ (fun t _ => flushed_eq m c t) fun (i : S128x5120.Idx) => by
    have h0 : (i 0).val < 128 := (i 0).isLt
    have h1 : (i 1).val < 5120 := (i 1).isLt
    refine ⟨⟨4 * ((i 0).val / 128) + (i 1).val / 1280, lt_of_lt_of_eq (by omega) N_0.symm⟩, flush_all _, ?_⟩
    rw [mem_blk2]
    intro a
    rw [(idx _).2.2]
    match a with
    | ⟨0, _⟩ =>
      show (4 * ((i 0).val / 128) + (i 1).val / 1280) / 4 * 128 ≤ (i 0).val
        ∧ (i 0).val < (4 * ((i 0).val / 128) + (i 1).val / 1280) / 4 * 128 + 128
      omega
    | ⟨1, _⟩ =>
      show (4 * ((i 0).val / 128) + (i 1).val / 1280) % 4 * 1280 ≤ (i 1).val
        ∧ (i 1).val < (4 * ((i 0).val / 128) + (i 1).val / 1280) % 4 * 1280 + 1280
      omega

/-- The new shift state of a row: the projection's columns 1536–4895. -/
def shift : Buf (Elt Ideal) ((c : Thread nD τ).loc main_v5) := fun i : S128x3360.Idx =>
  proj m c (i 0) ⟨1536 + (i 1).val, by have := (i 1).isLt; have : (i 1).val < 3360 := this; omega⟩

/-- The lines after the call take the shift columns of each row. -/
theorem slice_apply (g : FVec Ideal S128x5120 .bf16) (b : Fin 128) (k : Fin 3360) :
    (extf .f32 (extractStridedSlice S128x3360 ![0, 1536] g slices_S128x5120_S128x3360_0_1536) bitsLt_bf16_f32
      : FVec Ideal S128x3360 .f32) (ix2 b k) = g (ix2 b ⟨1536 + k.val, by omega⟩) := by
  pointwise

/-- The lines after the call leave the shift state in their last buffer. -/
theorem tail_shift : Pipeline.afterTail₀ cfgs (dats m) 0 (V0 m) [hostOps1] c main_v5 = shift m c := by
  unfold Pipeline.afterTail₀
  simp only [List.flatten_cons, List.flatten_nil, List.append_nil]
  entry_read
  have e : Pipeline.withArrays (cfgs 0).spec c (V0 m c) (fun w => (dats m 0 c).arrAt w (cfgs 0).N) (Proc.devRef .tc main_v3)
      = G m c :=
    (Pipeline.withArrays_arr spec0 launch0.win.arr_inj c (V0 m c) _ 2).trans (final m c)
  rw [e]
  refine funext fun i : S128x3360.Idx => ?_
  obtain ⟨b, k, rfl⟩ : ∃ (b : Fin 128) (k : Fin 3360), i = ix2 b k := ⟨i 0, i 1, eq_ix2 i⟩
  exact slice_apply (G m c) b k

/-- The run of the kernel: both results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_v5) = shift m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.2 c).1 2 |>.trans (final m c),
      ((h.2 c).2 main_v5 (Pipeline.mem_restRefs_of main_v5 (by decide) (by decide))).trans (tail_shift m c), h.1 c⟩)
    (θ_run_and (unchanged m ρ) (run_main m ρ))

end Cert.InprojSampleIdeal.Hand

end
-- ==== Proof.InprojSampleRef.lean ====
/-
  The sample's input projection as the reference writes it, entry by entry, at the extended reals (hand-written).
-/
module

public import proofs.«01_k».proof.Proof.Gen.InprojSampleRefIdeal.Run
public import Idealize.ShloMosaic.Lib.Pipeline.ValueKit.Point
public import Idealize.ShloMosaic.Lib.Pointwise.Tactic

@[expose] public section

noncomputable section

open Idealize.ShloMosaic Idealize.ShloMosaic.TcCoe Idealize.SL.Sem

namespace Cert.InprojSampleRefIdeal.Hand

open Cert.InprojSampleRefIdeal Cert.InprojSampleRefIdeal.Gen

/-- The packed projection of row `R` at a column below 5120. -/
theorem packed (x : FVec Ideal S128x1x2048 .f32) (w : FVec Ideal S2048x8992 .f32) (R : Fin 128) (C : Fin 5120) :
    (truncf .bf16 (extractStridedSlice S128x5120 ![0, 0] (shapeCast _ (Host.dotGeneral
        dot_S128x1x2048_S2048x8992_S128x1x8992_2_0_01_1_n_n none x w) shapeCasts_S128x1x8992_S128x8992)
        slices_S128x8992_S128x5120_0_0) bitsLt_bf16_f32 : FVec Ideal S128x5120 .bf16) (ix2 R C)
      = ∑ d : Fin 2048, x (ix3 R (0 : Fin 1) d) * w (ix2 d (C.castLE (by decide))) := by
  pointwise
  rfl

/-- The shift columns of row `b`. -/
theorem shift (x : FVec Ideal S128x1x2048 .f32) (w : FVec Ideal S2048x8992 .f32) (b : Fin 128) (k : Fin 3360) :
    (shapeCast _ (extractStridedSlice S128x1x3360 ![0, 0, 1536] (Host.dotGeneral
        dot_S128x1x2048_S2048x8992_S128x1x8992_2_0_01_1_n_n none x w)
        slices_S128x1x8992_S128x1x3360_0_0_1536) shapeCasts_S128x1x3360_S128x3360 : FVec Ideal S128x3360 .f32) (ix2 b k)
      = ∑ d : Fin 2048, x (ix3 b (0 : Fin 1) d) * w (ix2 d ⟨1536 + k.val, by omega⟩) := by
  pointwise

end Cert.InprojSampleRefIdeal.Hand

end
-- ==== Proof.InprojSampleClaims.lean ====
/-
  The claims of the sample's input projection (hand-written): the frames, and that the packed projection and the new
  shift state are the reference's at the extended reals.
-/
module

public import proofs.«01_k».proof.Defs
public import proofs.«01_k».proof.Proof.InprojSampleValue
public import proofs.«01_k».proof.Proof.InprojSampleRef
public import proofs.«01_k».proof.Proof.Gen.InprojSample.Frame
public import Idealize.ShloMosaic.Lib.Quiescent

@[expose] public section

noncomputable section

open Idealize.ShloMosaic Idealize.ShloMosaic.TcCoe Idealize.SL.Sem

namespace Cert.Proof.InprojSample

/-- The projection as printed runs, keeps its arguments and ends with every counter at zero. -/
theorem frame_bits : Cert.quiescent_InprojSample := fun m ρ _ => Cert.InprojSample.Gen.frame m ρ

/-- The same of the kernel at the extended reals. -/
theorem frame_ideal : Cert.quiescent_InprojSampleIdeal := fun m ρ _ => Cert.InprojSampleIdeal.Gen.frame m ρ

/-- The reference runs and keeps its arguments; it declares no semaphore. -/
theorem frame_ref : Cert.quiescent_InprojSampleRefIdeal := fun m ρ _ =>
  (θ_run Cert.InprojSampleRefIdeal.defs _ _).mono (fun r h => ⟨fun c => (h c).2.2, sem_eq_zero_of_no_sems (by decide) r.2⟩)
    (Cert.InprojSampleRefIdeal.Value.run (F := Ideal) m ρ)

/-- From arguments that agree the kernel and the reference end with equal packed projections and equal shift states:
    every entry is a row of the sample times a column of `w_in`. -/
theorem algebraic : Cert.algebraic_InprojSampleIdeal_InprojSampleRefIdeal := fun m ρ m' ρ' _ hag =>
  ⟨fun c => Cert.InprojSampleIdeal.Hand.G m c, fun c => Cert.InprojSampleIdeal.Hand.shift m c, Cert.InprojSampleIdeal.Hand.run m ρ,
    (θ_run Cert.InprojSampleRefIdeal.defs _ _).mono (fun r h c => ⟨(h c).1.trans (funext fun j => by
        obtain ⟨R, C, rfl⟩ : ∃ (R : Fin 128) (C : Fin 5120), j = ix2 R C := ⟨j 0, j 1, eq_ix2 j⟩
        obtain ⟨e0, e1⟩ := hag c
        rw [e0, e1]
        exact Cert.InprojSampleRefIdeal.Hand.packed _ _ R C),
      (h c).2.1.trans (funext fun j => by
        obtain ⟨b, k, rfl⟩ : ∃ (b : Fin 128) (k : Fin 3360), j = ix2 b k := ⟨j 0, j 1, eq_ix2 j⟩
        obtain ⟨e0, e1⟩ := hag c
        rw [e0, e1]
        exact Cert.InprojSampleRefIdeal.Hand.shift _ _ b k), (h c).2.2⟩)
      (Cert.InprojSampleRefIdeal.Value.run (F := Ideal) m' ρ')⟩

end Cert.Proof.InprojSample

end
-- ==== Proof.AttnSampleRows.lean ====
/-
  The sample attention kernel's body, one sequence at a time (hand-written). The body treats the sixteen sequences of a
  grid point by the same operations, sixteen times over; here the operations for one sequence are stated once, and each
  of the sixteen stores and of the sixteen output rows is shown to be them.
-/
module

public import proofs.«01_k».proof.Proof.Gen.AttnSampleIdeal.Value
public import Idealize.ShloMosaic.Lib.Tactic

@[expose] public section

noncomputable section

open Idealize.ShloMosaic Idealize.ShloMosaic.TcCoe Idealize.SL.Sem

namespace Cert.AttnSampleIdeal.Hand

open Cert.AttnSampleIdeal Cert.AttnSampleIdeal.Gen

variable {F : FTy → Type} [FloatOps F]

/-- Sequence `16 a + b`'s column of the transposed new keys (or values) `X`: the lanes of the other sequences are zeroed
    and the row summed. -/
def column (seq : IVec S256x128 32) (X : FVec F S256x128 .f32) (a b : BitVec 32) : FVec F S256x1 .f32 :=
  k0_pay33 X (cmpi .eq seq (broadcast S256x128 (Scalar.addi (Scalar.muli a 16#32) b)))

/-- A sequence's new window: its cache block moved one position on, with the column in the last position. -/
def window (pos : IVec S256x128 32) (col : FVec F S256x1 .f32) (blk : Vec F S1x256x128 .f32) : FVec F S256x128 .f32 :=
  k0_pay69 pos col blk

/-- The rotary embedding of one tile of 128 lanes. -/
def ropeTile (c sp sm y : FVec F S1x128 .f32) : FVec F S1x128 .f32 :=
  addf (addf (mulf y c) (mulf (dynamicRotate 1 120#32 none y rotates_S1x128_d1) sp))
    (mulf (dynamicRotate 1 8#32 none y rotates_S1x128_d1) sm)

/-- The rotary embedding of a row of queries, scaled by 1/8. -/
def ropeRow (c sp sm : FVec F S1x128 .f32) (x : Vec F S1x1024 .f32) : FVec F S1x1024 .f32 :=
  mulf (concatenate S1x1024 1
    [⟨S1x128, ropeTile c sp sm (extractStridedSlice S1x128 ![0, 0] (shapeCast S1x1024 x shapeCasts_S1x1024_S1x1024) slices_S1x1024_o0_0_S1x128)⟩,
     ⟨S1x128, ropeTile c sp sm (extractStridedSlice S1x128 ![0, 128] (shapeCast S1x1024 x shapeCasts_S1x1024_S1x1024) slices_S1x1024_o0_128_S1x128)⟩,
     ⟨S1x128, ropeTile c sp sm (extractStridedSlice S1x128 ![0, 256] (shapeCast S1x1024 x shapeCasts_S1x1024_S1x1024) slices_S1x1024_o0_256_S1x128)⟩,
     ⟨S1x128, ropeTile c sp sm (extractStridedSlice S1x128 ![0, 384] (shapeCast S1x1024 x shapeCasts_S1x1024_S1x1024) slices_S1x1024_o0_384_S1x128)⟩,
     ⟨S1x128, ropeTile c sp sm (extractStridedSlice S1x128 ![0, 512] (shapeCast S1x1024 x shapeCasts_S1x1024_S1x1024) slices_S1x1024_o0_512_S1x128)⟩,
     ⟨S1x128, ropeTile c sp sm (extractStridedSlice S1x128 ![0, 640] (shapeCast S1x1024 x shapeCasts_S1x1024_S1x1024) slices_S1x1024_o0_640_S1x128)⟩,
     ⟨S1x128, ropeTile c sp sm (extractStridedSlice S1x128 ![0, 768] (shapeCast S1x1024 x shapeCasts_S1x1024_S1x1024) slices_S1x1024_o0_768_S1x128)⟩,
     ⟨S1x128, ropeTile c sp sm (extractStridedSlice S1x128 ![0, 896] (shapeCast S1x1024 x shapeCasts_S1x1024_S1x1024) slices_S1x1024_o0_896_S1x128)⟩]
    concatenates_S1x128_S1x128_S1x128_S1x128_S1x128_S1x128_S1x128_S1x128_S1x1024_d1)
    (broadcast S1x1024 (Scalar.ofBits .f32 0x3E000000#32 : F .f32))

/-- The scaled queries laid out as one row per head, zero outside the head's own key columns. -/
def queryMat (own : IVec S16x256 1) (grp : IVec S16x256 32) (q : FVec F S1x1024 .f32) : FVec F S16x256 .bf16 :=
  truncf .bf16 (select own
    (select (cmpi .eq grp (broadcast S16x256 0#32))
      (broadcastTo S16x256 (shapeCast S1x256 (extractStridedSlice S1x256 ![0, 0] q slices_S1x1024_o0_0_S1x256) shapeCasts_S1x256_S1x256) broadcasts_S1x256_S16x256)
      (select (cmpi .eq grp (broadcast S16x256 1#32))
        (broadcastTo S16x256 (shapeCast S1x256 (extractStridedSlice S1x256 ![0, 256] q slices_S1x1024_o0_256_S1x256) shapeCasts_S1x256_S1x256) broadcasts_S1x256_S16x256)
        (select (cmpi .eq grp (broadcast S16x256 2#32))
          (broadcastTo S16x256 (shapeCast S1x256 (extractStridedSlice S1x256 ![0, 512] q slices_S1x1024_o0_512_S1x256) shapeCasts_S1x256_S1x256) broadcasts_S1x256_S16x256)
          (broadcastTo S16x256 (shapeCast S1x256 (extractStridedSlice S1x256 ![0, 768] q slices_S1x1024_o0_768_S1x256) shapeCasts_S1x256_S1x256) broadcasts_S1x256_S16x256))))
    (broadcast S16x256 (Scalar.ofBits .f32 0x00000000#32 : F .f32))) bitsLt_bf16_f32

/-- The scores of a sequence's heads against its window of keys. -/
def scores (qm : FVec F S16x256 .bf16) (nk : FVec F S256x128 .f32) : FVec F S16x128 .f32 :=
  matmul dot_S16x256_S256x128_S16x128_1_0_0_1_n_n none qm (truncf .bf16 nk bitsLt_bf16_f32) (constant S16x128 .f32 0x00000000#32)

/-- The largest score of each head, the sink among them. -/
def top (s : FVec F S16x128 .f32) (sink : FVec F S16x1 .f32) : FVec F S16x1 .f32 :=
  maximumf (shapeCast S16x1 (multiReduction .maximumf [1] S16 s 0xFF800000#32 reduces_S16x128_S16 (.inl rfl) rfl) shapeCasts_S16_S16x1) sink

/-- The exponentials of the scores, moved down by the largest. -/
def weights (s : FVec F S16x128 .f32) (m : FVec F S16x1 .f32) : FVec F S16x128 .f32 :=
  exp (subf s (broadcastTo S16x128 m broadcasts_S16x1_S16x128))

/-- The sum of a head's exponentials, the sink's among them. -/
def total (p : FVec F S16x128 .f32) (m sink : FVec F S16x1 .f32) : FVec F S16x1 .f32 :=
  addf (shapeCast S16x1 (multiReduction .add [1] S16 p 0x00000000#32 reduces_S16x128_S16 (.inl rfl) rfl) shapeCasts_S16_S16x1) (exp (subf sink m))

/-- The heads' outputs against all four key heads' values. -/
def mixed (p : FVec F S16x128 .f32) (den : FVec F S16x1 .f32) (nv : FVec F S256x128 .f32) : FVec F S16x256 .f32 :=
  divf (matmul dot_S16x128_S256x128_S16x256_1_1_0_0_n_n none (truncf .bf16 p bitsLt_bf16_f32) (truncf .bf16 nv bitsLt_bf16_f32)
    (constant S16x256 .f32 0x00000000#32)) (broadcastTo S16x256 den broadcasts_S16x1_S16x256)

/-- One group's part of an output row: the heads of group `u`, each on its own columns. -/
def chunk (own : IVec S16x256 1) (grp : IVec S16x256 32) (o : FVec F S16x256 .f32) (u : BitVec 32) : FVec F S1x256 .f32 :=
  shapeCast S1x256 (multiReduction .add [0] S256 (select (cmpi .eq grp (broadcast S16x256 u))
    (select own o (broadcast S16x256 (Scalar.ofBits .f32 0x00000000#32 : F .f32)))
    (broadcast S16x256 (Scalar.ofBits .f32 0x00000000#32 : F .f32))) 0x00000000#32 reduces_S16x256_S256 (.inl rfl) rfl) shapeCasts_S256_S1x256

/-- An output row: its four groups side by side. -/
def outRow (own : IVec S16x256 1) (grp : IVec S16x256 32) (o : FVec F S16x256 .f32) : FVec F S1x1024 .f32 :=
  concatenate S1x1024 1 [⟨S1x256, chunk own grp o 0#32⟩, ⟨S1x256, chunk own grp o 1#32⟩, ⟨S1x256, chunk own grp o 2#32⟩,
    ⟨S1x256, chunk own grp o 3#32⟩] concatenates_S1x256_S1x256_S1x256_S1x256_S1x1024_d1

/-- The attention of one sequence: its scaled queries `q` over its windows of keys and values, with the sinks. -/
def attend (own : IVec S16x256 1) (grp : IVec S16x256 32) (sink : FVec F S16x1 .f32) (q : FVec F S1x1024 .f32)
    (nk nv : FVec F S256x128 .f32) : FVec F S1x1024 .f32 :=
  outRow own grp (mixed (weights (scores (queryMat own grp q) nk) (top (scores (queryMat own grp q) nk) sink))
    (total (weights (scores (queryMat own grp q) nk) (top (scores (queryMat own grp q) nk) sink)) (top (scores (queryMat own grp q) nk) sink) sink) nv)

variable (i : grid0.Coords) (x0 : Vec F S16x1024 .f32) (x1 : Vec F S512x128 .f32) (x2 x3 : Vec F S16x256x128 .f32)
  (x4 x5 x6 : Vec F S8x128 .f32) (x7 x8 x9 : Vec F S256x128 .f32) (x10 : Vec F S16x128 .f32)

/-- The position of each lane of a window. -/
abbrev lanes : IVec S256x128 32 := iota .tc S256x128 32 [1] iota_S256x128_d1_w32

/-- The transposed new keys after the rotary embedding along their rows. -/
def keysT : FVec F S256x128 .f32 := k0_pay469 i x0 x1 x2 x3 x4 x5 x6 x7 x8 x9 x10

/-- The transposed new values. -/
def valuesT : FVec F S256x128 .f32 := k0_pay470 i x0 x1 x2 x3 x4 x5 x6 x7 x8 x9 x10

/-- Sequence `b`'s window over the cache `z` with the new columns `X`. -/
def winOf (X : FVec F S256x128 .f32) (z : Vec F S16x256x128 .f32) (b : ℕ)
    (hb : ∀ a, (![b, 0, 0] : Fin 3 → ℕ) a + S1x256x128.size a ≤ S16x256x128.size a) : FVec F S256x128 .f32 :=
  window lanes (column lanes X (BitVec.ofNat 32 (i 0).val) (BitVec.ofNat 32 b)) (View.ld z (Rect.unit (s := S16x256x128) ![b, 0, 0] S1x256x128.size hb))

/-- Row `b` of a point's output. -/
def rowOf (b : ℕ) (hb : ∀ a, (![b, 0, 0] : Fin 3 → ℕ) a + S1x256x128.size a ≤ S16x256x128.size a)
    (hq : ∀ a, (![b, 0] : Fin 2 → ℕ) a + S1x1024.size a ≤ S16x1024.size a) : FVec F S1x1024 .f32 :=
  attend (k0_pay467 i x0 x1 x2 x3 x4 x5 x6 x7 x8 x9 x10) (k0_pay468 i x0 x1 x2 x3 x4 x5 x6 x7 x8 x9 x10)
    (k0_pay464 i x0 x1 x2 x3 x4 x5 x6 x7 x8 x9 x10)
    (ropeRow (k0_pay461 i x0 x1 x2 x3 x4 x5 x6 x7 x8 x9 x10) (k0_pay462 i x0 x1 x2 x3 x4 x5 x6 x7 x8 x9 x10)
      (k0_pay463 i x0 x1 x2 x3 x4 x5 x6 x7 x8 x9 x10) (View.ld x0 (Rect.unit (s := S16x1024) ![b, 0] S1x1024.size hq)))
    (winOf i (keysT i x0 x1 x2 x3 x4 x5 x6 x7 x8 x9 x10) x2 b hb) (winOf i (valuesT i x0 x1 x2 x3 x4 x5 x6 x7 x8 x9 x10) x3 b hb)

/-- The sixteen output rows of a point. -/
theorem out_rows : out0_11 i x0 x1 x2 x3 x4 x5 x6 x7 x8 x9 x10 = View.canon [⟨r0_37, k0_pay2
    (rowOf i x0 x1 x2 x3 x4 x5 x6 x7 x8 x9 x10 0 inb_S16x256x128_S1x256x128_0_0_0 inb_S16x1024_S1x1024_0_0)
    (rowOf i x0 x1 x2 x3 x4 x5 x6 x7 x8 x9 x10 1 inb_S16x256x128_S1x256x128_1_0_0 inb_S16x1024_S1x1024_1_0)
    (rowOf i x0 x1 x2 x3 x4 x5 x6 x7 x8 x9 x10 2 inb_S16x256x128_S1x256x128_2_0_0 inb_S16x1024_S1x1024_2_0)
    (rowOf i x0 x1 x2 x3 x4 x5 x6 x7 x8 x9 x10 3 inb_S16x256x128_S1x256x128_3_0_0 inb_S16x1024_S1x1024_3_0)
    (rowOf i x0 x1 x2 x3 x4 x5 x6 x7 x8 x9 x10 4 inb_S16x256x128_S1x256x128_4_0_0 inb_S16x1024_S1x1024_4_0)
    (rowOf i x0 x1 x2 x3 x4 x5 x6 x7 x8 x9 x10 5 inb_S16x256x128_S1x256x128_5_0_0 inb_S16x1024_S1x1024_5_0)
    (rowOf i x0 x1 x2 x3 x4 x5 x6 x7 x8 x9 x10 6 inb_S16x256x128_S1x256x128_6_0_0 inb_S16x1024_S1x1024_6_0)
    (rowOf i x0 x1 x2 x3 x4 x5 x6 x7 x8 x9 x10 7 inb_S16x256x128_S1x256x128_7_0_0 inb_S16x1024_S1x1024_7_0)
    (rowOf i x0 x1 x2 x3 x4 x5 x6 x7 x8 x9 x10 8 inb_S16x256x128_S1x256x128_8_0_0 inb_S16x1024_S1x1024_8_0)
    (rowOf i x0 x1 x2 x3 x4 x5 x6 x7 x8 x9 x10 9 inb_S16x256x128_S1x256x128_9_0_0 inb_S16x1024_S1x1024_9_0)
    (rowOf i x0 x1 x2 x3 x4 x5 x6 x7 x8 x9 x10 10 inb_S16x256x128_S1x256x128_10_0_0 inb_S16x1024_S1x1024_10_0)
    (rowOf i x0 x1 x2 x3 x4 x5 x6 x7 x8 x9 x10 11 inb_S16x256x128_S1x256x128_11_0_0 inb_S16x1024_S1x1024_11_0)
    (rowOf i x0 x1 x2 x3 x4 x5 x6 x7 x8 x9 x10 12 inb_S16x256x128_S1x256x128_12_0_0 inb_S16x1024_S1x1024_12_0)
    (rowOf i x0 x1 x2 x3 x4 x5 x6 x7 x8 x9 x10 13 inb_S16x256x128_S1x256x128_13_0_0 inb_S16x1024_S1x1024_13_0)
    (rowOf i x0 x1 x2 x3 x4 x5 x6 x7 x8 x9 x10 14 inb_S16x256x128_S1x256x128_14_0_0 inb_S16x1024_S1x1024_14_0)
    (rowOf i x0 x1 x2 x3 x4 x5 x6 x7 x8 x9 x10 15 inb_S16x256x128_S1x256x128_15_0_0 inb_S16x1024_S1x1024_15_0)⟩] := by
  rfl

end Cert.AttnSampleIdeal.Hand

end
-- ==== Proof.AttnMath.lean ====
/-
  The plain mathematics of the layer's attention (hand-written), over the extended reals: the rotary embedding of a
  head's 64 numbers, and one head's softmax over a window of 128 keys and a sink.
-/
module

public import Idealize.ShloMosaic.PureOps.Ideal
public import Idealize.ShloMosaic.Lib.Pipeline.ValueKit.Point
public import Idealize.ShloMosaic.Lib.Pointwise.Tactic

@[expose] public section

noncomputable section

open Idealize.ShloMosaic

namespace Cert.AttnMath

/-! ## The rotary embedding -/

/-- The angle of frequency `i` at position `p`: `p * 500000 ^ (-2 i / 16)`. -/
def ang (p : EReal) (i : ℕ) : EReal :=
  p * Ideal.pow (Ideal.ofBits .f32 0x48F42400#32)
    (Ideal.div (-(Ideal.ofBits .f32 0x40000000#32 * (FloatOps.sitofp (F := Ideal) .f32 (BitVec.ofNat 32 i) : EReal))) (Ideal.ofBits .f32 0x41800000#32))

/-- The rotary embedding of a head at position `p`: the first sixteen numbers are eight pairs, each turned by its angle. -/
def rope (p : EReal) (x : Fin 64 → EReal) (d : Fin 64) : EReal :=
  if h : d.val < 8 then
    x d * Ideal.cos (ang p d.val) - x ⟨8 + d.val, by omega⟩ * Ideal.sin (ang p d.val)
  else if h2 : d.val - 8 < 8 then
    x d * Ideal.cos (ang p (d.val - 8)) + x ⟨d.val - 8, by omega⟩ * Ideal.sin (ang p (d.val - 8))
  else x d

/-- The kernels' table for a number itself. -/
def tabC (p : EReal) (d : ℕ) : EReal :=
  if d < 8 then Ideal.cos (ang p d) else if d - 8 < 8 then Ideal.cos (ang p (d - 8)) else 1

/-- The kernels' table for the number eight places on. -/
def tabP (p : EReal) (d : ℕ) : EReal := if d < 8 then -Ideal.sin (ang p d) else 0

/-- The kernels' table for the number eight places before. -/
def tabM (p : EReal) (d : ℕ) : EReal := if d < 8 then 0 else if d - 8 < 8 then Ideal.sin (ang p (d - 8)) else 0

/-- The rotary embedding from the three tables; where a table is zero its number does not matter. -/
theorem rope_tab (p : EReal) (x : Fin 64 → EReal) (d : Fin 64) (y z : EReal)
    (hy : ∀ h : d.val < 8, y = x ⟨8 + d.val, by omega⟩) (hz : ∀ h : ¬d.val < 8, d.val - 8 < 8 → z = x ⟨d.val - 8, by omega⟩) :
    x d * tabC p d.val + y * tabP p d.val + z * tabM p d.val = rope p x d := by
  unfold tabC tabP tabM rope
  by_cases h : d.val < 8
  · simp only [h, if_true, dif_pos, mul_zero, add_zero, hy h, mul_neg]
    rfl
  · by_cases h2 : d.val - 8 < 8
    · simp only [h, h2, if_true, if_false, dif_pos, dif_neg, not_false_eq_true, mul_zero, add_zero, hz h h2]
    · simp only [h, h2, if_false, dif_neg, not_false_eq_true, mul_zero, add_zero, mul_one]

/-! ## Real numbers among the extended ones -/

/-- The extended real `x` is a real number. -/
def IsReal (x : EReal) : Prop := ∃ r : ℝ, x = (r : EReal)

theorem IsReal.mul {x y : EReal} : IsReal x → IsReal y → IsReal (x * y)
  | ⟨r, hr⟩, ⟨s, hs⟩ => ⟨r * s, by rw [hr, hs, EReal.coe_mul]⟩

theorem IsReal.add {x y : EReal} : IsReal x → IsReal y → IsReal (x + y)
  | ⟨r, hr⟩, ⟨s, hs⟩ => ⟨r + s, by rw [hr, hs, EReal.coe_add]⟩

theorem IsReal.neg {x : EReal} : IsReal x → IsReal (-x)
  | ⟨r, hr⟩ => ⟨-r, by rw [hr, EReal.coe_neg]⟩

theorem IsReal.sub {x y : EReal} (hx : IsReal x) (hy : IsReal y) : IsReal (x - y) := hx.add hy.neg

theorem IsReal.sum {n : ℕ} {f : Fin n → EReal} (h : ∀ i, IsReal (f i)) : IsReal (∑ i, f i) :=
  Finset.sum_induction f IsReal (fun _ _ => IsReal.add) ⟨0, EReal.coe_zero.symm⟩ fun i _ => h i

theorem IsReal.ne_top {x : EReal} : IsReal x → x ≠ ⊤
  | ⟨r, hr⟩ => hr ▸ EReal.coe_ne_top r

theorem IsReal.ne_bot {x : EReal} : IsReal x → x ≠ ⊥
  | ⟨r, hr⟩ => hr ▸ EReal.coe_ne_bot r

/-- A number whose absolute value is below infinity is real. -/
theorem isReal_of_ne {x : EReal} (ht : x ≠ ⊤) (hb : x ≠ ⊥) : IsReal x := ⟨x.toReal, (EReal.coe_toReal ht hb).symm⟩

/-- The angle of a real position is real. -/
theorem ang_real {p : EReal} (hp : IsReal p) (i : ℕ) : IsReal (ang p i) := by
  refine hp.mul ?_
  have h1 : IsReal (Ideal.ofBits .f32 0x48F42400#32) := ⟨_, rfl⟩
  have h2 : IsReal (Ideal.ofBits .f32 0x40000000#32) := ⟨_, rfl⟩
  have h3 : ∃ r : ℝ, Ideal.ofBits .f32 0x41800000#32 = (r : EReal) ∧ r ≠ 0 := ⟨16, by simp [Ideal.ofBits, Ideal.ieee, -EReal.coe_mul]; norm_num, by norm_num⟩
  have h4 : IsReal (FloatOps.sitofp (F := Ideal) .f32 (BitVec.ofNat 32 i) : EReal) := ⟨_, rfl⟩
  obtain ⟨b, hb⟩ := h1
  obtain ⟨e, he⟩ := (h2.mul h4).neg
  obtain ⟨q, hq, hq0⟩ := h3
  have hd : Ideal.div (e : EReal) (q : EReal) = ((e * q⁻¹ : ℝ) : EReal) := by
    unfold Ideal.div
    rw [if_neg (by exact_mod_cast hq0), EReal.coe_mul, EReal.coe_inv]
  rw [hb, he, hq, hd]
  exact ⟨Real.rpow b (e * q⁻¹), rfl⟩

/-- The rotary embedding of real numbers is real. -/
theorem rope_real {p : EReal} (hp : IsReal p) {x : Fin 64 → EReal} (hx : ∀ e, IsReal (x e)) (d : Fin 64) : IsReal (rope p x d) := by
  have hc : ∀ i, IsReal (Ideal.cos (ang p i)) := fun i => by
    obtain ⟨r, hr⟩ := ang_real hp i
    rw [hr]
    exact ⟨Real.cos r, rfl⟩
  have hs : ∀ i, IsReal (Ideal.sin (ang p i)) := fun i => by
    obtain ⟨r, hr⟩ := ang_real hp i
    rw [hr]
    exact ⟨Real.sin r, rfl⟩
  unfold rope
  split
  · exact ((hx _).mul (hc _)).sub ((hx _).mul (hs _))
  · split
    · exact ((hx _).mul (hc _)).add ((hx _).mul (hs _))
    · exact hx _

/-! ## The softmax -/

/-- The scale of the scores, 1/8, as the number the programs print. -/
def eighth : EReal := Ideal.ofBits .f32 0x3E000000#32

theorem eighth_eq : eighth = ((1 / 8 : ℝ) : EReal) := by
  simp [eighth, Ideal.ofBits, Ideal.ieee, -EReal.coe_mul]
  norm_num

/-- Scaling every query by 1/8 scales the score. -/
theorem sum_eighth {n : ℕ} (a b : Fin n → EReal) : ∑ e, a e * eighth * b e = (∑ e, a e * b e) * eighth := by
  have h0 : (0 : EReal) ≤ eighth := by rw [eighth_eq]; exact EReal.coe_nonneg.2 (by norm_num)
  have ht : eighth ≠ ⊤ := by rw [eighth_eq]; exact EReal.coe_ne_top _
  have h : ∀ s : Finset (Fin n), ∑ e ∈ s, a e * eighth * b e = (∑ e ∈ s, a e * b e) * eighth := fun s => by
    induction s using Finset.cons_induction with
    | empty => simp
    | cons i s hi ih =>
      rw [Finset.sum_cons, Finset.sum_cons, ih, EReal.right_distrib_of_nonneg_of_ne_top h0 ht, mul_right_comm]
  exact h _

/-- The largest of the scores and the sink. -/
def peak (s : Fin 128 → EReal) (sink : EReal) : EReal := max (Finset.univ.fold max ⊥ s) sink

/-- The sum of the exponentials, the sink's among them. -/
def mass (s : Fin 128 → EReal) (sink : EReal) : EReal := ∑ w, Ideal.exp (s w - peak s sink) + Ideal.exp (sink - peak s sink)

/-- One head's softmax over its window, applied to the values. -/
def soft (s : Fin 128 → EReal) (sink : EReal) (v : Fin 128 → EReal) : EReal :=
  Ideal.div (∑ w, Ideal.exp (s w - peak s sink) * v w) (mass s sink)

theorem exp_nonneg (x : EReal) : 0 ≤ Ideal.exp x := by
  induction x with
  | bot => exact le_rfl
  | top => exact le_top
  | coe r => exact EReal.coe_nonneg.2 (Real.exp_nonneg r)

theorem mass_pos {s : Fin 128 → EReal} {sink : EReal} (hs : ∀ w, s w ≠ ⊤) (hk : IsReal sink) : 0 < mass s sink := by
  have h1 : Finset.univ.fold max ⊥ s < ⊤ := by
    rw [Finset.fold_max_lt]
    exact ⟨bot_lt_top, fun w _ => lt_top_iff_ne_top.2 (hs w)⟩
  have hp : IsReal (peak s sink) := isReal_of_ne (max_lt h1 (lt_top_iff_ne_top.2 hk.ne_top)).ne
    (lt_of_lt_of_le (bot_lt_iff_ne_bot.2 hk.ne_bot) (le_max_right _ _)).ne'
  obtain ⟨r, hr⟩ := hk.sub hp
  have h2 : 0 < Ideal.exp (sink - peak s sink) := by
    rw [hr]
    exact EReal.coe_pos.2 (Real.exp_pos r)
  exact lt_of_lt_of_le h2 (le_add_of_nonneg_left (Finset.sum_nonneg fun w _ => exp_nonneg _))

/-- The softmax as the references compute it: 129 keys of which the first is masked, then the sink; every exponential is
    divided by their sum before it meets its value. -/
theorem soft_masked (S : Fin 130 → EReal) (V : Fin 129 → EReal) (s v : Fin 128 → EReal) (sink : EReal) (h0 : S 0 = ⊥)
    (hS : ∀ w : Fin 128, S w.succ.castSucc = s w) (hk : S (Fin.last 129) = sink) (hV : ∀ w : Fin 128, V w.succ = v w)
    (hs : ∀ w, s w ≠ ⊤) (hr : IsReal sink) :
    ∑ i : Fin 129, V i * Ideal.div (Ideal.exp (S i.castSucc - max ⊥ (Finset.univ.fold max ⊥ S)))
        (∑ j, Ideal.exp (S j - max ⊥ (Finset.univ.fold max ⊥ S)))
      = soft s sink v := by
  have hm : max ⊥ (Finset.univ.fold max ⊥ S) = peak s sink := by
    rw [max_eq_right bot_le]
    unfold peak
    refine le_antisymm ?_ ?_
    · rw [Finset.fold_max_le]
      refine ⟨bot_le, fun i _ => ?_⟩
      refine Fin.lastCases ?_ (fun i => ?_) i
      · rw [hk]; exact le_max_right _ _
      · refine Fin.cases ?_ (fun w => ?_) i
        · rw [Fin.castSucc_zero, h0]; exact bot_le
        · rw [hS]
          exact le_max_of_le_left ((Finset.le_fold_max _).2 (.inr ⟨w, Finset.mem_univ _, le_rfl⟩))
    · refine max_le ?_ ?_
      · rw [Finset.fold_max_le]
        exact ⟨bot_le, fun w _ => (Finset.le_fold_max _).2 (.inr ⟨_, Finset.mem_univ _, (hS w).ge⟩)⟩
      · exact (Finset.le_fold_max _).2 (.inr ⟨_, Finset.mem_univ _, hk.ge⟩)
  have hz : Ideal.exp (S (0 : Fin 129).castSucc - peak s sink) = 0 := by
    rw [Fin.castSucc_zero, h0, EReal.bot_sub]
    rfl
  have hd : ∑ j, Ideal.exp (S j - peak s sink) = mass s sink := by
    rw [Fin.sum_univ_castSucc, Fin.sum_univ_succ, hz, zero_add, hk]
    simp only [hS]
    rfl
  have hp := mass_pos hs hr
  have hdiv : ∀ x, Ideal.div x (mass s sink) = x * (mass s sink)⁻¹ := fun x => by
    unfold Ideal.div
    rw [if_neg hp.ne']
  rw [hm, hd, Fin.sum_univ_succ, hz]
  unfold soft
  simp only [hdiv, hS, hV, zero_mul, mul_zero, zero_add]
  have hi0 : 0 ≤ (mass s sink)⁻¹ := EReal.inv_nonneg_of_nonneg hp.le
  have hit : (mass s sink)⁻¹ ≠ ⊤ := (EReal.inv_lt_top _).ne
  have h : ∀ t : Finset (Fin 128), ∑ w ∈ t, v w * (Ideal.exp (s w - peak s sink) * (mass s sink)⁻¹)
      = (∑ w ∈ t, Ideal.exp (s w - peak s sink) * v w) * (mass s sink)⁻¹ := fun t => by
    induction t using Finset.cons_induction with
    | empty => simp
    | cons i t hi ih =>
      rw [Finset.sum_cons, Finset.sum_cons, ih, EReal.right_distrib_of_nonneg_of_ne_top hi0 hit, mul_comm (Ideal.exp _) (v i), mul_assoc]
  exact h _

end Cert.AttnMath

end
-- ==== Proof.AttnSampleBlocks.lean ====
/-
  The entries of the sample attention kernel's intermediate arrays at the ideal floats (hand-written). Head row `4 u + g`
  of the kernel is the head of group `u` over key head `g`; its numbers stand in lanes `64 g` to `64 g + 63` of a row of
  256, and in columns `256 u + 64 g` on of a row of 1024.
-/
module

public import proofs.«01_k».proof.Proof.AttnSampleRows
public import proofs.«01_k».proof.Proof.AttnMath

@[expose] public section

noncomputable section

open Idealize.ShloMosaic Idealize.ShloMosaic.TcCoe Idealize.SL.Sem

namespace Cert.AttnSampleIdeal.Hand

open Cert.AttnSampleIdeal Cert.AttnSampleIdeal.Gen Cert.AttnMath

/-- A lane's word equals a sequence's number only at the sequence's lane. -/
theorem lane_eq : ∀ (t : Fin 8) (b : Fin 16) (x : Fin 128), IntOp.cmpi .eq (BitVec.ofNat 32 x.val)
    (Scalar.addi (Scalar.muli (BitVec.ofNat 32 t.val) 16#32) (BitVec.ofNat 32 b.val)) = if x.val = 16 * t.val + b.val then 1#1 else 0#1 := by
  decide +kernel

/-- The column a sequence's one-hot sum picks. -/
theorem column_apply (X : FVec Ideal S256x128 .f32) (t : Fin 8) (b : Fin 16) (r : Fin 256) :
    column (F := Ideal) lanes X (BitVec.ofNat 32 t.val) (BitVec.ofNat 32 b.val) (ix2 r (0 : Fin 1))
      = X (ix2 r (⟨16 * t.val + b.val, by omega⟩ : Fin 128)) := by
  unfold column k0_pay33
  pointwise
  simp only [lane_eq]
  refine (Finset.sum_eq_single (⟨16 * t.val + b.val, by omega⟩ : Fin 128) (fun x _ hx => ?_) (fun h => absurd (Finset.mem_univ _) h)).trans ?_
  · rw [if_neg (fun h => hx (Fin.ext h))]
    rfl
  · rw [if_pos rfl]
    rfl

/-- The last lane. -/
theorem lane_last : ∀ w : Fin 128, IntOp.cmpi .eq (BitVec.ofNat 32 w.val) 127#32 = if w.val < 127 then 0#1 else 1#1 := by
  decide +kernel

/-- A window's entries: the block's next position, and the new column in the last one. -/
theorem window_apply (col : FVec Ideal S256x1 .f32) (blk : Vec Ideal S1x256x128 .f32) (r : Fin 256) (w : Fin 128) :
    window (F := Ideal) lanes col blk (ix2 r w)
      = if h : w.val < 127 then blk (ix3 (0 : Fin 1) r (⟨w.val + 1, by omega⟩ : Fin 128)) else col (ix2 r (0 : Fin 1)) := by
  unfold window k0_pay69
  pointwise
  rw [lane_last]
  by_cases h : w.val < 127
  · rw [if_pos h, dif_pos h]
    exact congrArg (fun k : Fin 128 => blk (ix3 0 r k)) (Fin.ext (by show (w.val + 128 - 127) % 128 = w.val + 1; omega))
  · rw [if_neg h, dif_neg h]
    rfl

/-- Sequence `b`'s window at a point of the grid. -/
theorem winOf_apply (t : Fin 8) (i : grid0.Coords) (hi : (i 0).val = t.val) (X : FVec Ideal S256x128 .f32) (z : Vec Ideal S16x256x128 .f32)
    (b : Fin 16) (hb : ∀ a, (![b.val, 0, 0] : Fin 3 → ℕ) a + S1x256x128.size a ≤ S16x256x128.size a) (r : Fin 256) (w : Fin 128) :
    winOf (F := Ideal) i X z b.val hb (ix2 r w) = if h : w.val < 127 then z (ix3 b r (⟨w.val + 1, by omega⟩ : Fin 128))
      else X (ix2 r (⟨16 * t.val + b.val, by omega⟩ : Fin 128)) := by
  unfold winOf
  rw [window_apply, hi, column_apply]
  split
  · refine congrArg z ?_
    funext a
    apply Fin.ext
    match a with
    | ⟨0, _⟩ => show b.val + 1 * 0 = b.val; omega
    | ⟨1, _⟩ => show 0 + 1 * r.val = r.val; omega
    | ⟨2, _⟩ => show 0 + 1 * (w.val + 1) = w.val + 1; omega
  · rfl

section Masks

variable (i : grid0.Coords) (x0 : Vec Ideal S16x1024 .f32) (x1 : Vec Ideal S512x128 .f32) (x2 x3 : Vec Ideal S16x256x128 .f32)
  (x4 x5 x6 : Vec Ideal S8x128 .f32) (x7 x8 x9 : Vec Ideal S256x128 .f32) (x10 : Vec Ideal S16x128 .f32)

/-- A head row's own lanes. -/
theorem own_apply (h : Fin 16) (l : Fin 256) :
    k0_pay467 i x0 x1 x2 x3 x4 x5 x6 x7 x8 x9 x10 (ix2 h l) = if l.val / 64 = h.val % 4 then 1#1 else 0#1 := by
  unfold k0_pay467 k0_pay7 k0_pay8 k0_pay9 k0_pay10
  unfold_payloads
  pointwise
  revert h l
  decide +kernel

/-- A head row's group. -/
theorem grp_apply (h : Fin 16) (l : Fin 256) :
    k0_pay468 i x0 x1 x2 x3 x4 x5 x6 x7 x8 x9 x10 (ix2 h l) = BitVec.ofNat 32 (h.val / 4) := by
  unfold k0_pay468 k0_pay11
  unfold_payloads
  pointwise
  revert h
  decide +kernel

/-- The new keys after the rotary embedding. -/
theorem keysT_apply (r : Fin 256) (n : Fin 128) :
    keysT i x0 x1 x2 x3 x4 x5 x6 x7 x8 x9 x10 (ix2 r n)
      = (x1 (ix2 (⟨r.val, by omega⟩ : Fin 512) n) * x7 (ix2 r n)
        + x1 (ix2 (⟨(r.val + 256 - 248) % 256, by omega⟩ : Fin 512) n) * x8 (ix2 r n)
        + x1 (ix2 (⟨(r.val + 256 - 8) % 256, by omega⟩ : Fin 512) n) * x9 (ix2 r n) : EReal) := by
  unfold keysT k0_pay469
  unfold_payloads
  pointwise

/-- The new values. -/
theorem valuesT_apply (r : Fin 256) (n : Fin 128) :
    valuesT i x0 x1 x2 x3 x4 x5 x6 x7 x8 x9 x10 (ix2 r n) = x1 (ix2 (⟨256 + r.val, by omega⟩ : Fin 512) n) := by
  unfold valuesT k0_pay470
  unfold_payloads
  pointwise

end Masks

/-- A tile of a row after the rotary embedding, from the tables. -/
theorem ropeTile_apply (c sp sm y : FVec Ideal S1x128 .f32) (l : Fin 128) :
    ropeTile (F := Ideal) c sp sm y (ix2 (0 : Fin 1) l)
      = (y (ix2 0 l) * c (ix2 0 l) + y (ix2 0 (⟨(l.val + 128 - 120) % 128, by omega⟩ : Fin 128)) * sp (ix2 0 l)
        + y (ix2 0 (⟨(l.val + 128 - 8) % 128, by omega⟩ : Fin 128)) * sm (ix2 0 l) : EReal) := by
  unfold ropeTile
  pointwise

/-- A tile cut out of a row at column `n`, after the rotary embedding. -/
theorem ropeCut_apply (c sp sm : FVec Ideal S1x128 .f32) (y : FVec Ideal S1x1024 .f32) (n : ℕ) (hn : n + 128 ≤ 1024)
    (hs : S1x1024.Slices ![0, n] S1x128) (l : Fin 128) :
    ropeTile (F := Ideal) c sp sm (extractStridedSlice S1x128 ![0, n] (shapeCast S1x1024 y shapeCasts_S1x1024_S1x1024) hs) (ix2 (0 : Fin 1) l)
      = (y (ix2 0 (⟨n + l.val, by omega⟩ : Fin 1024)) * c (ix2 0 l)
        + y (ix2 0 (⟨n + (l.val + 128 - 120) % 128, by omega⟩ : Fin 1024)) * sp (ix2 0 l)
        + y (ix2 0 (⟨n + (l.val + 128 - 8) % 128, by omega⟩ : Fin 1024)) * sm (ix2 0 l) : EReal) := by
  rw [ropeTile_apply]
  pointwise

/-- A row of queries after the rotary embedding and the scaling, from the tables. -/
theorem ropeRow_apply (c sp sm : FVec Ideal S1x128 .f32) (y : FVec Ideal S1x1024 .f32) (k : Fin 8) (l : Fin 128) :
    ropeRow (F := Ideal) c sp sm y (ix2 (0 : Fin 1) (⟨128 * k.val + l.val, by omega⟩ : Fin 1024))
      = ((y (ix2 0 (⟨128 * k.val + l.val, by omega⟩ : Fin 1024)) * c (ix2 0 l)
        + y (ix2 0 (⟨128 * k.val + (l.val + 128 - 120) % 128, by omega⟩ : Fin 1024)) * sp (ix2 0 l)
        + y (ix2 0 (⟨128 * k.val + (l.val + 128 - 8) % 128, by omega⟩ : Fin 1024)) * sm (ix2 0 l)) * eighth : EReal) := by
  have e : ropeRow (F := Ideal) c sp sm y (ix2 (0 : Fin 1) (⟨128 * k.val + l.val, by omega⟩ : Fin 1024))
      = ((concatenate S1x1024 1
    [⟨S1x128, ropeTile c sp sm (extractStridedSlice S1x128 ![0, 0] (shapeCast S1x1024 y shapeCasts_S1x1024_S1x1024) slices_S1x1024_o0_0_S1x128)⟩,
     ⟨S1x128, ropeTile c sp sm (extractStridedSlice S1x128 ![0, 128] (shapeCast S1x1024 y shapeCasts_S1x1024_S1x1024) slices_S1x1024_o0_128_S1x128)⟩,
     ⟨S1x128, ropeTile c sp sm (extractStridedSlice S1x128 ![0, 256] (shapeCast S1x1024 y shapeCasts_S1x1024_S1x1024) slices_S1x1024_o0_256_S1x128)⟩,
     ⟨S1x128, ropeTile c sp sm (extractStridedSlice S1x128 ![0, 384] (shapeCast S1x1024 y shapeCasts_S1x1024_S1x1024) slices_S1x1024_o0_384_S1x128)⟩,
     ⟨S1x128, ropeTile c sp sm (extractStridedSlice S1x128 ![0, 512] (shapeCast S1x1024 y shapeCasts_S1x1024_S1x1024) slices_S1x1024_o0_512_S1x128)⟩,
     ⟨S1x128, ropeTile c sp sm (extractStridedSlice S1x128 ![0, 640] (shapeCast S1x1024 y shapeCasts_S1x1024_S1x1024) slices_S1x1024_o0_640_S1x128)⟩,
     ⟨S1x128, ropeTile c sp sm (extractStridedSlice S1x128 ![0, 768] (shapeCast S1x1024 y shapeCasts_S1x1024_S1x1024) slices_S1x1024_o0_768_S1x128)⟩,
     ⟨S1x128, ropeTile c sp sm (extractStridedSlice S1x128 ![0, 896] (shapeCast S1x1024 y shapeCasts_S1x1024_S1x1024) slices_S1x1024_o0_896_S1x128)⟩]
    concatenates_S1x128_S1x128_S1x128_S1x128_S1x128_S1x128_S1x128_S1x128_S1x1024_d1 : FVec Ideal S1x1024 .f32)
        (ix2 (0 : Fin 1) (⟨128 * k.val + l.val, by omega⟩ : Fin 1024)) * eighth : EReal) := rfl
  have hl := l.isLt
  rw [e]
  refine congrArg (· * eighth) ?_
  let f : Fin 8 → FVec Ideal S1x128 .f32 := fun n => ropeTile c sp sm (extractStridedSlice S1x128 ![0, 128 * n.val]
    (shapeCast S1x1024 y shapeCasts_S1x1024_S1x1024) ⟨rfl, fun a => by
      match a with
      | ⟨0, _⟩ => show 0 + 1 ≤ 1; omega
      | ⟨1, _⟩ => show 128 * n.val + 128 ≤ 1024; omega⟩)
  refine (concatenate_ofFn_apply (t := S1x1024) (s₁ := S1x128) 1 f concatenates_S1x128_S1x128_S1x128_S1x128_S1x128_S1x128_S1x128_S1x128_S1x1024_d1
    rfl 128 rfl _ k (by show (128 * k.val + l.val) / 128 = k.val; omega) (ix2 0 l)
    (by show l.val = (128 * k.val + l.val) % 128; omega) (fun b hb => ?_)).trans ?_
  · match b, hb with
    | ⟨0, _⟩, _ => rfl
    | ⟨1, _⟩, h => exact absurd rfl h
  · exact ropeCut_apply c sp sm y (128 * k.val) (by omega) _ l

/-- The query matrix: a head row holds its head's 64 numbers on its own lanes. -/
theorem queryMat_apply (own : IVec S16x256 1) (grp : IVec S16x256 32) (q : FVec Ideal S1x1024 .f32)
    (ho : ∀ h l, own (ix2 h l) = if l.val / 64 = h.val % 4 then 1#1 else 0#1) (hg : ∀ h l, grp (ix2 h l) = BitVec.ofNat 32 (h.val / 4))
    (u g : Fin 4) (l : Fin 256) :
    queryMat (F := Ideal) own grp q (ix2 (⟨4 * u.val + g.val, by omega⟩ : Fin 16) l)
      = if l.val / 64 = g.val then q (ix2 0 (⟨256 * u.val + l.val, by omega⟩ : Fin 1024)) else (0 : EReal) := by
  unfold queryMat
  pointwise
  rw [ho, hg]
  have h1 : (4 * u.val + g.val) / 4 = u.val := by omega
  have h2 : (4 * u.val + g.val) % 4 = g.val := by omega
  simp only [h1, h2]
  split
  · obtain ⟨u, hu⟩ := u
    interval_cases u <;> first
      | rfl
      | exact congrArg (fun k : Fin 1024 => q (ix2 0 k)) (Fin.ext (Nat.zero_add _).symm)
  · rfl

/-- The scores of a head row: only its own 64 lanes count. -/
theorem scores_apply (qm : FVec Ideal S16x256 .bf16) (nk : FVec Ideal S256x128 .f32) (h : Fin 16) (w : Fin 128) :
    scores (F := Ideal) qm nk (ix2 h w) = ∑ x : Fin 256, (qm (ix2 h x) * nk (ix2 x w) : EReal) := by
  unfold scores
  pointwise

theorem top_apply (s : FVec Ideal S16x128 .f32) (sink : FVec Ideal S16x1 .f32) (h : Fin 16)  :
    top (F := Ideal) s sink (ix2 h (0 : Fin 1)) = peak (fun w => s (ix2 h w)) (sink (ix2 h 0)) := by
  unfold top peak
  pointwise
  rfl

theorem weights_apply (s : FVec Ideal S16x128 .f32) (sink : FVec Ideal S16x1 .f32) (h : Fin 16) (w : Fin 128)  :
    weights (F := Ideal) s (top s sink) (ix2 h w) = Ideal.exp (s (ix2 h w) - peak (fun w => s (ix2 h w)) (sink (ix2 h 0))) := by
  rw [← top_apply]
  unfold weights
  pointwise

theorem total_apply (s : FVec Ideal S16x128 .f32) (sink : FVec Ideal S16x1 .f32) (h : Fin 16)  :
    total (F := Ideal) (weights s (top s sink)) (top s sink) sink (ix2 h (0 : Fin 1)) = mass (fun w => s (ix2 h w)) (sink (ix2 h 0)) := by
  unfold total mass
  pointwise
  rw [top_apply]
  exact congrArg (· + _) (Finset.sum_congr rfl fun w _ => weights_apply s sink h w)

theorem mixed_apply (s : FVec Ideal S16x128 .f32) (sink : FVec Ideal S16x1 .f32) (nv : FVec Ideal S256x128 .f32) (h : Fin 16) (l : Fin 256) :
    mixed (F := Ideal) (weights s (top s sink)) (total (weights s (top s sink)) (top s sink) sink) nv (ix2 h l)
      = soft (fun w => s (ix2 h w)) (sink (ix2 h 0)) (fun w => nv (ix2 l w)) := by
  unfold mixed soft
  pointwise
  rw [total_apply]
  exact congrArg (fun z => Ideal.div z _) (Finset.sum_congr rfl fun w _ => congrArg (· * _) (weights_apply s sink h w))

/-- A group's part of an output row: lane `l` is the head row of group `u` over the lane's own key head. -/
theorem chunk_apply (own : IVec S16x256 1) (grp : IVec S16x256 32) (o : FVec Ideal S16x256 .f32)
    (ho : ∀ h l, own (ix2 h l) = if l.val / 64 = h.val % 4 then 1#1 else 0#1) (hg : ∀ h l, grp (ix2 h l) = BitVec.ofNat 32 (h.val / 4))
    (u : Fin 4) (l : Fin 256) :
    chunk (F := Ideal) own grp o (BitVec.ofNat 32 u.val) (ix2 (0 : Fin 1) l) = o (ix2 (⟨4 * u.val + l.val / 64, by omega⟩ : Fin 16) l) := by
  unfold chunk
  pointwise
  have hw : ∀ (x : Fin 16) (u : Fin 4), IntOp.cmpi .eq (BitVec.ofNat 32 (x.val / 4)) (BitVec.ofNat 32 u.val) = if x.val / 4 = u.val then 1#1 else 0#1 := by
    decide +kernel
  simp only [ho, hg, hw]
  refine (Finset.sum_eq_single (⟨4 * u.val + l.val / 64, by omega⟩ : Fin 16) (fun x _ hx => ?_) (fun h => absurd (Finset.mem_univ _) h)).trans ?_
  · by_cases h1 : x.val / 4 = u.val
    · rw [if_pos h1, if_neg (fun h => hx (Fin.ext (by show x.val = 4 * u.val + l.val / 64; omega)))]
      rfl
    · rw [if_neg h1]
      rfl
  · rw [if_pos (by show (4 * u.val + l.val / 64) / 4 = u.val; omega), if_pos (by show l.val / 64 = (4 * u.val + l.val / 64) % 4; omega)]
    rfl

/-- An output row: column `256 u + l` is lane `l` of group `u`. -/
theorem outRow_apply (own : IVec S16x256 1) (grp : IVec S16x256 32) (o : FVec Ideal S16x256 .f32) (u : Fin 4) (l : Fin 256) :
    outRow (F := Ideal) own grp o (ix2 (0 : Fin 1) (⟨256 * u.val + l.val, by omega⟩ : Fin 1024))
      = chunk (F := Ideal) own grp o (BitVec.ofNat 32 u.val) (ix2 (0 : Fin 1) l) := by
  unfold outRow
  have hl := l.isLt
  pointwise
  obtain ⟨u, hu⟩ := u
  interval_cases u <;> dsimp only <;> split_ifs <;> first
    | (exfalso; omega)
    | exact congrArg (fun k : Fin 256 => chunk (F := Ideal) own grp o _ (ix2 0 k)) (Fin.ext (by dsimp only; omega))

/-- The scores of head row `4 u + g` from the row of queries: the sum over its own 64 lanes. -/
theorem score_apply (own : IVec S16x256 1) (grp : IVec S16x256 32) (q : FVec Ideal S1x1024 .f32) (nk : FVec Ideal S256x128 .f32)
    (ho : ∀ h l, own (ix2 h l) = if l.val / 64 = h.val % 4 then 1#1 else 0#1) (hg : ∀ h l, grp (ix2 h l) = BitVec.ofNat 32 (h.val / 4))
    (u g : Fin 4) (w : Fin 128) :
    scores (F := Ideal) (queryMat own grp q) nk (ix2 (⟨4 * u.val + g.val, by omega⟩ : Fin 16) w)
      = ∑ e : Fin 64, (q (ix2 0 (⟨256 * u.val + (g.val * 64 + e.val), by omega⟩ : Fin 1024)) * nk (ix2 (⟨g.val * 64 + e.val, by omega⟩ : Fin 256) w) : EReal) := by
  rw [scores_apply]
  simp only [queryMat_apply own grp q ho hg]
  rw [← Fin.sum_mul_add_fin 4 64 (fun x : Fin 256 => ((if x.val / 64 = g.val then q (ix2 0 (⟨256 * u.val + x.val, by omega⟩ : Fin 1024)) else (0 : EReal)) * nk (ix2 x w) : EReal))]
  refine (Finset.sum_eq_single g (fun k _ hk => Finset.sum_eq_zero fun e _ => ?_) (fun h => absurd (Finset.mem_univ _) h)).trans ?_
  · rw [if_neg (fun h => hk (Fin.ext (by have := e.isLt; dsimp only at h; omega))), zero_mul]
  · refine Finset.sum_congr rfl fun e _ => ?_
    rw [if_pos (by have := e.isLt; dsimp only; omega)]

/-- One sequence's attention: column `256 u + 64 g + d` is number `d` of the head of group `u` over key head `g`. -/
theorem attend_apply (own : IVec S16x256 1) (grp : IVec S16x256 32) (sink : FVec Ideal S16x1 .f32) (q : FVec Ideal S1x1024 .f32)
    (nk nv : FVec Ideal S256x128 .f32)
    (ho : ∀ h l, own (ix2 h l) = if l.val / 64 = h.val % 4 then 1#1 else 0#1) (hg : ∀ h l, grp (ix2 h l) = BitVec.ofNat 32 (h.val / 4))
    (u g : Fin 4) (d : Fin 64) :
    attend (F := Ideal) own grp sink q nk nv (ix2 (0 : Fin 1) (⟨256 * u.val + (g.val * 64 + d.val), by omega⟩ : Fin 1024))
      = soft (fun w => ∑ e : Fin 64, (q (ix2 0 (⟨256 * u.val + (g.val * 64 + e.val), by omega⟩ : Fin 1024)) * nk (ix2 (⟨g.val * 64 + e.val, by omega⟩ : Fin 256) w) : EReal))
          (sink (ix2 (⟨4 * u.val + g.val, by omega⟩ : Fin 16) 0)) (fun w => nv (ix2 (⟨g.val * 64 + d.val, by omega⟩ : Fin 256) w)) := by
  unfold attend
  have h1 := outRow_apply own grp (mixed (weights (scores (queryMat own grp q) nk) (top (scores (queryMat own grp q) nk) sink))
    (total (weights (scores (queryMat own grp q) nk) (top (scores (queryMat own grp q) nk) sink)) (top (scores (queryMat own grp q) nk) sink) sink) nv)
    u (⟨g.val * 64 + d.val, by omega⟩ : Fin 256)
  refine h1.trans ?_
  rw [chunk_apply own grp _ ho hg, mixed_apply]
  have hh : (⟨4 * u.val + (⟨g.val * 64 + d.val, by omega⟩ : Fin 256).val / 64, by have := u.isLt; dsimp only; omega⟩ : Fin 16) = ⟨4 * u.val + g.val, by omega⟩ :=
    Fin.ext (by have := d.isLt; dsimp only; omega)
  rw [hh]
  exact congrArg (fun s : Fin 128 → EReal => soft s _ _) (funext fun w => score_apply own grp q nk ho hg u g w)

end Cert.AttnSampleIdeal.Hand

end
-- ==== Proof.AttnSampleStores.lean ====
/-
  What one grid point of the sample attention kernel stores (hand-written): the sixteen windows of keys and of values, and
  the sixteen output rows, each read at an entry.
-/
module

public import proofs.«01_k».proof.Proof.AttnSampleBlocks

@[expose] public section

noncomputable section

open Idealize.ShloMosaic Idealize.ShloMosaic.TcCoe Idealize.SL.Sem

namespace Cert.AttnSampleIdeal.Hand

open Cert.AttnSampleIdeal Cert.AttnSampleIdeal.Gen Cert.AttnMath

section AnyFloat

variable {F : FTy → Type} [FloatOps F]

/-- Sequence `n`'s window lies in the block. -/
theorem inb3 (n : Fin 16) (a : Fin 3) : (![n.val, 0, 0] : Fin 3 → ℕ) a + S1x256x128.size a ≤ S16x256x128.size a := by
  have := n.isLt
  match a with
  | ⟨0, _⟩ => show n.val + 1 ≤ 16; omega
  | ⟨1, _⟩ => show 0 + 256 ≤ 256; omega
  | ⟨2, _⟩ => show 0 + 128 ≤ 128; omega

/-- Sequence `n`'s row lies in the block. -/
theorem inb2 (n : Fin 16) (a : Fin 2) : (![n.val, 0] : Fin 2 → ℕ) a + S1x1024.size a ≤ S16x1024.size a := by
  have := n.isLt
  match a with
  | ⟨0, _⟩ => show n.val + 1 ≤ 16; omega
  | ⟨1, _⟩ => show 0 + 1024 ≤ 1024; omega

/-- The sixteen windows of a point, the last sequence's first. -/
def wins (i : grid0.Coords) (X : FVec F S256x128 .f32) (z : Vec F S16x256x128 .f32) : Vec F S16x256x128 .f32 :=
  View.canon (List.ofFn fun k : Fin 16 => (⟨Rect.unit (s := S16x256x128) ![k.rev.val, 0, 0] S1x256x128.size (inb3 k.rev),
    shapeCast S1x256x128 (winOf i X z k.rev.val (inb3 k.rev)) shapeCasts_S256x128_S1x256x128⟩ : View.Piece (Elt F) S16x256x128 .f32))

variable (i : grid0.Coords) (x0 : Vec F S16x1024 .f32) (x1 : Vec F S512x128 .f32) (x2 x3 : Vec F S16x256x128 .f32)
  (x4 x5 x6 : Vec F S8x128 .f32) (x7 x8 x9 : Vec F S256x128 .f32) (x10 : Vec F S16x128 .f32)

/-- The windows of keys a point stores. -/
theorem out_keys : out0_12 i x0 x1 x2 x3 x4 x5 x6 x7 x8 x9 x10 = wins i (keysT i x0 x1 x2 x3 x4 x5 x6 x7 x8 x9 x10) x2 := rfl

/-- The windows of values a point stores. -/
theorem out_values : out0_13 i x0 x1 x2 x3 x4 x5 x6 x7 x8 x9 x10 = wins i (valuesT i x0 x1 x2 x3 x4 x5 x6 x7 x8 x9 x10) x3 := rfl

/-- The output rows a point stores, stacked. -/
theorem out_attn : out0_11 i x0 x1 x2 x3 x4 x5 x6 x7 x8 x9 x10 = View.canon [⟨r0_37, truncf .bf16
    (concatenate S16x1024 0 (List.ofFn fun n : Fin 16 => (⟨S1x1024, rowOf i x0 x1 x2 x3 x4 x5 x6 x7 x8 x9 x10 n.val (inb3 n) (inb2 n)⟩ : (s : Shape) × (s.Idx → F .f32)))
      concatenates_S1x1024_S1x1024_S1x1024_S1x1024_S1x1024_S1x1024_S1x1024_S1x1024_S1x1024_S1x1024_S1x1024_S1x1024_S1x1024_S1x1024_S1x1024_S1x1024_S16x1024_d0) bitsLt_bf16_f32⟩] :=
  (out_rows i x0 x1 x2 x3 x4 x5 x6 x7 x8 x9 x10).trans rfl

end AnyFloat

/-- An entry of a point's windows. -/
theorem wins_apply (t : Fin 8) (i : grid0.Coords) (hi : (i 0).val = t.val) (X : FVec Ideal S256x128 .f32) (z : Vec Ideal S16x256x128 .f32)
    (b : Fin 16) (r : Fin 256) (w : Fin 128) :
    wins (F := Ideal) i X z (ix3 b r w) = if h : w.val < 127 then z (ix3 b r (⟨w.val + 1, by omega⟩ : Fin 128))
      else X (ix2 r (⟨16 * t.val + b.val, by omega⟩ : Fin 128)) := by
  refine View.canon_ofFn_unit_eq_of_forall (S := S16x256x128) (fun k : Fin 16 => ![k.rev.val, 0, 0]) S1x256x128.size (fun k => inb3 k.rev) _ _ _
    ⟨b.rev, fun a => ?_⟩ fun k x hx => ?_
  · rw [Fin.rev_rev]
    match a with
    | ⟨0, _⟩ => show b.val ≤ b.val ∧ b.val < b.val + 1; omega
    | ⟨1, _⟩ => show 0 ≤ r.val ∧ r.val < 0 + 256; omega
    | ⟨2, _⟩ => show 0 ≤ w.val ∧ w.val < 0 + 128; omega
  · obtain ⟨e, p, q, rfl⟩ : ∃ (e : Fin 1) (p : Fin 256) (q : Fin 128), x = ix3 e p q := ⟨x 0, x 1, x 2, eq_ix3 x⟩
    have h0 : b.val = k.rev.val + e.val := hx 0
    have h1 : r.val = 0 + p.val := hx 1
    have h2 : w.val = 0 + q.val := hx 2
    have hb : k.rev = b := Fin.ext (by omega)
    have hp : p = r := Fin.ext (by omega)
    have hq : q = w := Fin.ext (by omega)
    subst hp hq hb
    refine Eq.trans ?_ (winOf_apply t i hi X z k.rev (inb3 k.rev) p q)
    pointwise

section Rows

variable (i : grid0.Coords) (x0 : Vec Ideal S16x1024 .f32) (x1 : Vec Ideal S512x128 .f32) (x2 x3 : Vec Ideal S16x256x128 .f32)
  (x4 x5 x6 : Vec Ideal S8x128 .f32) (x7 x8 x9 : Vec Ideal S256x128 .f32) (x10 : Vec Ideal S16x128 .f32)

/-- An entry of a point's output rows. -/
theorem attn_apply (b : Fin 16) (k : Fin 1024) :
    out0_11 i x0 x1 x2 x3 x4 x5 x6 x7 x8 x9 x10 (ix2 b k) = rowOf i x0 x1 x2 x3 x4 x5 x6 x7 x8 x9 x10 b.val (inb3 b) (inb2 b) (ix2 (0 : Fin 1) k) := by
  rw [out_attn, View.canon_unit_zero (funext fun a => match a with | ⟨0, _⟩ => rfl | ⟨1, _⟩ => rfl)]
  refine concatenate_ofFn_unit_apply (t := S16x1024) (s₁ := S1x1024) 0 (fun n : Fin 16 => rowOf i x0 x1 x2 x3 x4 x5 x6 x7 x8 x9 x10 n.val (inb3 n) (inb2 n))
    concatenates_S1x1024_S1x1024_S1x1024_S1x1024_S1x1024_S1x1024_S1x1024_S1x1024_S1x1024_S1x1024_S1x1024_S1x1024_S1x1024_S1x1024_S1x1024_S1x1024_S16x1024_d0
    rfl rfl (ix2 b k) b rfl (ix2 0 k) fun a ha => ?_
  match a, ha with
  | ⟨0, _⟩, h => exact absurd rfl h
  | ⟨1, _⟩, _ => rfl

/-- The table row of cosines. -/
theorem c_apply (l : Fin 128) : k0_pay461 i x0 x1 x2 x3 x4 x5 x6 x7 x8 x9 x10 (ix2 (0 : Fin 1) l) = x4 (ix2 0 l) := by
  unfold k0_pay461
  unfold_payloads
  pointwise

/-- The table row for the number eight places on. -/
theorem sp_apply (l : Fin 128) : k0_pay462 i x0 x1 x2 x3 x4 x5 x6 x7 x8 x9 x10 (ix2 (0 : Fin 1) l) = x5 (ix2 0 l) := by
  unfold k0_pay462
  unfold_payloads
  pointwise

/-- The table row for the number eight places before. -/
theorem sm_apply (l : Fin 128) : k0_pay463 i x0 x1 x2 x3 x4 x5 x6 x7 x8 x9 x10 (ix2 (0 : Fin 1) l) = x6 (ix2 0 l) := by
  unfold k0_pay463
  unfold_payloads
  pointwise

/-- The column of sinks. -/
theorem sink_apply (h : Fin 16) : k0_pay464 i x0 x1 x2 x3 x4 x5 x6 x7 x8 x9 x10 (ix2 h (0 : Fin 1)) = x10 (ix2 h 0) := by
  unfold k0_pay464
  unfold_payloads
  pointwise

/-- The row of queries of sequence `b`. -/
theorem row_apply (b : Fin 16) (k : Fin 1024) :
    (View.ld x0 (Rect.unit (s := S16x1024) ![b.val, 0] S1x1024.size (inb2 b)) : Vec Ideal S1x1024 .f32) (ix2 (0 : Fin 1) k) = x0 (ix2 b k) := by
  refine congrArg x0 ?_
  funext a
  apply Fin.ext
  match a with
  | ⟨0, _⟩ => show b.val + 1 * 0 = b.val; omega
  | ⟨1, _⟩ => show 0 + 1 * k.val = k.val; omega

/-- The rotary embedding of a row of queries: every head's 64 numbers are turned, then scaled by 1/8. -/
theorem query_apply (c sp sm : FVec Ideal S1x128 .f32) (y : FVec Ideal S1x1024 .f32) (p : EReal) (A : Fin 4 → Fin 4 → Fin 64 → EReal)
    (hc : ∀ l : Fin 128, c (ix2 0 l) = tabC p (l.val % 64)) (hp : ∀ l : Fin 128, sp (ix2 0 l) = tabP p (l.val % 64))
    (hm : ∀ l : Fin 128, sm (ix2 0 l) = tabM p (l.val % 64))
    (hy : ∀ (u g : Fin 4) (d : Fin 64), y (ix2 0 (⟨256 * u.val + (g.val * 64 + d.val), by omega⟩ : Fin 1024)) = A u g d)
    (u g : Fin 4) (d : Fin 64) :
    ropeRow (F := Ideal) c sp sm y (ix2 (0 : Fin 1) (⟨256 * u.val + (g.val * 64 + d.val), by omega⟩ : Fin 1024)) = (rope p (A u g) d * eighth : EReal) := by
  have hd := d.isLt
  have e := ropeRow_apply c sp sm y (⟨2 * u.val + g.val / 2, by omega⟩ : Fin 8) (⟨64 * (g.val % 2) + d.val, by omega⟩ : Fin 128)
  have hk : ∀ (n : ℕ) (hn : n < 1024) (k : Fin 64), n = 256 * u.val + (g.val * 64 + k.val) → y (ix2 0 (⟨n, hn⟩ : Fin 1024)) = A u g k := fun n hn k h => by
    subst h
    exact hy u g k
  have hi : (⟨256 * u.val + (g.val * 64 + d.val), by omega⟩ : Fin 1024)
      = ⟨128 * (2 * u.val + g.val / 2) + (64 * (g.val % 2) + d.val), by omega⟩ := Fin.ext (by dsimp only; omega)
  have hl : (64 * (g.val % 2) + d.val) % 64 = d.val := by omega
  rw [hi]
  refine e.trans (congrArg (· * eighth) ?_)
  rw [hc, hp, hm]
  dsimp only
  rw [hl, hk _ _ d (by omega)]
  exact rope_tab p (A u g) d _ _ (fun h => hk _ _ _ (by dsimp only; omega)) (fun h h2 => hk _ _ _ (by dsimp only; omega))

/-- The new keys: every key head's 64 numbers are turned. -/
theorem newKey_apply (p : EReal) (hc : ∀ r n, x7 (ix2 r n) = tabC p (r.val % 64)) (hp : ∀ r n, x8 (ix2 r n) = tabP p (r.val % 64))
    (hm : ∀ r n, x9 (ix2 r n) = tabM p (r.val % 64)) (g : Fin 4) (d : Fin 64) (n : Fin 128) :
    keysT i x0 x1 x2 x3 x4 x5 x6 x7 x8 x9 x10 (ix2 (⟨g.val * 64 + d.val, by omega⟩ : Fin 256) n)
      = rope p (fun k : Fin 64 => x1 (ix2 (⟨g.val * 64 + k.val, by omega⟩ : Fin 512) n)) d := by
  have hd := d.isLt
  rw [keysT_apply, hc, hp, hm]
  dsimp only
  have hl : (g.val * 64 + d.val) % 64 = d.val := by omega
  rw [hl]
  exact rope_tab p (fun k : Fin 64 => x1 (ix2 (⟨g.val * 64 + k.val, by omega⟩ : Fin 512) n)) d _ _
    (fun h => congrArg (fun k : Fin 512 => x1 (ix2 k n)) (Fin.ext (by dsimp only; omega)))
    (fun h h2 => congrArg (fun k : Fin 512 => x1 (ix2 k n)) (Fin.ext (by dsimp only; omega)))

end Rows

end Cert.AttnSampleIdeal.Hand

end
-- ==== Proof.AttnSampleWindows.lean ====
/-
  The input windows of the sample attention kernel as entries of the arguments (hand-written): the queries with their
  heads reordered, the new keys and values transposed, the two caches transposed and the sinks.
-/
module

public import proofs.«01_k».proof.Proof.AttnSampleBlocks

@[expose] public section

noncomputable section

open Idealize.ShloMosaic Idealize.ShloMosaic.TcCoe Idealize.SL.Sem

namespace Cert.AttnSampleIdeal.Hand

open Cert.AttnSampleIdeal Cert.AttnSampleIdeal.Gen Cert.AttnMath

/-- Where each window stands at point `t`. -/
theorem idx : ∀ t : Fin cfg0.N, win0_0.index t = ![t.val, 0] ∧ win0_1.index t = ![0, 0] ∧ win0_2.index t = ![t.val, 0, 0]
    ∧ win0_3.index t = ![t.val, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0, 0] ∧ win0_13.index t = ![t.val, 0, 0] := by
  decide +kernel

/-- The position of the sample's new token. -/
abbrev now : EReal := (FloatOps.sitofp (F := Ideal) .f32 16384#32 : EReal)

variable (m : (ℓ : Loc nD τ sig) → Buf (Elt Ideal) ℓ) (c : Dev nD) (t : Fin cfg0.N)

/-- The rows of queries, head `4 g + u` in column `256 u + 64 g`. -/
theorem blk0 (b : Fin 16) (u g : Fin 4) (d : Fin 64) (B : Fin 128) (hB : B.val = 16 * t.val + b.val) :
    (iblk m c 0 t : Vec Ideal S16x1024 .f32) (ix2 b ⟨256 * u.val + (g.val * 64 + d.val), by omega⟩)
      = m ((c : Thread nD τ).loc main_arg0) (ix2 B ⟨64 * (4 * g.val + u.val) + d.val, by omega⟩) := by
  blk_simp [iblk, (idx t).1]; entry_read; pointwise
  have e := (idx t).1
  have e1 : (((View.whole main_v4).slice (win0_0.rect t)).emb (ix2 b ⟨256 * u.val + (g.val * 64 + d.val), by omega⟩) 1).val
      = 256 * u.val + (g.val * 64 + d.val) := by
    show win0_0.index t 1 * 1024 + 1 * _ = _; rw [e]; simp
  congr 1; funext a; apply Fin.ext
  match a with
  | ⟨0, _⟩ => show win0_0.index t 0 * 16 + 1 * b.val = B.val; rw [e, hB]; simp; omega
  | ⟨1, _⟩ => dsimp only [ix2]; show _ / 64 % 4 * 256 + _ / 256 * 64 + _ % 64 = 64 * (4 * g.val + u.val) + d.val; rw [e1]; omega

/-- The new keys and values, transposed. -/
theorem blk1 (r : Fin 512) (n : Fin 128) :
    (iblk m c 1 t : Vec Ideal S512x128 .f32) (ix2 r n) = m ((c : Thread nD τ).loc main_arg0) (ix2 n ⟨1024 + r.val, by omega⟩) := by
  blk_simp [iblk, (idx t).2.1]; entry_read; pointwise
  blk_ext [(idx t).2.1]

/-- The key caches, transposed. -/
theorem blk2 (b : Fin 16) (g : Fin 4) (d : Fin 64) (w : Fin 128) (B : Fin 128) (hB : B.val = 16 * t.val + b.val) :
    (iblk m c 2 t : Vec Ideal S16x256x128 .f32) (ix3 b ⟨g.val * 64 + d.val, by omega⟩ w) = m ((c : Thread nD τ).loc main_arg1) (ix4 B w g d) := by
  blk_simp [iblk, (idx t).2.2.1]; entry_read; pointwise
  have e := (idx t).2.2.1
  have e1 : (((View.whole main_v13).slice (win0_2.rect t)).emb (ix3 b ⟨g.val * 64 + d.val, by omega⟩ w) 1).val = g.val * 64 + d.val := by
    show win0_2.index t 1 * 256 + 1 * _ = _; rw [e]; simp
  congr 1; funext a; apply Fin.ext
  match a with
  | ⟨0, _⟩ => show win0_2.index t 0 * 16 + 1 * b.val = B.val; rw [e, hB]; simp; omega
  | ⟨1, _⟩ => show win0_2.index t 2 * 128 + 1 * w.val = w.val; rw [e]; simp
  | ⟨2, _⟩ => show _ / 64 = g.val; rw [e1]; omega
  | ⟨3, _⟩ => show _ % 64 = d.val; rw [e1]; omega

/-- The value caches, transposed. -/
theorem blk3 (b : Fin 16) (g : Fin 4) (d : Fin 64) (w : Fin 128) (B : Fin 128) (hB : B.val = 16 * t.val + b.val) :
    (iblk m c 3 t : Vec Ideal S16x256x128 .f32) (ix3 b ⟨g.val * 64 + d.val, by omega⟩ w) = m ((c : Thread nD τ).loc main_arg2) (ix4 B w g d) := by
  blk_simp [iblk, (idx t).2.2.2.1]; entry_read; pointwise
  have e := (idx t).2.2.2.1
  have e1 : (((View.whole main_v15).slice (win0_3.rect t)).emb (ix3 b ⟨g.val * 64 + d.val, by omega⟩ w) 1).val = g.val * 64 + d.val := by
    show win0_3.index t 1 * 256 + 1 * _ = _; rw [e]; simp
  congr 1; funext a; apply Fin.ext
  match a with
  | ⟨0, _⟩ => show win0_3.index t 0 * 16 + 1 * b.val = B.val; rw [e, hB]; simp; omega
  | ⟨1, _⟩ => show win0_3.index t 2 * 128 + 1 * w.val = w.val; rw [e]; simp
  | ⟨2, _⟩ => show _ / 64 = g.val; rw [e1]; omega
  | ⟨3, _⟩ => show _ % 64 = d.val; rw [e1]; omega

/-- The sinks, one per head row. -/
theorem blk10 (u g : Fin 4) (l : Fin 128) :
    (iblk m c 10 t : Vec Ideal S16x128 .f32) (ix2 ⟨4 * u.val + g.val, by omega⟩ l) = m ((c : Thread nD τ).loc main_arg3) (ix1 ⟨4 * g.val + u.val, by omega⟩) := by
  blk_simp [iblk, (idx t).2.2.2.2.2.2.2.2.2.2.1]; entry_read; pointwise
  have e := (idx t).2.2.2.2.2.2.2.2.2.2.1
  have e1 : (((View.whole main_v8).slice (win0_10.rect t)).emb (ix2 ⟨4 * u.val + g.val, by omega⟩ l) 0).val = 4 * u.val + g.val := by
    show win0_10.index t 0 * 16 + 1 * _ = _; rw [e]; simp
  congr 1; funext a; apply Fin.ext
  match a with
  | ⟨0, _⟩ => show _ % 4 * 4 + _ / 4 = 4 * g.val + u.val; rw [e1]; omega

end Cert.AttnSampleIdeal.Hand

end
-- ==== Proof.AttnSampleTables.lean ====
/-
  The rotary tables of the sample attention kernel as the host lays them out (hand-written): the cosines, and the sines
  with either sign, along the lanes of two heads for the queries and along the rows of four heads for the new keys.
-/
module

public import proofs.«01_k».proof.Proof.AttnSampleWindows
public import Idealize.ShloMosaic.Lib.StableHlo.ReadAt

@[expose] public section

noncomputable section

open Idealize.ShloMosaic Idealize.ShloMosaic.TcCoe Idealize.SL.Sem

namespace Cert.AttnSampleIdeal.Hand

open Cert.AttnSampleIdeal Cert.AttnSampleIdeal.Gen Cert.AttnMath

variable (m : (ℓ : Loc nD τ sig) → Buf (Elt Ideal) ℓ) (c : Dev nD) (t : Fin cfg0.N)

/-- The row of cosines. -/
theorem cosRow (A : Vec Ideal S1x8 .f32) (hA : A = StableHlo.upto hostOps0 (fun b => m (c, b)) 41 (Proc.devRef .tc main_v32)) (i : Fin 8) :
    A (ix2 0 i) = Ideal.cos (ang now i.val) := by
  rw [hA]
  after_reads_at
  rfl

/-- The row of ones. -/
theorem oneRow (A : Vec Ideal S1x48 .f32) (hA : A = StableHlo.upto hostOps0 (fun b => m (c, b)) 41 (Proc.devRef .tc main_v34)) (i : Fin 48) :
    A (ix2 0 i) = (1 : EReal) := by
  rw [hA]
  after_reads_at

/-- The row of sines. -/
theorem sinRow (A : Vec Ideal S1x8 .f32) (hA : A = StableHlo.upto hostOps0 (fun b => m (c, b)) 50 (Proc.devRef .tc main_v33)) (i : Fin 8) :
    A (ix2 0 i) = Ideal.sin (ang now i.val) := by
  rw [hA]
  after_reads_at
  rfl

/-- The short row of zeros. -/
theorem zeroRow8 (A : Vec Ideal S1x8 .f32) (hA : A = StableHlo.upto hostOps0 (fun b => m (c, b)) 50 (Proc.devRef .tc main_v39)) (i : Fin 8) :
    A (ix2 0 i) = (0 : EReal) := by
  rw [hA]
  after_reads_at

/-- The long row of zeros. -/
theorem zeroRow48 (A : Vec Ideal S1x48 .f32) (hA : A = StableHlo.upto hostOps0 (fun b => m (c, b)) 50 (Proc.devRef .tc main_v40)) (i : Fin 48) :
    A (ix2 0 i) = (0 : EReal) := by
  rw [hA]
  after_reads_at

set_option maxHeartbeats 1000000 in
/-- The queries' table of cosines. -/
theorem blk4 (l : Fin 128) : (iblk m c 4 t : Vec Ideal S8x128 .f32) (ix2 0 l) = tabC now (l.val % 64) := by
  have e := (idx t).2.2.2.2.1
  have e1 : (((View.whole main_v51).slice (win0_4.rect t)).emb (ix2 0 l) 1).val = l.val := by
    show win0_4.index t 1 * 128 + 1 * _ = _; rw [e]; simp
  blk_simp [iblk, e]
  unfold V
  after_reads_simp
  dsimp only [Matrix.cons_val_zero, Matrix.cons_val_one, Matrix.cons_val]
  obtain ⟨A, hA⟩ : ∃ A : Vec Ideal S1x8 .f32, A = StableHlo.upto hostOps0 (fun b => m (c, b)) 41 (Proc.devRef .tc main_v32) := ⟨_, rfl⟩
  obtain ⟨B, hB⟩ : ∃ B : Vec Ideal S1x48 .f32, B = StableHlo.upto hostOps0 (fun b => m (c, b)) 41 (Proc.devRef .tc main_v34) := ⟨_, rfl⟩
  rw [← hA, ← hB]
  clean_types
  pointwise
  simp only [cosRow m c A hA, oneRow m c B hB, e1]
  unfold tabC
  split_ifs <;> rfl

/-- The queries' table for the number eight places on. -/
theorem blk5 (l : Fin 128) : (iblk m c 5 t : Vec Ideal S8x128 .f32) (ix2 0 l) = tabP now (l.val % 64) := by
  have e := (idx t).2.2.2.2.2.1
  have e1 : (((View.whole main_v52).slice (win0_5.rect t)).emb (ix2 0 l) 1).val = l.val := by
    show win0_5.index t 1 * 128 + 1 * _ = _; rw [e]; simp
  blk_simp [iblk, e]; entry_read; pointwise
  rw [e1]
  rfl

set_option maxHeartbeats 1000000 in
/-- The queries' table for the number eight places before. -/
theorem blk6 (l : Fin 128) : (iblk m c 6 t : Vec Ideal S8x128 .f32) (ix2 0 l) = tabM now (l.val % 64) := by
  have e := (idx t).2.2.2.2.2.2.1
  have e1 : (((View.whole main_v53).slice (win0_6.rect t)).emb (ix2 0 l) 1).val = l.val := by
    show win0_6.index t 1 * 128 + 1 * _ = _; rw [e]; simp
  blk_simp [iblk, e]
  unfold V
  after_reads_simp
  dsimp only [Matrix.cons_val_zero, Matrix.cons_val_one, Matrix.cons_val]
  obtain ⟨A, hA⟩ : ∃ A : Vec Ideal S1x8 .f32, A = StableHlo.upto hostOps0 (fun b => m (c, b)) 50 (Proc.devRef .tc main_v39) := ⟨_, rfl⟩
  obtain ⟨S, hS⟩ : ∃ S : Vec Ideal S1x8 .f32, S = StableHlo.upto hostOps0 (fun b => m (c, b)) 50 (Proc.devRef .tc main_v33) := ⟨_, rfl⟩
  obtain ⟨B, hB⟩ : ∃ B : Vec Ideal S1x48 .f32, B = StableHlo.upto hostOps0 (fun b => m (c, b)) 50 (Proc.devRef .tc main_v40) := ⟨_, rfl⟩
  rw [← hA, ← hS, ← hB]
  clean_types
  pointwise
  simp only [zeroRow8 m c A hA, sinRow m c S hS, zeroRow48 m c B hB, e1]
  unfold tabM
  split_ifs <;> rfl

set_option maxHeartbeats 1000000 in
/-- The new keys' table of cosines. -/
theorem blk7 (r : Fin 256) (n : Fin 128) : (iblk m c 7 t : Vec Ideal S256x128 .f32) (ix2 r n) = tabC now (r.val % 64) := by
  have e := (idx t).2.2.2.2.2.2.2.1
  have e1 : (((View.whole main_v58).slice (win0_7.rect t)).emb (ix2 r n) 0).val = r.val := by
    show win0_7.index t 0 * 256 + 1 * _ = _; rw [e]; simp
  have e2 : r.val % 128 % 64 = r.val % 64 := by omega
  blk_simp [iblk, e]
  unfold V
  after_reads_simp
  dsimp only [Matrix.cons_val_zero, Matrix.cons_val_one, Matrix.cons_val]
  obtain ⟨A, hA⟩ : ∃ A : Vec Ideal S1x8 .f32, A = StableHlo.upto hostOps0 (fun b => m (c, b)) 41 (Proc.devRef .tc main_v32) := ⟨_, rfl⟩
  obtain ⟨B, hB⟩ : ∃ B : Vec Ideal S1x48 .f32, B = StableHlo.upto hostOps0 (fun b => m (c, b)) 41 (Proc.devRef .tc main_v34) := ⟨_, rfl⟩
  rw [← hA, ← hB]
  clean_types
  pointwise
  simp only [cosRow m c A hA, oneRow m c B hB, e1, e2]
  unfold tabC
  split_ifs <;> rfl

set_option maxHeartbeats 1000000 in
/-- The new keys' table for the number eight places on. -/
theorem blk8 (r : Fin 256) (n : Fin 128) : (iblk m c 8 t : Vec Ideal S256x128 .f32) (ix2 r n) = tabP now (r.val % 64) := by
  have e := (idx t).2.2.2.2.2.2.2.2.1
  have e1 : (((View.whole main_v63).slice (win0_8.rect t)).emb (ix2 r n) 0).val = r.val := by
    show win0_8.index t 0 * 256 + 1 * _ = _; rw [e]; simp
  have e2 : r.val % 128 % 64 = r.val % 64 := by omega
  blk_simp [iblk, e]; entry_read; pointwise
  simp only [ang, e1, e2]
  unfold tabP
  split_ifs <;> rfl

set_option maxHeartbeats 1000000 in
/-- The new keys' table for the number eight places before. -/
theorem blk9 (r : Fin 256) (n : Fin 128) : (iblk m c 9 t : Vec Ideal S256x128 .f32) (ix2 r n) = tabM now (r.val % 64) := by
  have e := (idx t).2.2.2.2.2.2.2.2.2.1
  have e1 : (((View.whole main_v68).slice (win0_9.rect t)).emb (ix2 r n) 0).val = r.val := by
    show win0_9.index t 0 * 256 + 1 * _ = _; rw [e]; simp
  have e2 : r.val % 128 % 64 = r.val % 64 := by omega
  blk_simp [iblk, e]
  unfold V
  after_reads_simp
  dsimp only [Matrix.cons_val_zero, Matrix.cons_val_one, Matrix.cons_val]
  obtain ⟨A, hA⟩ : ∃ A : Vec Ideal S1x8 .f32, A = StableHlo.upto hostOps0 (fun b => m (c, b)) 50 (Proc.devRef .tc main_v39) := ⟨_, rfl⟩
  obtain ⟨S, hS⟩ : ∃ S : Vec Ideal S1x8 .f32, S = StableHlo.upto hostOps0 (fun b => m (c, b)) 50 (Proc.devRef .tc main_v33) := ⟨_, rfl⟩
  obtain ⟨B, hB⟩ : ∃ B : Vec Ideal S1x48 .f32, B = StableHlo.upto hostOps0 (fun b => m (c, b)) 50 (Proc.devRef .tc main_v40) := ⟨_, rfl⟩
  rw [← hA, ← hS, ← hB]
  clean_types
  pointwise
  simp only [zeroRow8 m c A hA, sinRow m c S hS, zeroRow48 m c B hB, e1, e2]
  unfold tabM
  split_ifs <;> rfl

end Cert.AttnSampleIdeal.Hand

end
-- ==== Proof.AttnSampleSpec.lean ====
/-
  The plain mathematics of the sample's attention (hand-written): one new token per sequence over its 127 newest cached
  positions and itself. `P` is the packed projection, `K` and `V` the caches, `S` the sinks, `p` the token's position.
-/
module

public import proofs.«01_k».proof.Proof.AttnMath

@[expose] public section

noncomputable section

open Idealize.ShloMosaic

namespace Cert.AttnMath

variable (p : EReal) (P : Fin 128 → Fin 5120 → EReal) (K V : Fin 128 → Fin 128 → Fin 4 → Fin 64 → EReal) (S : Fin 16 → EReal)

/-- The query of head `h`, turned. -/
def query (B : Fin 128) (h : Fin 16) (d : Fin 64) : EReal :=
  rope p (fun e : Fin 64 => P B ⟨64 * h.val + e.val, by omega⟩) d

/-- The new key of key head `g`, turned. -/
def newKey (B : Fin 128) (g : Fin 4) (d : Fin 64) : EReal :=
  rope p (fun e : Fin 64 => P B ⟨1024 + (g.val * 64 + e.val), by omega⟩) d

/-- The new value of key head `g`. -/
def newVal (B : Fin 128) (g : Fin 4) (d : Fin 64) : EReal := P B ⟨1280 + (g.val * 64 + d.val), by omega⟩

/-- A window moved one position on, with `n` in its last position. -/
def slide (x : Fin 128 → EReal) (n : EReal) (w : Fin 128) : EReal :=
  if h : w.val < 127 then x ⟨w.val + 1, by omega⟩ else n

/-- The new window of keys. -/
def keyAt (B : Fin 128) (g : Fin 4) (d : Fin 64) (w : Fin 128) : EReal := slide (fun w => K B w g d) (newKey p P B g d) w

/-- The new window of values. -/
def valAt (B : Fin 128) (g : Fin 4) (d : Fin 64) (w : Fin 128) : EReal := slide (fun w => V B w g d) (newVal P B g d) w

/-- The score of head `4 g + u` at position `w` of the window. -/
def score (B : Fin 128) (u g : Fin 4) (w : Fin 128) : EReal :=
  (∑ e : Fin 64, query p P B ⟨4 * g.val + u.val, by omega⟩ e * keyAt p P K B g e w) * eighth

/-- The output of head `4 g + u`. -/
def outAt (B : Fin 128) (u g : Fin 4) (d : Fin 64) : EReal :=
  soft (score p P K B u g) (S ⟨4 * g.val + u.val, by omega⟩) (valAt P V B g d)

/-- The scores are finite where the projection and the key cache are. -/
theorem score_real (hp : IsReal p) (hP : ∀ B (k : Fin 5120), k.val < 1280 → IsReal (P B k)) (hK : ∀ B w g d, IsReal (K B w g d))
    (B : Fin 128) (u g : Fin 4) (w : Fin 128) : IsReal (score p P K B u g w) := by
  refine IsReal.mul (IsReal.sum fun e => IsReal.mul (rope_real hp (fun e => hP _ _ ?_) _) ?_) ⟨1 / 8, eighth_eq⟩
  · have := e.isLt; have := u.isLt; have := g.isLt
    dsimp only; omega
  · unfold keyAt slide
    split
    · exact hK _ _ _ _
    · refine rope_real hp (fun e => hP _ _ ?_) _
      have := e.isLt; have := g.isLt
      dsimp only; omega

end Cert.AttnMath

end
-- ==== Proof.AttnSampleValue.lean ====
/-
  The sample attention kernel at the extended reals (hand-written): each of the eight grid points stores the output rows
  and the new windows of its sixteen sequences, and the three results are the plain attention of every sequence.
-/
module

public import proofs.«01_k».proof.Proof.AttnSampleStores
public import proofs.«01_k».proof.Proof.AttnSampleTables
public import proofs.«01_k».proof.Proof.AttnSampleSpec

@[expose] public section

noncomputable section

open Idealize.ShloMosaic Idealize.ShloMosaic.TcCoe Idealize.SL.Sem

namespace Cert.AttnSampleIdeal.Hand

open Cert.AttnSampleIdeal Cert.AttnSampleIdeal.Gen Cert.AttnMath

/-- The outputs are written back at every point. -/
theorem flush_all : ∀ t : Fin cfg0.N, (cfg0.win 11).flush t = true ∧ (cfg0.win 12).flush t = true ∧ (cfg0.win 13).flush t = true := by
  decide +kernel

/-- The grid coordinate of a point is its number. -/
theorem coord : ∀ t : Fin cfg0.N, ((grid0.coords t) 0).val = t.val := by
  decide +kernel

variable (m : (ℓ : Loc nD τ sig) → Buf (Elt Ideal) ℓ) (c : Dev nD) (t : Fin cfg0.N)

/-- The packed projection, by row and column. -/
def argP (B : Fin 128) (k : Fin 5120) : EReal := m ((c : Thread nD τ).loc main_arg0) (ix2 B k)

/-- The key cache, by sequence, position, key head and number. -/
def argK (B w : Fin 128) (g : Fin 4) (d : Fin 64) : EReal := m ((c : Thread nD τ).loc main_arg1) (ix4 B w g d)

/-- The value cache, by sequence, position, key head and number. -/
def argV (B w : Fin 128) (g : Fin 4) (d : Fin 64) : EReal := m ((c : Thread nD τ).loc main_arg2) (ix4 B w g d)

/-- The sinks, by head. -/
def argS (h : Fin 16) : EReal := m ((c : Thread nD τ).loc main_arg3) (ix1 h)

/-- The windows of the input blocks at a point. -/
abbrev X0 : Vec Ideal S16x1024 .f32 := iblk m c 0 t
abbrev X1 : Vec Ideal S512x128 .f32 := iblk m c 1 t
abbrev X2 : Vec Ideal S16x256x128 .f32 := iblk m c 2 t
abbrev X3 : Vec Ideal S16x256x128 .f32 := iblk m c 3 t
abbrev X4 : Vec Ideal S8x128 .f32 := iblk m c 4 t
abbrev X5 : Vec Ideal S8x128 .f32 := iblk m c 5 t
abbrev X6 : Vec Ideal S8x128 .f32 := iblk m c 6 t
abbrev X7 : Vec Ideal S256x128 .f32 := iblk m c 7 t
abbrev X8 : Vec Ideal S256x128 .f32 := iblk m c 8 t
abbrev X9 : Vec Ideal S256x128 .f32 := iblk m c 9 t
abbrev X10 : Vec Ideal S16x128 .f32 := iblk m c 10 t

/-- The new keys of a point, transposed. -/
abbrev KT : FVec Ideal S256x128 .f32 := keysT (grid0.coords t) (X0 m c t) (X1 m c t) (X2 m c t) (X3 m c t) (X4 m c t) (X5 m c t) (X6 m c t) (X7 m c t) (X8 m c t) (X9 m c t) (X10 m c t)

/-- The new values of a point, transposed. -/
abbrev VT : FVec Ideal S256x128 .f32 := valuesT (grid0.coords t) (X0 m c t) (X1 m c t) (X2 m c t) (X3 m c t) (X4 m c t) (X5 m c t) (X6 m c t) (X7 m c t) (X8 m c t) (X9 m c t) (X10 m c t)

/-- The point among eight. -/
abbrev pt : Fin 8 := ⟨t.val, lt_of_lt_of_eq t.isLt N_0⟩

/-- An entry of a sequence's new window of keys. -/
theorem key_entry (b : Fin 16) (B : Fin 128) (hB : B.val = 16 * t.val + b.val) (g : Fin 4) (d : Fin 64) (w : Fin 128) :
    (if h : w.val < 127 then X2 m c t (ix3 b (⟨g.val * 64 + d.val, by omega⟩ : Fin 256) (⟨w.val + 1, by omega⟩ : Fin 128))
      else KT m c t (ix2 (⟨g.val * 64 + d.val, by omega⟩ : Fin 256) (⟨16 * (pt t).val + b.val, by omega⟩ : Fin 128)))
      = keyAt now (argP m c) (argK m c) B g d w := by
  unfold keyAt slide
  split
  · exact blk2 m c t b g d _ B hB
  · have e : (⟨16 * (pt t).val + b.val, by omega⟩ : Fin 128) = B := Fin.ext hB.symm
    rw [e]
    exact (newKey_apply _ _ _ _ _ _ _ _ _ _ _ _ now (blk7 m c t) (blk8 m c t) (blk9 m c t) g d B).trans
      (congrArg (fun x => rope now x d) (funext fun k => blk1 m c t _ B))

/-- An entry of a sequence's new window of values. -/
theorem val_entry (b : Fin 16) (B : Fin 128) (hB : B.val = 16 * t.val + b.val) (g : Fin 4) (d : Fin 64) (w : Fin 128) :
    (if h : w.val < 127 then X3 m c t (ix3 b (⟨g.val * 64 + d.val, by omega⟩ : Fin 256) (⟨w.val + 1, by omega⟩ : Fin 128))
      else VT m c t (ix2 (⟨g.val * 64 + d.val, by omega⟩ : Fin 256) (⟨16 * (pt t).val + b.val, by omega⟩ : Fin 128)))
      = valAt (argP m c) (argV m c) B g d w := by
  unfold valAt slide
  split
  · exact blk3 m c t b g d _ B hB
  · have e : (⟨16 * (pt t).val + b.val, by omega⟩ : Fin 128) = B := Fin.ext hB.symm
    rw [e]
    refine (valuesT_apply _ _ _ _ _ _ _ _ _ _ _ _ _ B).trans ((blk1 m c t _ B).trans ?_)
    exact congrArg (argP m c B) (Fin.ext (by dsimp only; omega))

/-- A query of a sequence, turned and scaled. -/
theorem query_entry (b : Fin 16) (B : Fin 128) (hB : B.val = 16 * t.val + b.val) (u g : Fin 4) (d : Fin 64) :
    ropeRow (F := Ideal) (k0_pay461 (grid0.coords t) (X0 m c t) (X1 m c t) (X2 m c t) (X3 m c t) (X4 m c t) (X5 m c t) (X6 m c t) (X7 m c t) (X8 m c t) (X9 m c t) (X10 m c t))
      (k0_pay462 (grid0.coords t) (X0 m c t) (X1 m c t) (X2 m c t) (X3 m c t) (X4 m c t) (X5 m c t) (X6 m c t) (X7 m c t) (X8 m c t) (X9 m c t) (X10 m c t))
      (k0_pay463 (grid0.coords t) (X0 m c t) (X1 m c t) (X2 m c t) (X3 m c t) (X4 m c t) (X5 m c t) (X6 m c t) (X7 m c t) (X8 m c t) (X9 m c t) (X10 m c t))
      (View.ld (X0 m c t) (Rect.unit (s := S16x1024) ![b.val, 0] S1x1024.size (inb2 b)))
      (ix2 (0 : Fin 1) (⟨256 * u.val + (g.val * 64 + d.val), by omega⟩ : Fin 1024))
      = (query now (argP m c) B ⟨4 * g.val + u.val, by omega⟩ d * eighth : EReal) :=
  query_apply _ _ _ _ now (fun u g e => argP m c B ⟨64 * (4 * g.val + u.val) + e.val, by omega⟩)
    (fun l => (c_apply _ _ _ _ _ _ _ _ _ _ _ _ l).trans (blk4 m c t l))
    (fun l => (sp_apply _ _ _ _ _ _ _ _ _ _ _ _ l).trans (blk5 m c t l))
    (fun l => (sm_apply _ _ _ _ _ _ _ _ _ _ _ _ l).trans (blk6 m c t l))
    (fun u g d => (row_apply _ b _).trans (blk0 m c t b u g d B hB)) u g d

/-- An output number of a sequence. -/
theorem out_entry (b : Fin 16) (B : Fin 128) (hB : B.val = 16 * t.val + b.val) (u g : Fin 4) (d : Fin 64) :
    out0_11 (grid0.coords t) (X0 m c t) (X1 m c t) (X2 m c t) (X3 m c t) (X4 m c t) (X5 m c t) (X6 m c t) (X7 m c t) (X8 m c t) (X9 m c t) (X10 m c t)
      (ix2 b (⟨256 * u.val + (g.val * 64 + d.val), by omega⟩ : Fin 1024))
      = outAt now (argP m c) (argK m c) (argV m c) (argS m c) B u g d := by
  rw [attn_apply]
  unfold rowOf
  rw [attend_apply _ _ _ _ _ _ (own_apply _ _ _ _ _ _ _ _ _ _ _ _) (grp_apply _ _ _ _ _ _ _ _ _ _ _ _)]
  have hk : ∀ (e : Fin 64) (w : Fin 128), winOf (F := Ideal) (grid0.coords t) (KT m c t) (X2 m c t) b.val (inb3 b) (ix2 (⟨g.val * 64 + e.val, by omega⟩ : Fin 256) w)
      = keyAt now (argP m c) (argK m c) B g e w := fun e w =>
    (winOf_apply (pt t) _ (coord t) _ _ b (inb3 b) _ w).trans (key_entry m c t b B hB g e w)
  have hv : ∀ w : Fin 128, winOf (F := Ideal) (grid0.coords t) (VT m c t) (X3 m c t) b.val (inb3 b) (ix2 (⟨g.val * 64 + d.val, by omega⟩ : Fin 256) w)
      = valAt (argP m c) (argV m c) B g d w := fun w =>
    (winOf_apply (pt t) _ (coord t) _ _ b (inb3 b) _ w).trans (val_entry m c t b B hB g d w)
  unfold outAt
  refine congr (congr (congrArg soft (funext fun w => ?_)) ?_) (funext fun w => hv w)
  · unfold score
    rw [← sum_eighth]
    exact Finset.sum_congr rfl fun e _ => congrArg₂ _ (query_entry m c t b B hB u g e) (hk e w)
  · exact (sink_apply _ _ _ _ _ _ _ _ _ _ _ _ _).trans (blk10 m c t u g 0)

/-- The attention's output rows. -/
def G11 : Buf (Elt Ideal) ((c : Thread nD τ).loc main_v69_0) := fun i : S128x1024.Idx =>
  outAt now (argP m c) (argK m c) (argV m c) (argS m c) (i 0) ⟨(i 1).val / 256, by have : (i 1).val < 1024 := (i 1).isLt; omega⟩
    ⟨(i 1).val / 64 % 4, by omega⟩ ⟨(i 1).val % 64, by omega⟩

/-- The new windows of keys. -/
def G12 : Buf (Elt Ideal) ((c : Thread nD τ).loc main_v69_1) := fun i : S128x256x128.Idx =>
  keyAt now (argP m c) (argK m c) (i 0) ⟨(i 1).val / 64, by have : (i 1).val < 256 := (i 1).isLt; omega⟩ ⟨(i 1).val % 64, by omega⟩ (i 2)

/-- The new windows of values. -/
def G13 : Buf (Elt Ideal) ((c : Thread nD τ).loc main_v69_2) := fun i : S128x256x128.Idx =>
  valAt (argP m c) (argV m c) (i 0) ⟨(i 1).val / 64, by have : (i 1).val < 256 := (i 1).isLt; omega⟩ ⟨(i 1).val % 64, by omega⟩ (i 2)

/-- What a point writes back of the output is its block of `G11`. -/
theorem flushed_out : (dats m 0 c).flushed 11 t = ((cfg0.win 11).blk t).view.read (Elt Ideal) (G11 m c) := by
  rw [Value.flushed11]
  refine funext fun y : S16x1024.Idx => ?_
  obtain ⟨b, q, rfl⟩ : ∃ (b : Fin 16) (q : Fin 1024), y = ix2 b q := ⟨y 0, y 1, eq_ix2 y⟩
  have hN := lt_of_lt_of_eq t.isLt (show cfg0.N = 8 from N_0)
  have e := (idx t).2.2.2.2.2.2.2.2.2.2.2.1
  have hemb : ((cfg0.win 11).blk t).view.emb (ix2 b q) = (ix2 ⟨16 * t.val + b.val, by omega⟩ q : S128x1024.Idx) := by
    funext a
    apply Fin.ext
    match a with
    | ⟨0, _⟩ => show win0_11.index t 0 * 16 + 1 * b.val = _; rw [e]; show t.val * 16 + 1 * b.val = 16 * t.val + b.val; omega
    | ⟨1, _⟩ => show win0_11.index t 1 * 1024 + 1 * q.val = _; rw [e]; simp
  show out0_11 (grid0.coords t) (X0 m c t) (X1 m c t) (X2 m c t) (X3 m c t) (X4 m c t) (X5 m c t) (X6 m c t) (X7 m c t) (X8 m c t) (X9 m c t) (X10 m c t) (ix2 b q)
    = G11 m c (((cfg0.win 11).blk t).view.emb (ix2 b q))
  rw [hemb]
  have hq : q = (⟨256 * (q.val / 256) + (q.val / 64 % 4 * 64 + q.val % 64), by omega⟩ : Fin 1024) := Fin.ext (by dsimp only; omega)
  exact (congrArg (fun k : Fin 1024 => out0_11 (grid0.coords t) (X0 m c t) (X1 m c t) (X2 m c t) (X3 m c t) (X4 m c t) (X5 m c t) (X6 m c t) (X7 m c t) (X8 m c t) (X9 m c t) (X10 m c t) (ix2 b k)) hq).trans
    (out_entry m c t b ⟨16 * t.val + b.val, by omega⟩ rfl ⟨q.val / 256, by omega⟩ ⟨q.val / 64 % 4, by omega⟩ ⟨q.val % 64, by omega⟩)

/-- What a point writes back of the keys is its block of `G12`. -/
theorem flushed_keys : (dats m 0 c).flushed 12 t = ((cfg0.win 12).blk t).view.read (Elt Ideal) (G12 m c) := by
  rw [Value.flushed12]
  refine funext fun y : S16x256x128.Idx => ?_
  obtain ⟨b, r, w, rfl⟩ : ∃ (b : Fin 16) (r : Fin 256) (w : Fin 128), y = ix3 b r w := ⟨y 0, y 1, y 2, eq_ix3 y⟩
  have hN := lt_of_lt_of_eq t.isLt (show cfg0.N = 8 from N_0)
  have e := (idx t).2.2.2.2.2.2.2.2.2.2.2.2.1
  have hemb : ((cfg0.win 12).blk t).view.emb (ix3 b r w) = (ix3 ⟨16 * t.val + b.val, by omega⟩ r w : S128x256x128.Idx) := by
    funext a
    apply Fin.ext
    match a with
    | ⟨0, _⟩ => show win0_12.index t 0 * 16 + 1 * b.val = _; rw [e]; show t.val * 16 + 1 * b.val = 16 * t.val + b.val; omega
    | ⟨1, _⟩ => show win0_12.index t 1 * 256 + 1 * r.val = _; rw [e]; simp
    | ⟨2, _⟩ => show win0_12.index t 2 * 128 + 1 * w.val = _; rw [e]; simp
  show wins (F := Ideal) (grid0.coords t) (KT m c t) (X2 m c t) (ix3 b r w) = G12 m c (((cfg0.win 12).blk t).view.emb (ix3 b r w))
  rw [hemb, wins_apply (pt t) _ (coord t)]
  have hr : r = (⟨r.val / 64 * 64 + r.val % 64, by omega⟩ : Fin 256) := Fin.ext (by dsimp only; omega)
  refine Eq.trans ?_ (key_entry m c t b ⟨16 * t.val + b.val, by omega⟩ rfl ⟨r.val / 64, by omega⟩ ⟨r.val % 64, by omega⟩ w)
  exact congrArg (fun k : Fin 256 => (if h : w.val < 127 then X2 m c t (ix3 b k (⟨w.val + 1, by omega⟩ : Fin 128))
      else KT m c t (ix2 k (⟨16 * (pt t).val + b.val, by omega⟩ : Fin 128)))) hr

/-- What a point writes back of the values is its block of `G13`. -/
theorem flushed_values : (dats m 0 c).flushed 13 t = ((cfg0.win 13).blk t).view.read (Elt Ideal) (G13 m c) := by
  rw [Value.flushed13]
  refine funext fun y : S16x256x128.Idx => ?_
  obtain ⟨b, r, w, rfl⟩ : ∃ (b : Fin 16) (r : Fin 256) (w : Fin 128), y = ix3 b r w := ⟨y 0, y 1, y 2, eq_ix3 y⟩
  have hN := lt_of_lt_of_eq t.isLt (show cfg0.N = 8 from N_0)
  have e := (idx t).2.2.2.2.2.2.2.2.2.2.2.2.2
  have hemb : ((cfg0.win 13).blk t).view.emb (ix3 b r w) = (ix3 ⟨16 * t.val + b.val, by omega⟩ r w : S128x256x128.Idx) := by
    funext a
    apply Fin.ext
    match a with
    | ⟨0, _⟩ => show win0_13.index t 0 * 16 + 1 * b.val = _; rw [e]; show t.val * 16 + 1 * b.val = 16 * t.val + b.val; omega
    | ⟨1, _⟩ => show win0_13.index t 1 * 256 + 1 * r.val = _; rw [e]; simp
    | ⟨2, _⟩ => show win0_13.index t 2 * 128 + 1 * w.val = _; rw [e]; simp
  show wins (F := Ideal) (grid0.coords t) (VT m c t) (X3 m c t) (ix3 b r w) = G13 m c (((cfg0.win 13).blk t).view.emb (ix3 b r w))
  rw [hemb, wins_apply (pt t) _ (coord t)]
  have hr : r = (⟨r.val / 64 * 64 + r.val % 64, by omega⟩ : Fin 256) := Fin.ext (by dsimp only; omega)
  refine Eq.trans ?_ (val_entry m c t b ⟨16 * t.val + b.val, by omega⟩ rfl ⟨r.val / 64, by omega⟩ ⟨r.val % 64, by omega⟩ w)
  exact congrArg (fun k : Fin 256 => (if h : w.val < 127 then X3 m c t (ix3 b k (⟨w.val + 1, by omega⟩ : Fin 128))
      else VT m c t (ix2 k (⟨16 * (pt t).val + b.val, by omega⟩ : Fin 128)))) hr

/-- The block a point writes of output 1, by its bounds. -/
theorem mem_blk11 (i : S128x1024.Idx) :
    i ∈ ((cfg0.win 11).blk t).view.set ↔ ∀ a : Fin 2, win0_11.index t a * S16x1024.size a ≤ (i a).val
      ∧ (i a).val < win0_11.index t a * S16x1024.size a + S16x1024.size a := by
  show i ∈ ((View.whole main_v69_0).slice (win0_11.rect t)).set ↔ _
  rw [View.set_slice_whole, Rect.mem_set_unit]
  exact Iff.rfl

/-- The block a point writes of output 2, by its bounds. -/
theorem mem_blk12 (i : S128x256x128.Idx) :
    i ∈ ((cfg0.win 12).blk t).view.set ↔ ∀ a : Fin 3, win0_12.index t a * S16x256x128.size a ≤ (i a).val
      ∧ (i a).val < win0_12.index t a * S16x256x128.size a + S16x256x128.size a := by
  show i ∈ ((View.whole main_v69_1).slice (win0_12.rect t)).set ↔ _
  rw [View.set_slice_whole, Rect.mem_set_unit]
  exact Iff.rfl

/-- The block a point writes of output 3, by its bounds. -/
theorem mem_blk13 (i : S128x256x128.Idx) :
    i ∈ ((cfg0.win 13).blk t).view.set ↔ ∀ a : Fin 3, win0_13.index t a * S16x256x128.size a ≤ (i a).val
      ∧ (i a).val < win0_13.index t a * S16x256x128.size a + S16x256x128.size a := by
  show i ∈ ((View.whole main_v69_2).slice (win0_13.rect t)).set ↔ _
  rw [View.set_slice_whole, Rect.mem_set_unit]
  exact Iff.rfl

/-- The first result is the attention's output. -/
theorem final_out : (dats m 0 c).arrAt 11 cfg0.N = G11 m c :=
  (dats m 0 c).arrAt_eq_of_cover 11 _ (fun t _ => flushed_out m c t) fun (i : S128x1024.Idx) => by
    have h0 : (i 0).val < 128 := (i 0).isLt
    have h1 : (i 1).val < 1024 := (i 1).isLt
    refine ⟨⟨(i 0).val / 16, lt_of_lt_of_eq (by omega) N_0.symm⟩, (flush_all _).1, ?_⟩
    rw [mem_blk11]
    rw [(idx _).2.2.2.2.2.2.2.2.2.2.2.1]
    intro a
    match a with
    | ⟨0, _⟩ => show (i 0).val / 16 * 16 ≤ (i 0).val ∧ (i 0).val < (i 0).val / 16 * 16 + 16; omega
    | ⟨1, _⟩ => show 0 * 1024 ≤ (i 1).val ∧ (i 1).val < 0 * 1024 + 1024; omega

/-- The second result is the windows of keys. -/
theorem final_keys : (dats m 0 c).arrAt 12 cfg0.N = G12 m c :=
  (dats m 0 c).arrAt_eq_of_cover 12 _ (fun t _ => flushed_keys m c t) fun (i : S128x256x128.Idx) => by
    have h0 : (i 0).val < 128 := (i 0).isLt
    have h1 : (i 1).val < 256 := (i 1).isLt
    have h2 : (i 2).val < 128 := (i 2).isLt
    refine ⟨⟨(i 0).val / 16, lt_of_lt_of_eq (by omega) N_0.symm⟩, (flush_all _).2.1, ?_⟩
    rw [mem_blk12]
    rw [(idx _).2.2.2.2.2.2.2.2.2.2.2.2.1]
    intro a
    match a with
    | ⟨0, _⟩ => show (i 0).val / 16 * 16 ≤ (i 0).val ∧ (i 0).val < (i 0).val / 16 * 16 + 16; omega
    | ⟨1, _⟩ => show 0 * 256 ≤ (i 1).val ∧ (i 1).val < 0 * 256 + 256; omega
    | ⟨2, _⟩ => show 0 * 128 ≤ (i 2).val ∧ (i 2).val < 0 * 128 + 128; omega

/-- The third result is the windows of values. -/
theorem final_values : (dats m 0 c).arrAt 13 cfg0.N = G13 m c :=
  (dats m 0 c).arrAt_eq_of_cover 13 _ (fun t _ => flushed_values m c t) fun (i : S128x256x128.Idx) => by
    have h0 : (i 0).val < 128 := (i 0).isLt
    have h1 : (i 1).val < 256 := (i 1).isLt
    have h2 : (i 2).val < 128 := (i 2).isLt
    refine ⟨⟨(i 0).val / 16, lt_of_lt_of_eq (by omega) N_0.symm⟩, (flush_all _).2.2, ?_⟩
    rw [mem_blk13]
    rw [(idx _).2.2.2.2.2.2.2.2.2.2.2.2.2]
    intro a
    match a with
    | ⟨0, _⟩ => show (i 0).val / 16 * 16 ≤ (i 0).val ∧ (i 0).val < (i 0).val / 16 * 16 + 16; omega
    | ⟨1, _⟩ => show 0 * 256 ≤ (i 1).val ∧ (i 1).val < 0 * 256 + 256; omega
    | ⟨2, _⟩ => show 0 * 128 ≤ (i 2).val ∧ (i 2).val < 0 * 128 + 128; omega

/-- The run of the kernel: the three results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v69_0) = G11 m c
      ∧ r.2.mem ((c : Thread nD τ).loc main_v69_1) = G12 m c
      ∧ r.2.mem ((c : Thread nD τ).loc main_v69_2) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out m c), (h c).2.1.trans (final_keys m c),
    (h c).2.2.1.trans (final_values m c), (h c).2.2.2⟩) (Value.run_blocks m ρ)

end Cert.AttnSampleIdeal.Hand

end
-- ==== Proof.AttnSampleRef.lean ====
/-
  The sample's attention as the reference writes it, in stages, each read at an entry, at the extended reals
  (hand-written): the rotary embedding, the keys and values with the new token's in the last place, the scores with the
  oldest position masked and the sink after them, the softmax and its sums over the values.
-/
module

public import proofs.«01_k».proof.Proof.Gen.AttnSampleRefIdeal.Run
public import proofs.«01_k».proof.Proof.AttnSampleSpec

@[expose] public section

noncomputable section

open Idealize.ShloMosaic Idealize.ShloMosaic.TcCoe Idealize.SL.Sem

namespace Cert.AttnSampleRefIdeal.Hand

open Cert.AttnSampleRefIdeal Cert.AttnSampleRefIdeal.Gen Cert.AttnMath

section Stages

variable {F : FTy → Type} [FloatOps F]

/-- The new token's position. -/
def here : IVec S1 32 := addi (broadcastInDim S1 ![] bcast_S_S1 (constantI S_ 32 16384#32)) (iotaInDim S1 32 0)

/-- The eight angles at the new token's position. -/
def angles : FVec F S1x8 .f32 :=
  mulf (broadcastInDim S1x8 ![0, 1] bcast_S1x1_S1x8_0_1 (broadcastInDim S1x1 ![0] bcast_S1_S1x1_0 (sitofp .f32 here)))
    (broadcastInDim S1x8 ![1] bcast_S8_S1x8_1 (Host.powf (broadcastInDim S8 ![] bcast_S_S8 (constant S_ .f32 0x48F42400#32))
      (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
        (broadcastInDim S8 ![] bcast_S_S8 (constant S_ .f32 0x41800000#32)))))

/-- Eight numbers, for every sequence and query head. -/
def spread16 (y : FVec F S1x8 .f32) : FVec F S128x1x16x8 .f32 :=
  broadcastInDim S128x1x16x8 ![0, 1, 2, 3] bcast_S1x1x1x8_S128x1x16x8_0_1_2_3
    (broadcastInDim S1x1x1x8 ![1, 2, 3] bcast_S1x1x8_S1x1x1x8_1_2_3 (broadcastInDim S1x1x8 ![0, 2] bcast_S1x8_S1x1x8_0_2 y))

/-- Eight numbers, for every sequence and key head. -/
def spread4 (y : FVec F S1x8 .f32) : FVec F S128x1x4x8 .f32 :=
  broadcastInDim S128x1x4x8 ![0, 1, 2, 3] bcast_S1x1x1x8_S128x1x4x8_0_1_2_3
    (broadcastInDim S1x1x1x8 ![1, 2, 3] bcast_S1x1x8_S1x1x1x8_1_2_3 (broadcastInDim S1x1x8 ![0, 2] bcast_S1x8_S1x1x8_0_2 y))

/-- The rotary embedding of the query heads. -/
def rope16 (a : FVec F S1x8 .f32) (y : FVec F S128x1x16x64 .f32) : FVec F S128x1x16x64 .f32 :=
  concatenate S128x1x16x64 3
    [⟨S128x1x16x8, subf (mulf (extractStridedSlice S128x1x16x8 ![0, 0, 0, 0] y slices_S128x1x16x64_S128x1x16x8_0_0_0_0) (spread16 (Host.cos a)))
        (mulf (extractStridedSlice S128x1x16x8 ![0, 0, 0, 8] y slices_S128x1x16x64_S128x1x16x8_0_0_0_8) (spread16 (Host.sin a)))⟩,
     ⟨S128x1x16x8, addf (mulf (extractStridedSlice S128x1x16x8 ![0, 0, 0, 8] y slices_S128x1x16x64_S128x1x16x8_0_0_0_8) (spread16 (Host.cos a)))
        (mulf (extractStridedSlice S128x1x16x8 ![0, 0, 0, 0] y slices_S128x1x16x64_S128x1x16x8_0_0_0_0) (spread16 (Host.sin a)))⟩,
     ⟨S128x1x16x48, extractStridedSlice S128x1x16x48 ![0, 0, 0, 16] y slices_S128x1x16x64_S128x1x16x48_0_0_0_16⟩]
    concatenates_S128x1x16x8_S128x1x16x8_S128x1x16x48_S128x1x16x64_d3

/-- The rotary embedding of the key heads. -/
def rope4 (a : FVec F S1x8 .f32) (y : FVec F S128x1x4x64 .f32) : FVec F S128x1x4x64 .f32 :=
  concatenate S128x1x4x64 3
    [⟨S128x1x4x8, subf (mulf (extractStridedSlice S128x1x4x8 ![0, 0, 0, 0] y slices_S128x1x4x64_S128x1x4x8_0_0_0_0) (spread4 (Host.cos a)))
        (mulf (extractStridedSlice S128x1x4x8 ![0, 0, 0, 8] y slices_S128x1x4x64_S128x1x4x8_0_0_0_8) (spread4 (Host.sin a)))⟩,
     ⟨S128x1x4x8, addf (mulf (extractStridedSlice S128x1x4x8 ![0, 0, 0, 8] y slices_S128x1x4x64_S128x1x4x8_0_0_0_8) (spread4 (Host.cos a)))
        (mulf (extractStridedSlice S128x1x4x8 ![0, 0, 0, 0] y slices_S128x1x4x64_S128x1x4x8_0_0_0_0) (spread4 (Host.sin a)))⟩,
     ⟨S128x1x4x48, extractStridedSlice S128x1x4x48 ![0, 0, 0, 16] y slices_S128x1x4x64_S128x1x4x48_0_0_0_16⟩]
    concatenates_S128x1x4x8_S128x1x4x8_S128x1x4x48_S128x1x4x64_d3

/-- The columns of queries, keys and values. -/
def cols (x : FVec F S128x5120 .bf16) : FVec F S128x1536 .f32 :=
  extf .f32 (extractStridedSlice S128x1536 ![0, 0] x slices_S128x5120_S128x1536_0_0) bitsLt_bf16_f32

/-- The query heads. -/
def heads (z : FVec F S128x1536 .f32) : FVec F S128x1x16x64 .f32 :=
  shapeCast _ (extractStridedSlice S128x1024 ![0, 0] z slices_S128x1536_S128x1024_0_0) shapeCasts_S128x1024_S128x1x16x64

/-- The new token's key heads. -/
def keyHeads (z : FVec F S128x1536 .f32) : FVec F S128x1x4x64 .f32 :=
  shapeCast _ (extractStridedSlice S128x256 ![0, 1024] z slices_S128x1536_S128x256_0_1024) shapeCasts_S128x256_S128x1x4x64

/-- The new token's value heads. -/
def valHeads (z : FVec F S128x1536 .f32) : FVec F S128x1x4x64 .f32 :=
  shapeCast _ (extractStridedSlice S128x256 ![0, 1280] z slices_S128x1536_S128x256_0_1280) shapeCasts_S128x256_S128x1x4x64

/-- A cache with the new token's heads after it. -/
def joined (k : FVec F S128x128x4x64 .f32) (n : FVec F S128x1x4x64 .f32) : FVec F S128x129x4x64 .f32 :=
  concatenate S128x129x4x64 1 [⟨S128x128x4x64, k⟩, ⟨S128x1x4x64, n⟩] concatenates_S128x128x4x64_S128x1x4x64_S128x129x4x64_d1

/-- The newest 128 positions, the head numbers before the positions. -/
def windowOf (k : FVec F S128x129x4x64 .f32) : FVec F S128x256x128 .f32 :=
  shapeCast _ (transpose S128x4x64x128 [0, 2, 3, 1] (extractStridedSlice S128x128x4x64 ![0, 1, 0, 0] k slices_S128x129x4x64_S128x128x4x64_0_1_0_0)
    transposes_S128x128x4x64_S128x4x64x128_0_2_3_1) shapeCasts_S128x4x64x128_S128x256x128

/-- The positions of the 129 keys. -/
def places : IVec S129 32 :=
  concatenate S129 0 [⟨S128, addi (broadcastInDim S128 ![] bcast_S_S128 (constantI S_ 32 16256#32)) (iotaInDim S128 32 0)⟩, ⟨S1, here⟩]
    concatenates_S128_S1_S129_d0

/-- How far behind the new token each key lies. -/
def behind : IVec S1x129 32 :=
  subi (broadcastInDim S1x129 ![0, 1] bcast_S1x1_S1x129_0_1 (broadcastInDim S1x1 ![0] bcast_S1_S1x1_0 here))
    (broadcastInDim S1x129 ![1] bcast_S129_S1x129_1 places)

/-- The keys the new token may attend to. -/
def mask : IVec S1x129 1 :=
  andi (andi (cmpi .sge behind (broadcastInDim S1x129 ![] bcast_S_S1x129 (constantI S_ 32 0#32)))
      (cmpi .slt behind (broadcastInDim S1x129 ![] bcast_S_S1x129 (constantI S_ 32 128#32))))
    (cmpi .sge (broadcastInDim S1x129 ![1] bcast_S129_S1x129_1 places) (broadcastInDim S1x129 ![] bcast_S_S1x129 (constantI S_ 32 0#32)))

/-- The scores of every head against the 129 keys, scaled by 1/8. -/
def scores (kk : FVec F S128x129x4x64 .f32) (q : FVec F S128x1x16x64 .f32) : FVec F S128x4x4x1x129 .f32 :=
  mulf (transpose S128x4x4x1x129 [0, 1, 4, 3, 2] (Host.dotGeneral dot_S128x129x4x64_S128x1x4x4x64_S128x4x129x1x4_3_4_1_13_02_02 none kk
      (shapeCast _ q shapeCasts_S128x1x16x64_S128x1x4x4x64)) transposes_S128x4x129x1x4_S128x4x4x1x129_0_1_4_3_2)
    (broadcastInDim S128x4x4x1x129 ![] bcast_S_S128x4x4x1x129 (constant S_ .f32 0x3E000000#32))

/-- The masked scores, then the sink. -/
def logits (s : FVec F S128x4x4x1x129 .f32) (k : FVec F S16 .f32) : FVec F S128x4x4x1x130 .f32 :=
  concatenate S128x4x4x1x130 4
    [⟨S128x4x4x1x129, select (broadcastInDim S128x4x4x1x129 ![1, 2, 3, 4] bcast_S1x1x1x129_S128x4x4x1x129_1_2_3_4
        (broadcastInDim S1x1x1x129 ![2, 3] bcast_S1x129_S1x1x1x129_2_3 mask)) s
        (broadcastInDim S128x4x4x1x129 ![] bcast_S_S128x4x4x1x129 (id (constant S_ .f32 0xFF800000#32)))⟩,
     ⟨S128x4x4x1x1, broadcastInDim S128x4x4x1x1 ![1, 2, 3, 4] bcast_S4x4x1x1_S128x4x4x1x1_1_2_3_4 (shapeCast _ k shapeCasts_S16_S4x4x1x1)⟩]
    concatenates_S128x4x4x1x129_S128x4x4x1x1_S128x4x4x1x130_d4

/-- One number per head, for each of its 130 logits. -/
def per (y : FVec F S128x4x4x1 .f32) : FVec F S128x4x4x1x130 .f32 :=
  broadcastInDim S128x4x4x1x130 ![0, 1, 2, 3, 4] bcast_S128x4x4x1x1_S128x4x4x1x130_0_1_2_3_4
    (broadcastInDim S128x4x4x1x1 ![0, 1, 2, 3] bcast_S128x4x4x1_S128x4x4x1x1_0_1_2_3 y)

/-- The largest logit of each head. -/
def largest (s : FVec F S128x4x4x1x130 .f32) : FVec F S128x4x4x1 .f32 :=
  maximumf (broadcastInDim S128x4x4x1 ![] bcast_S_S128x4x4x1 (constant S_ .f32 0xFF800000#32))
    (Host.reduce FloatOps.maximumf s (constant S_ .f32 0xFF800000#32) reducesTo_S128x4x4x1x130_S128x4x4x1_d4 h_S_)

/-- The exponentials of the logits, moved down by the largest. -/
def exps (s : FVec F S128x4x4x1x130 .f32) : FVec F S128x4x4x1x130 .f32 := Host.exp (subf s (per (largest s)))

/-- The sum of each head's exponentials. -/
def sums (e : FVec F S128x4x4x1x130 .f32) : FVec F S128x4x4x1 .f32 :=
  Host.reduceAdd e (constant S_ .f32 0x00000000#32) reducesTo_S128x4x4x1x130_S128x4x4x1_d4 h_S_

/-- The probabilities. -/
def probs (s : FVec F S128x4x4x1x130 .f32) : FVec F S128x4x4x1x130 .f32 := Host.divf (exps s) (per (sums (exps s)))

/-- The sums of the values by the probabilities, the heads of a key head apart. -/
def mix (p : FVec F S128x4x4x1x130 .f32) (vv : FVec F S128x129x4x64 .f32) : FVec F S128x1024 .bf16 :=
  truncf .bf16 (shapeCast _ (transpose S128x4x4x64 [0, 2, 1, 3] (shapeCast _ (transpose S128x1x4x4x64 [0, 4, 1, 3, 2]
    (Host.dotGeneral dot_S128x129x4x64_S128x4x4x1x129_S128x4x64x4x1_1_4_3_23_02_01 none vv
      (extractStridedSlice S128x4x4x1x129 ![0, 0, 0, 0, 0] p slices_S128x4x4x1x130_S128x4x4x1x129_0_0_0_0_0))
    transposes_S128x4x64x4x1_S128x1x4x4x64_0_4_1_3_2) shapeCasts_S128x1x4x4x64_S128x4x4x64) transposes_S128x4x4x64_S128x4x4x64_0_2_1_3)
    shapeCasts_S128x4x4x64_S128x1024) bitsLt_bf16_f32

variable (m : (ℓ : Loc nD τ sig) → Buf (Elt F) ℓ) (c : Dev nD)

/-- The keys with the new token's. -/
def keys : FVec F S128x129x4x64 .f32 :=
  joined (m ((c.tc : Thread nD τ).loc main_arg1)) (rope4 angles (keyHeads (cols (m ((c.tc : Thread nD τ).loc main_arg0)))))

/-- The values with the new token's. -/
def vals : FVec F S128x129x4x64 .f32 := joined (m ((c.tc : Thread nD τ).loc main_arg2)) (valHeads (cols (m ((c.tc : Thread nD τ).loc main_arg0))))

set_option maxRecDepth 8192 in
/-- The generated term of the new keys, in these stages. -/
theorem keys_eq : Value.res_main_v134 m c = windowOf (keys m c) := rfl

set_option maxRecDepth 8192 in
/-- The generated term of the output, in these stages. -/
theorem out_eq : Value.res_main_v131 m c = mix (probs (logits (scores (keys m c)
    (rope16 angles (heads (cols (m ((c.tc : Thread nD τ).loc main_arg0)))))) (m ((c.tc : Thread nD τ).loc main_arg3)))) (vals m c) := rfl

end Stages

/-- An angle. -/
theorem angles_apply (i : Fin 8) : angles (F := Ideal) (ix2 (0 : Fin 1) i) = ang (FloatOps.sitofp (F := Ideal) .f32 16384#32 : EReal) i.val := by
  unfold angles here
  pointwise
  rfl

/-- The rotary embedding of a query head at an entry. -/
theorem rope16_apply (p : EReal) (a : FVec Ideal S1x8 .f32) (ha : ∀ i : Fin 8, a (ix2 0 i) = ang p i.val) (y : FVec Ideal S128x1x16x64 .f32)
    (B : Fin 128) (h : Fin 16) (d : Fin 64) :
    rope16 (F := Ideal) a y (ix4 B (0 : Fin 1) h d) = rope p (fun e => y (ix4 B 0 h e)) d := by
  unfold rope16 spread16 rope
  pointwise
  simp only [ha]
  refine dite_congr rfl (fun h1 => rfl) fun h1 => dite_congr rfl (fun h2 => ?_) fun h2 => ?_
  · have e : (⟨8 + (d.val - 8), by omega⟩ : Fin 64) = d := Fin.ext (by dsimp only; omega)
    rw [e]
  · have e : (⟨16 + (d.val - 8 - 8), by omega⟩ : Fin 64) = d := Fin.ext (by dsimp only; omega)
    rw [e]

/-- The rotary embedding of a key head at an entry. -/
theorem rope4_apply (p : EReal) (a : FVec Ideal S1x8 .f32) (ha : ∀ i : Fin 8, a (ix2 0 i) = ang p i.val) (y : FVec Ideal S128x1x4x64 .f32)
    (B : Fin 128) (g : Fin 4) (d : Fin 64) :
    rope4 (F := Ideal) a y (ix4 B (0 : Fin 1) g d) = rope p (fun e => y (ix4 B 0 g e)) d := by
  unfold rope4 spread4 rope
  pointwise
  simp only [ha]
  refine dite_congr rfl (fun h1 => rfl) fun h1 => dite_congr rfl (fun h2 => ?_) fun h2 => ?_
  · have e : (⟨8 + (d.val - 8), by omega⟩ : Fin 64) = d := Fin.ext (by dsimp only; omega)
    rw [e]
  · have e : (⟨16 + (d.val - 8 - 8), by omega⟩ : Fin 64) = d := Fin.ext (by dsimp only; omega)
    rw [e]

/-- A query head's entries are columns of the projection. -/
theorem heads_apply (x : FVec Ideal S128x5120 .bf16) (B : Fin 128) (h : Fin 16) (d : Fin 64) :
    heads (F := Ideal) (cols x) (ix4 B (0 : Fin 1) h d) = x (ix2 B (⟨64 * h.val + d.val, by omega⟩ : Fin 5120)) := by
  unfold heads cols
  pointwise
  exact congrArg (fun k : Fin 5120 => x (ix2 B k)) (Fin.ext (by dsimp only; omega))

/-- A key head's entries are columns of the projection. -/
theorem keyHeads_apply (x : FVec Ideal S128x5120 .bf16) (B : Fin 128) (g : Fin 4) (d : Fin 64) :
    keyHeads (F := Ideal) (cols x) (ix4 B (0 : Fin 1) g d) = x (ix2 B (⟨1024 + (g.val * 64 + d.val), by omega⟩ : Fin 5120)) := by
  unfold keyHeads cols
  pointwise

/-- A value head's entries are columns of the projection. -/
theorem valHeads_apply (x : FVec Ideal S128x5120 .bf16) (B : Fin 128) (g : Fin 4) (d : Fin 64) :
    valHeads (F := Ideal) (cols x) (ix4 B (0 : Fin 1) g d) = x (ix2 B (⟨1280 + (g.val * 64 + d.val), by omega⟩ : Fin 5120)) := by
  unfold valHeads cols
  pointwise

/-- The newest 128 of the 129 positions are the moved window. -/
theorem joined_apply (k : FVec Ideal S128x128x4x64 .f32) (n : FVec Ideal S128x1x4x64 .f32) (B w : Fin 128) (g : Fin 4) (d : Fin 64) :
    joined (F := Ideal) k n (ix4 B w.succ g d) = slide (fun w => k (ix4 B w g d)) (n (ix4 B 0 g d)) w := by
  unfold joined slide
  pointwise
  have hw : w.succ.val = w.val + 1 := rfl
  by_cases h : w.val < 127
  · rw [dif_pos h, dif_pos (by omega)]
    rfl
  · rw [dif_neg h, dif_neg (by omega)]
    exact congrArg (fun k : Fin 1 => n (ix4 B k g d)) (Subsingleton.elim _ _)

/-- An entry of the new window. -/
theorem windowOf_apply (k : FVec Ideal S128x129x4x64 .f32) (B w : Fin 128) (g : Fin 4) (d : Fin 64) :
    windowOf (F := Ideal) k (ix3 B (⟨g.val * 64 + d.val, by omega⟩ : Fin 256) w) = k (ix4 B w.succ g d) := by
  unfold windowOf
  pointwise
  exact congrArg (fun i : Fin 129 => k (ix4 B i g d)) (Fin.ext (by show 1 + w.val = w.val + 1; omega))

/-- Only the oldest of the 129 positions is masked. -/
theorem mask_apply (i : Fin 129) : mask (ix2 (0 : Fin 1) i) = if i.val = 0 then 0#1 else 1#1 := by
  revert i
  decide +kernel

/-- A score. -/
theorem scores_apply (kk : FVec Ideal S128x129x4x64 .f32) (q : FVec Ideal S128x1x16x64 .f32) (B : Fin 128) (g u : Fin 4) (i : Fin 129) :
    scores (F := Ideal) kk q (ix5 B g u (0 : Fin 1) i)
      = ((∑ e : Fin 64, kk (ix4 B i g e) * q (ix4 B 0 (⟨4 * g.val + u.val, by omega⟩ : Fin 16) e)) * eighth : EReal) := by
  unfold scores
  pointwise
  refine congrArg (· * eighth) (Finset.sum_congr rfl fun e _ => ?_)
  exact congrArg (fun h : Fin 16 => (kk (ix4 B i g e) * q (ix4 B 0 h e) : EReal)) (Fin.ext (by dsimp only; omega))

/-- A logit: the oldest position's is masked, the sink is the last. -/
theorem logits_apply (s : FVec Ideal S128x4x4x1x129 .f32) (k : FVec Ideal S16 .f32) (B : Fin 128) (g u : Fin 4) (i : Fin 130) :
    logits (F := Ideal) s k (ix5 B g u (0 : Fin 1) i)
      = if h : i.val < 129 then (if i.val = 0 then (⊥ : EReal) else s (ix5 B g u 0 (⟨i.val, h⟩ : Fin 129)))
        else k (ix1 (⟨4 * g.val + u.val, by omega⟩ : Fin 16)) := by
  unfold logits
  pointwise
  refine dite_congr rfl (fun h => ?_) fun h => congrArg (fun h : Fin 16 => k (ix1 h)) (Fin.ext (by dsimp only; omega))
  rw [mask_apply]
  by_cases hi : i.val = 0
  · rw [if_pos hi, if_pos hi]
    rfl
  · rw [if_neg hi, if_neg hi]
    rfl

/-- The largest logit. -/
theorem largest_apply (s : FVec Ideal S128x4x4x1x130 .f32) (B : Fin 128) (g u : Fin 4) :
    largest (F := Ideal) s (ix4 B g u (0 : Fin 1)) = max ⊥ (Finset.univ.fold max ⊥ fun i : Fin 130 => s (ix5 B g u 0 i)) := by
  unfold largest
  pointwise
  rfl

/-- An exponential. -/
theorem exps_apply (s : FVec Ideal S128x4x4x1x130 .f32) (B : Fin 128) (g u : Fin 4) (i : Fin 130) :
    exps (F := Ideal) s (ix5 B g u (0 : Fin 1) i) = Ideal.exp (s (ix5 B g u 0 i) - max ⊥ (Finset.univ.fold max ⊥ fun i : Fin 130 => s (ix5 B g u 0 i))) := by
  rw [← largest_apply]
  unfold exps per
  pointwise

/-- A probability. -/
theorem probs_apply (s : FVec Ideal S128x4x4x1x130 .f32) (B : Fin 128) (g u : Fin 4) (i : Fin 130) :
    probs (F := Ideal) s (ix5 B g u (0 : Fin 1) i) = Ideal.div (exps s (ix5 B g u 0 i)) (∑ j : Fin 130, exps s (ix5 B g u 0 j)) := by
  unfold probs per sums
  pointwise

/-- An output number. -/
theorem mix_apply (p : FVec Ideal S128x4x4x1x130 .f32) (vv : FVec Ideal S128x129x4x64 .f32) (B : Fin 128) (u g : Fin 4) (d : Fin 64) :
    mix (F := Ideal) p vv (ix2 B (⟨256 * u.val + (g.val * 64 + d.val), by omega⟩ : Fin 1024))
      = ∑ i : Fin 129, (vv (ix4 B i g d) * p (ix5 B g u 0 i.castSucc) : EReal) := by
  unfold mix
  pointwise
  rfl

/-- The head's output, where its scores and its sink are finite. -/
theorem out_apply (p : EReal) (P : Fin 128 → Fin 5120 → EReal) (K V : Fin 128 → Fin 128 → Fin 4 → Fin 64 → EReal) (S : Fin 16 → EReal)
    (hS : ∀ h, IsReal (S h)) (hs : ∀ B u g w, IsReal (score p P K B u g w))
    (kk vv : FVec Ideal S128x129x4x64 .f32) (q : FVec Ideal S128x1x16x64 .f32) (k : FVec Ideal S16 .f32)
    (hk : ∀ B w g d, kk (ix4 B w.succ g d) = keyAt p P K B g d w) (hv : ∀ B w g d, vv (ix4 B w.succ g d) = valAt P V B g d w)
    (hq : ∀ B h d, q (ix4 B 0 h d) = query p P B h d) (hsk : ∀ h, k (ix1 h) = S h) (B : Fin 128) (u g : Fin 4) (d : Fin 64) :
    mix (F := Ideal) (probs (logits (scores kk q) k)) vv (ix2 B (⟨256 * u.val + (g.val * 64 + d.val), by omega⟩ : Fin 1024))
      = outAt p P K V S B u g d := by
  rw [mix_apply]
  simp only [probs_apply, exps_apply]
  refine soft_masked (fun i => logits (scores kk q) k (ix5 B g u 0 i)) (fun i => vv (ix4 B i g d)) (score p P K B u g) (valAt P V B g d) _
    ?_ (fun w => ?_) ?_ (fun w => hv B w g d) (fun w => (hs B u g w).ne_top) (hS _)
  · exact logits_apply _ _ B g u 0
  · refine (logits_apply _ _ B g u w.succ.castSucc).trans ?_
    have h : w.succ.castSucc.val < 129 := w.succ.isLt
    have h0 : w.succ.castSucc.val ≠ 0 := Nat.succ_ne_zero _
    rw [dif_pos h, if_neg h0, scores_apply]
    refine congrArg (· * eighth) (Finset.sum_congr rfl fun e _ => (mul_comm _ _).trans (congrArg₂ _ (hq B _ e) (hk B w g e)))
  · exact (logits_apply _ _ B g u (Fin.last 129)).trans (hsk _)

end Cert.AttnSampleRefIdeal.Hand

end
-- ==== Proof.AttnSampleClaims.lean ====
/-
  The claims of the sample's attention (hand-written): the frames, and that the output rows and the two new windows are the
  reference's at the extended reals where the scores' inputs are finite.
-/
module

public import proofs.«01_k».proof.Defs
public import proofs.«01_k».proof.Proof.AttnSampleValue
public import proofs.«01_k».proof.Proof.AttnSampleRef
public import proofs.«01_k».proof.Proof.Gen.AttnSample.Frame
public import Idealize.ShloMosaic.Lib.Quiescent

@[expose] public section

noncomputable section

open Idealize.ShloMosaic Idealize.ShloMosaic.TcCoe Idealize.SL.Sem

namespace Cert.Proof.AttnSample

open Cert.AttnMath

/-- The precondition's operations are well formed. -/
instance preFacts : Cert.Pre_scores_finite.Facts where
  slices_S128x5120_S128x1280_0_0 := by decide
  bitsLt_bf16_f32 := by decide
  bcast_S_S128x1280 := by decide
  bcast_S_S128x128x4x64 := by decide
  bcast_S_S16 := by decide

/-- The kernel as printed runs, keeps its arguments and ends with every counter at zero. -/
theorem frame_bits : Cert.quiescent_AttnSample := fun m ρ _ => Cert.AttnSample.Gen.frame m ρ

/-- The same of the kernel at the extended reals. -/
theorem frame_ideal : Cert.quiescent_AttnSampleIdeal := fun m ρ _ => Cert.AttnSampleIdeal.Gen.frame m ρ

/-- The same under the precondition. -/
theorem frame_ideal_pre : Cert.quiescent_AttnSampleIdeal_pre_scores_finite := fun m ρ _ => Cert.AttnSampleIdeal.Gen.frame m ρ

/-- The reference runs and keeps its arguments; it declares no semaphore. -/
theorem frame_ref : Cert.quiescent_AttnSampleRefIdeal := fun m ρ _ =>
  (θ_run Cert.AttnSampleRefIdeal.defs _ _).mono (fun r h => ⟨fun c => (h c).2.2.2, sem_eq_zero_of_no_sems (by decide) r.2⟩)
    (Cert.AttnSampleRefIdeal.Value.run (F := Ideal) m ρ)

/-- The same under the precondition. -/
theorem frame_ref_pre : Cert.quiescent_AttnSampleRefIdeal_pre_scores_finite := fun m ρ _ => frame_ref m ρ trivial

/-- A number whose absolute value is below infinity is real. -/
theorem real_of_lt {x : EReal} (h : Ideal.cmp .olt (max x (-x)) (Ideal.ofBits .f32 0x7F800000#32) = 1#1) : IsReal x := by
  have ht : Ideal.ofBits .f32 0x7F800000#32 = ⊤ := rfl
  rw [ht] at h
  have hl : max x (-x) < ⊤ := by
    by_contra hn
    have h2 : Ideal.cmp .olt (max x (-x)) ⊤ = 0#1 := by
      show BitVec.ofBool (decide (max x (-x) < ⊤)) = 0#1
      rw [decide_eq_false hn]
      rfl
    rw [h2] at h
    exact absurd h (by decide)
  refine isReal_of_ne (lt_of_le_of_lt (le_max_left _ _) hl).ne fun hb => ?_
  rw [hb] at hl
  exact absurd hl (by simp)

section Pre

variable (m : (ℓ : Loc Cert.AttnSampleIdeal.nD Cert.AttnSampleIdeal.τ Cert.AttnSampleIdeal.sig) → Buf (Elt Ideal) ℓ)
  (h : Cert.Pre_AttnSampleIdeal_scores_finite m) (c : Dev Cert.AttnSampleIdeal.nD)

include h

/-- The precondition of the queries' and keys' columns. -/
theorem proj_real (B : Fin 128) (k : Fin 5120) (hk : k.val < 1280) : IsReal (Cert.AttnSampleIdeal.Hand.argP m c B k) := by
  have e : (extractStridedSlice Cert.Pre_scores_finite.S128x1280 ![0, 0] (m ((c.tc : Thread Cert.AttnSampleIdeal.nD Cert.AttnSampleIdeal.τ).loc Cert.AttnSampleIdeal.main_arg0))
      Cert.Pre_scores_finite.Facts.slices_S128x5120_S128x1280_0_0 (ix2 B (⟨k.val, hk⟩ : Fin 1280)) : EReal) = Cert.AttnSampleIdeal.Hand.argP m c B k := by
    refine congrArg (m ((c.tc : Thread Cert.AttnSampleIdeal.nD Cert.AttnSampleIdeal.τ).loc Cert.AttnSampleIdeal.main_arg0)) ?_
    funext a
    apply Fin.ext
    match a with
    | ⟨0, _⟩ => show 0 + B.val = B.val; omega
    | ⟨1, _⟩ => show 0 + k.val = k.val; omega
  rw [← e]
  exact real_of_lt (congrFun (h c).1 (ix2 B (⟨k.val, hk⟩ : Fin 1280)))

/-- The precondition of the key cache. -/
theorem cache_real (B w : Fin 128) (g : Fin 4) (d : Fin 64) : IsReal (Cert.AttnSampleIdeal.Hand.argK m c B w g d) :=
  real_of_lt (congrFun (h c).2.1 (ix4 B w g d))

/-- The precondition of the sinks. -/
theorem sink_real (i : Fin 16) : IsReal (Cert.AttnSampleIdeal.Hand.argS m c i) :=
  real_of_lt (congrFun (h c).2.2 (ix1 i))

end Pre

section Ref

open Cert.AttnSampleRefIdeal.Hand

variable (m : (ℓ : Loc Cert.AttnSampleIdeal.nD Cert.AttnSampleIdeal.τ Cert.AttnSampleIdeal.sig) → Buf (Elt Ideal) ℓ)
  (m' : (ℓ : Loc Cert.AttnSampleRefIdeal.nD Cert.AttnSampleRefIdeal.τ Cert.AttnSampleRefIdeal.sig) → Buf (Elt Ideal) ℓ) (c : Dev Cert.AttnSampleIdeal.nD)
  (e0 : m' ((c.tc : Thread Cert.AttnSampleRefIdeal.nD Cert.AttnSampleRefIdeal.τ).loc Cert.AttnSampleRefIdeal.main_arg0)
    = m ((c.tc : Thread Cert.AttnSampleIdeal.nD Cert.AttnSampleIdeal.τ).loc Cert.AttnSampleIdeal.main_arg0))

include e0

/-- The reference's keys are the plain ones. -/
theorem keys_spec (e1 : m' ((c.tc : Thread Cert.AttnSampleRefIdeal.nD Cert.AttnSampleRefIdeal.τ).loc Cert.AttnSampleRefIdeal.main_arg1)
      = m ((c.tc : Thread Cert.AttnSampleIdeal.nD Cert.AttnSampleIdeal.τ).loc Cert.AttnSampleIdeal.main_arg1))
    (B w : Fin 128) (g : Fin 4) (d : Fin 64) :
    keys m' c (ix4 B w.succ g d) = keyAt Cert.AttnSampleIdeal.Hand.now (Cert.AttnSampleIdeal.Hand.argP m c) (Cert.AttnSampleIdeal.Hand.argK m c) B g d w := by
  unfold keys
  rw [e0, e1]
  refine (joined_apply _ _ B w g d).trans (congrArg (fun n => slide _ n w) ?_)
  refine (rope4_apply Cert.AttnSampleIdeal.Hand.now _ angles_apply _ B g d).trans ?_
  exact congrArg (fun x => rope Cert.AttnSampleIdeal.Hand.now x d) (funext fun e => keyHeads_apply _ B g e)

/-- The reference's values are the plain ones. -/
theorem vals_spec (e2 : m' ((c.tc : Thread Cert.AttnSampleRefIdeal.nD Cert.AttnSampleRefIdeal.τ).loc Cert.AttnSampleRefIdeal.main_arg2)
      = m ((c.tc : Thread Cert.AttnSampleIdeal.nD Cert.AttnSampleIdeal.τ).loc Cert.AttnSampleIdeal.main_arg2))
    (B w : Fin 128) (g : Fin 4) (d : Fin 64) :
    vals m' c (ix4 B w.succ g d) = valAt (Cert.AttnSampleIdeal.Hand.argP m c) (Cert.AttnSampleIdeal.Hand.argV m c) B g d w := by
  unfold vals
  rw [e0, e2]
  exact (joined_apply _ _ B w g d).trans (congrArg (fun n => slide _ n w) (valHeads_apply _ B g d))

/-- The reference's queries are the plain ones. -/
theorem query_spec (B : Fin 128) (h : Fin 16) (d : Fin 64) :
    rope16 (F := Ideal) angles (heads (cols (m' ((c.tc : Thread Cert.AttnSampleRefIdeal.nD Cert.AttnSampleRefIdeal.τ).loc Cert.AttnSampleRefIdeal.main_arg0)))) (ix4 B 0 h d)
      = query Cert.AttnSampleIdeal.Hand.now (Cert.AttnSampleIdeal.Hand.argP m c) B h d := by
  rw [e0]
  refine (rope16_apply Cert.AttnSampleIdeal.Hand.now _ angles_apply _ B h d).trans ?_
  exact congrArg (fun x => rope Cert.AttnSampleIdeal.Hand.now x d) (funext fun e => heads_apply _ B h e)

end Ref

/-- From arguments that agree, with finite queries, keys and sinks, the kernel and the reference end with equal output rows
    and equal windows: every head's softmax over its window of turned keys and its sink, summed over the values. -/
theorem algebraic : Cert.algebraic_AttnSampleIdeal_AttnSampleRefIdeal_pre_scores_finite := fun m ρ m' ρ' hpre hag =>
  ⟨fun c => Cert.AttnSampleIdeal.Hand.G11 m c, fun c => Cert.AttnSampleIdeal.Hand.G12 m c, fun c => Cert.AttnSampleIdeal.Hand.G13 m c,
    Cert.AttnSampleIdeal.Hand.run m ρ,
    (θ_run Cert.AttnSampleRefIdeal.defs _ _).mono (fun r h c => ⟨(h c).1.trans (funext fun j => by
        obtain ⟨B, C, rfl⟩ : ∃ (B : Fin 128) (C : Fin 1024), j = ix2 B C := ⟨j 0, j 1, eq_ix2 j⟩
        obtain ⟨e0, e1, e2, e3⟩ := hag c
        have hC : C = (⟨256 * (C.val / 256) + (C.val / 64 % 4 * 64 + C.val % 64), by omega⟩ : Fin 1024) := Fin.ext (by dsimp only; omega)
        rw [Cert.AttnSampleRefIdeal.Hand.out_eq]
        refine (congrArg (fun k : Fin 1024 => Cert.AttnSampleRefIdeal.Hand.mix (F := Ideal) _ _ (ix2 B k)) hC).trans ?_
        exact Cert.AttnSampleRefIdeal.Hand.out_apply Cert.AttnSampleIdeal.Hand.now (Cert.AttnSampleIdeal.Hand.argP m c) (Cert.AttnSampleIdeal.Hand.argK m c)
          (Cert.AttnSampleIdeal.Hand.argV m c) (Cert.AttnSampleIdeal.Hand.argS m c) (sink_real m hpre c)
          (score_real _ _ _ ⟨_, rfl⟩ (proj_real m hpre c) (cache_real m hpre c)) _ _ _ _ (keys_spec m m' c e0 e1) (vals_spec m m' c e0 e2)
          (query_spec m m' c e0) (fun i => congrFun e3 (ix1 i)) B ⟨C.val / 256, by omega⟩ ⟨C.val / 64 % 4, by omega⟩ ⟨C.val % 64, by omega⟩),
      (h c).2.1.trans (funext fun j => by
        obtain ⟨B, R, w, rfl⟩ : ∃ (B : Fin 128) (R : Fin 256) (w : Fin 128), j = ix3 B R w := ⟨j 0, j 1, j 2, eq_ix3 j⟩
        obtain ⟨e0, e1, e2, e3⟩ := hag c
        have hR : R = (⟨R.val / 64 * 64 + R.val % 64, by omega⟩ : Fin 256) := Fin.ext (by dsimp only; omega)
        rw [Cert.AttnSampleRefIdeal.Hand.keys_eq]
        refine (congrArg (fun k : Fin 256 => Cert.AttnSampleRefIdeal.Hand.windowOf (F := Ideal) _ (ix3 B k w)) hR).trans ?_
        exact (Cert.AttnSampleRefIdeal.Hand.windowOf_apply _ B w ⟨R.val / 64, by omega⟩ ⟨R.val % 64, by omega⟩).trans (keys_spec m m' c e0 e1 B w _ _)),
      (h c).2.2.1.trans (funext fun j => by
        obtain ⟨B, R, w, rfl⟩ : ∃ (B : Fin 128) (R : Fin 256) (w : Fin 128), j = ix3 B R w := ⟨j 0, j 1, j 2, eq_ix3 j⟩
        obtain ⟨e0, e1, e2, e3⟩ := hag c
        have hR : R = (⟨R.val / 64 * 64 + R.val % 64, by omega⟩ : Fin 256) := Fin.ext (by dsimp only; omega)
        show Cert.AttnSampleRefIdeal.Hand.windowOf (F := Ideal) (Cert.AttnSampleRefIdeal.Hand.vals m' c) (ix3 B R w) = _
        refine (congrArg (fun k : Fin 256 => Cert.AttnSampleRefIdeal.Hand.windowOf (F := Ideal) _ (ix3 B k w)) hR).trans ?_
        exact (Cert.AttnSampleRefIdeal.Hand.windowOf_apply _ B w ⟨R.val / 64, by omega⟩ ⟨R.val % 64, by omega⟩).trans (vals_spec m m' c e0 e2 B w _ _)),
      (h c).2.2.2⟩)
      (Cert.AttnSampleRefIdeal.Value.run (F := Ideal) m' ρ')⟩

end Cert.Proof.AttnSample

end
-- ==== Proof.AttnWinStep.lean ====
/-
  What a grid point of the prompt's attention kernel leaves in the two window blocks (hand-written): two tiles of 128
  columns each, the keys turned by the point's rotary tables and the values as they are; each read at an entry at the
  extended reals.
-/
module

public import proofs.«01_k».proof.Proof.Gen.AttnWinIdeal.Value
public import proofs.«01_k».proof.Proof.AttnMath
public import Idealize.ShloMosaic.Lib.Tactic
public import Idealize.ShloMosaic.Lib.Pipeline.ValueKit.Point
public import Idealize.ShloMosaic.Lib.Pointwise.Tactic

@[expose] public section

noncomputable section

open Idealize.ShloMosaic Idealize.ShloMosaic.TcCoe Idealize.SL.Sem

namespace Cert.AttnWinIdeal.Hand

open Cert.AttnWinIdeal Cert.AttnWinIdeal.Gen Cert.AttnMath

/-- The two zero offsets of a load of a whole buffer. -/
theorem hz : (![0, 0] : Fin 2 → Nat) = fun _ => 0 := funext fun a => by fin_cases a <;> rfl

section AnyFloat

variable {F : FTy → Type} [FloatOps F]

/-- A tile of 128 columns lies in a block of 256. -/
theorem inb2 (n : Fin 2) (a : Fin 2) : (![0, 128 * n.val] : Fin 2 → ℕ) a + S128x128.size a ≤ S128x256.size a := by
  have := n.isLt
  match a with
  | ⟨0, _⟩ => show 0 + 128 ≤ 128; omega
  | ⟨1, _⟩ => show 128 * n.val + 128 ≤ 256; omega

/-- The same of an output block. -/
theorem inb3 (n : Fin 2) (a : Fin 3) : (![0, 0, 128 * n.val] : Fin 3 → ℕ) a + S1x128x128.size a ≤ S1x128x256.size a := by
  have := n.isLt
  match a with
  | ⟨0, _⟩ => show 0 + 1 ≤ 1; omega
  | ⟨1, _⟩ => show 0 + 128 ≤ 128; omega
  | ⟨2, _⟩ => show 128 * n.val + 128 ≤ 256; omega

/-- A tile of a block. -/
def tile (k : Vec F S128x256 .bf16) (n : Fin 2) : Vec F S128x128 .bf16 :=
  View.ld k (Rect.unit (s := S128x256) ![0, 128 * n.val] S128x128.size (inb2 n))

/-- A block of two tiles, the second first. -/
def pair (f : Fin 2 → FVec F S1x128x128 .f32) : Vec F S1x128x256 .f32 :=
  View.canon (List.ofFn fun k : Fin 2 => (⟨Rect.unit (s := S1x128x256) ![0, 0, 128 * k.rev.val] S1x128x128.size (inb3 k.rev), f k.rev⟩ : View.Piece (Elt F) S1x128x256 .f32))

variable (c : Dev nD) (i : grid0.Coords)
  (a2 : Memref sig .tc .vmem S128x1024 .bf16) (h2 : a2.IsWhole) (a3 : Memref sig .tc .vmem S128x256 .bf16) (h3 : a3.IsWhole)
  (a4 : Memref sig .tc .vmem S128x256 .bf16) (h4 : a4.IsWhole) (a5 : Memref sig .tc .vmem S128x128 .f32) (h5 : a5.IsWhole)
  (a6 : Memref sig .tc .vmem S128x128 .f32) (h6 : a6.IsWhole) (a7 : Memref sig .tc .vmem S128x128 .f32) (h7 : a7.IsWhole)
  (a8 : Memref sig .tc .smem S16 .f32) (h8 : a8.IsWhole) (a9 : Memref sig .tc .vmem S128x1024 .bf16) (h9 : a9.IsWhole)
  (a10 : Memref sig .tc .vmem S1x128x256 .f32) (h10 : a10.IsWhole) (a11 : Memref sig .tc .vmem S1x128x256 .f32) (h11 : a11.IsWhole)
  (a12 : Memref sig .tc .vmem S128x256 .f32) (h12 : a12.IsWhole) (a13 : Memref sig .tc .vmem S128x256 .f32) (h13 : a13.IsWhole)
  (p : ¬cond0_0 i)
  (x0 : Vec F S128x1024 .bf16) (x1 x2 : Vec F S128x256 .bf16) (x3 x4 x5 : Vec F S128x128 .f32) (x6 : Vec F S16 .f32) (xs0 xs1 : Vec F S128x256 .f32)

/-- The window of keys a point leaves. -/
theorem out_keys : out0_B_8 c i a2 h2 a3 h3 a4 h4 a5 h5 a6 h6 a7 h7 a8 h8 a9 h9 a10 h10 a11 h11 a12 h12 a13 h13 p x0 x1 x2 x3 x4 x5 x6 xs0 xs1
    = pair fun n => k0_pay15 (k0_pay13 x3 x4 x5 (tile x1 n)) := by
  unfold out0_B_8
  rw [View.read_writes_eq_canon _ _ _ (cover0_B_8 c i a2 h2 a3 h3 a4 h4 a5 h5 a6 h6 a7 h7 a8 h8 a9 h9 a10 h10 a11 h11 a12 h12 a13 h13 p x0 x1 x2 x3 x4 x5 x6 xs0 xs1)]
  unfold kernelRun0_B
  dsimp only
  sl_unfold_words
  simp only [View.readAt_eq_ld, h3.read_unread, h5.read_unread, h6.read_unread, h7.read_unread, View.ld_unit_zero (S := S128x128) hz]
  rfl

/-- The window of values a point leaves. -/
theorem out_values : out0_B_9 c i a2 h2 a3 h3 a4 h4 a5 h5 a6 h6 a7 h7 a8 h8 a9 h9 a10 h10 a11 h11 a12 h12 a13 h13 p x0 x1 x2 x3 x4 x5 x6 xs0 xs1
    = pair fun n => k0_pay16 (k0_pay14 (tile x2 n)) := by
  unfold out0_B_9
  rw [View.read_writes_eq_canon _ _ _ (cover0_B_9 c i a2 h2 a3 h3 a4 h4 a5 h5 a6 h6 a7 h7 a8 h8 a9 h9 a10 h10 a11 h11 a12 h12 a13 h13 p x0 x1 x2 x3 x4 x5 x6 xs0 xs1)]
  unfold kernelRun0_B
  dsimp only
  sl_unfold_words
  simp only [View.readAt_eq_ld, h4.read_unread]
  rfl

end AnyFloat

/-- An entry of a tile. -/
theorem tile_apply (k : Vec Ideal S128x256 .bf16) (n : Fin 2) (w l : Fin 128) :
    tile (F := Ideal) k n (ix2 w l) = k (ix2 w (⟨128 * n.val + l.val, by omega⟩ : Fin 256)) := by
  unfold tile
  show k _ = k _
  congr 1
  funext a
  apply Fin.ext
  match a with
  | ⟨0, _⟩ => show 0 + 1 * w.val = w.val; omega
  | ⟨1, _⟩ => show 128 * n.val + 1 * l.val = 128 * n.val + l.val; omega

/-- An entry of a block of two tiles. -/
theorem pair_apply (f : Fin 2 → FVec Ideal S1x128x128 .f32) (w : Fin 128) (n : Fin 2) (l : Fin 128) :
    pair (F := Ideal) f (ix3 (0 : Fin 1) w (⟨128 * n.val + l.val, by omega⟩ : Fin 256)) = f n (ix3 0 w l) := by
  refine View.canon_ofFn_unit_eq_of_forall (S := S1x128x256) (fun k : Fin 2 => ![0, 0, 128 * k.rev.val]) S1x128x128.size (fun k => inb3 k.rev) _ _ _
    ⟨n.rev, fun a => ?_⟩ fun k x hx => ?_
  · rw [Fin.rev_rev]
    match a with
    | ⟨0, _⟩ => show 0 ≤ 0 ∧ 0 < 0 + 1; omega
    | ⟨1, _⟩ => show 0 ≤ w.val ∧ w.val < 0 + 128; omega
    | ⟨2, _⟩ => show 128 * n.val ≤ 128 * n.val + l.val ∧ 128 * n.val + l.val < 128 * n.val + 128; omega
  · obtain ⟨e, u, q, rfl⟩ : ∃ (e : Fin 1) (u q : Fin 128), x = ix3 e u q := ⟨x 0, x 1, x 2, eq_ix3 x⟩
    have h1 : w.val = 0 + u.val := hx 1
    have h2 : 128 * n.val + l.val = 128 * k.rev.val + q.val := hx 2
    have hu : u = w := Fin.ext (by omega)
    have hn : k.rev = n := Fin.ext (by omega)
    have hq : q = l := Fin.ext (by rw [hn] at h2; omega)
    have he : e = 0 := Subsingleton.elim _ _
    subst hu hn hq he
    rfl

/-- An entry of a tile of keys: its head's number turned. -/
theorem keyTile_apply (q : EReal) (C P M : Vec Ideal S128x128 .f32) (x : Vec Ideal S128x128 .bf16) (w : Fin 128)
    (hC : ∀ l : Fin 128, C (ix2 w l) = tabC q (l.val % 64)) (hP : ∀ l : Fin 128, P (ix2 w l) = tabP q (l.val % 64))
    (hM : ∀ l : Fin 128, M (ix2 w l) = tabM q (l.val % 64)) (g : Fin 2) (d : Fin 64) :
    k0_pay15 (F := Ideal) (k0_pay13 C P M x) (ix3 (0 : Fin 1) w (⟨64 * g.val + d.val, by omega⟩ : Fin 128))
      = rope q (fun e => x (ix2 w (⟨64 * g.val + e.val, by omega⟩ : Fin 128))) d := by
  unfold k0_pay15 k0_pay13
  unfold_payloads
  pointwise
  rw [hC, hP, hM]
  have e : (64 * g.val + d.val) % 64 = d.val := by omega
  simp only [e]
  refine rope_tab q (fun e => x (ix2 w (⟨64 * g.val + e.val, by omega⟩ : Fin 128))) d _ _ (fun h => ?_) fun h h2 => ?_
  · exact congrArg (fun k : Fin 128 => x (ix2 w k)) (Fin.ext (by dsimp only; omega))
  · exact congrArg (fun k : Fin 128 => x (ix2 w k)) (Fin.ext (by dsimp only; omega))

/-- An entry of a tile of values. -/
theorem valTile_apply (x : Vec Ideal S128x128 .bf16) (w l : Fin 128) :
    k0_pay16 (F := Ideal) (k0_pay14 x) (ix3 (0 : Fin 1) w l) = x (ix2 w l) := by
  unfold k0_pay16 k0_pay14
  pointwise

end Cert.AttnWinIdeal.Hand

end
-- ==== Proof.AttnWinTables.lean ====
/-
  The input blocks of the prompt's attention kernel as entries of the arguments (hand-written): the key and value columns
  of the packed projection, and the three rotary tables as the host lays them out.
-/
module

public import proofs.«01_k».proof.Proof.AttnWinStep
public import Idealize.ShloMosaic.Lib.StableHlo.ReadAt

@[expose] public section

noncomputable section

open Idealize.ShloMosaic Idealize.ShloMosaic.TcCoe Idealize.SL.Sem

namespace Cert.AttnWinIdeal.Hand

open Cert.AttnWinIdeal Cert.AttnWinIdeal.Gen Cert.AttnMath

/-- Where each window stands at point `t`. -/
theorem idx : ∀ t : Fin cfg0.N, win0_1.index t = ![t.val, 4] ∧ win0_2.index t = ![t.val, 5] ∧ win0_3.index t = ![t.val % 64, 0]
    ∧ win0_4.index t = ![t.val % 64, 0] ∧ win0_5.index t = ![t.val % 64, 0]
    ∧ win0_8.index t = ![t.val / 64, 0, 0] ∧ win0_9.index t = ![t.val / 64, 0, 0] := by
  decide +kernel

/-- A position as a number. -/
abbrev pos (q : ℕ) : EReal := (FloatOps.sitofp (F := Ideal) .f32 (BitVec.ofNat 32 q) : EReal)

variable (m : (ℓ : Loc nD τ sig) → Buf (Elt Ideal) ℓ) (c : Dev nD) (t : Fin cfg0.N)

/-- The packed projection, by row and column. -/
def argP (B : Fin 16384) (k : Fin 5120) : EReal := m ((c : Thread nD τ).loc main_arg0) (ix2 B k)

/-- The key columns of the point's 128 tokens. -/
theorem blk1 (w : Fin 128) (r : Fin 256) (B : Fin 16384) (hB : B.val = 128 * t.val + w.val) :
    (iblk m c 1 t : Vec Ideal S128x256 .bf16) (ix2 w r) = argP m c B ⟨1024 + r.val, by omega⟩ := by
  unfold argP
  have e := (idx t).1
  blk_simp [iblk, e]; entry_read
  congr 1; funext a; apply Fin.ext
  match a with
  | ⟨0, _⟩ => show win0_1.index t 0 * 128 + 1 * w.val = B.val; rw [e, hB]; show t.val * 128 + 1 * w.val = 128 * t.val + w.val; omega
  | ⟨1, _⟩ => show win0_1.index t 1 * 256 + 1 * r.val = 1024 + r.val; rw [e]; show 4 * 256 + 1 * r.val = 1024 + r.val; omega

/-- The value columns of the point's 128 tokens. -/
theorem blk2 (w : Fin 128) (r : Fin 256) (B : Fin 16384) (hB : B.val = 128 * t.val + w.val) :
    (iblk m c 2 t : Vec Ideal S128x256 .bf16) (ix2 w r) = argP m c B ⟨1280 + r.val, by omega⟩ := by
  unfold argP
  have e := (idx t).2.1
  blk_simp [iblk, e]; entry_read
  congr 1; funext a; apply Fin.ext
  match a with
  | ⟨0, _⟩ => show win0_2.index t 0 * 128 + 1 * w.val = B.val; rw [e, hB]; show t.val * 128 + 1 * w.val = 128 * t.val + w.val; omega
  | ⟨1, _⟩ => show win0_2.index t 1 * 256 + 1 * r.val = 1280 + r.val; rw [e]; show 5 * 256 + 1 * r.val = 1280 + r.val; omega

/-- The cosines of every position. -/
theorem cosRow (A : Vec Ideal S8192x8 .f32) (hA : A = StableHlo.upto hostOps0 (fun b => m (c, b)) 25 (Proc.devRef .tc main_v17)) (q : Fin 8192) (i : Fin 8) :
    A (ix2 q i) = Ideal.cos (ang (pos q.val) i.val) := by
  rw [hA]
  after_reads_at
  rfl

/-- The ones. -/
theorem oneRow (A : Vec Ideal S8192x48 .f32) (hA : A = StableHlo.upto hostOps0 (fun b => m (c, b)) 25 (Proc.devRef .tc main_v19)) (q : Fin 8192) (i : Fin 48) :
    A (ix2 q i) = (1 : EReal) := by
  rw [hA]
  after_reads_at

/-- The sines of every position. -/
theorem sinRow (A : Vec Ideal S8192x8 .f32) (hA : A = StableHlo.upto hostOps0 (fun b => m (c, b)) 34 (Proc.devRef .tc main_v18)) (q : Fin 8192) (i : Fin 8) :
    A (ix2 q i) = Ideal.sin (ang (pos q.val) i.val) := by
  rw [hA]
  after_reads_at
  rfl

/-- The zeros before the sines. -/
theorem zeroRow8 (A : Vec Ideal S8192x8 .f32) (hA : A = StableHlo.upto hostOps0 (fun b => m (c, b)) 34 (Proc.devRef .tc main_v24)) (q : Fin 8192) (i : Fin 8) :
    A (ix2 q i) = (0 : EReal) := by
  rw [hA]
  after_reads_at

/-- The zeros after them. -/
theorem zeroRow48 (A : Vec Ideal S8192x48 .f32) (hA : A = StableHlo.upto hostOps0 (fun b => m (c, b)) 34 (Proc.devRef .tc main_v25)) (q : Fin 8192) (i : Fin 48) :
    A (ix2 q i) = (0 : EReal) := by
  rw [hA]
  after_reads_at

/-- The cosines, by any index. -/
theorem cosAt (A : Vec Ideal S8192x8 .f32) (hA : A = StableHlo.upto hostOps0 (fun b => m (c, b)) 25 (Proc.devRef .tc main_v17)) (j : S8192x8.Idx)
    (q i : ℕ) (hq : (j 0).val = q) (hi : (j 1).val = i) : A j = Ideal.cos (ang (pos q) i) := by
  subst hq hi
  exact (congrArg A (eq_ix2 j)).trans (cosRow m c A hA (j 0) (j 1))

/-- The ones, by any index. -/
theorem oneAt (A : Vec Ideal S8192x48 .f32) (hA : A = StableHlo.upto hostOps0 (fun b => m (c, b)) 25 (Proc.devRef .tc main_v19)) (j : S8192x48.Idx) :
    A j = (1 : EReal) :=
  (congrArg A (eq_ix2 j)).trans (oneRow m c A hA (j 0) (j 1))

/-- The sines, by any index. -/
theorem sinAt (A : Vec Ideal S8192x8 .f32) (hA : A = StableHlo.upto hostOps0 (fun b => m (c, b)) 34 (Proc.devRef .tc main_v18)) (j : S8192x8.Idx)
    (q i : ℕ) (hq : (j 0).val = q) (hi : (j 1).val = i) : A j = Ideal.sin (ang (pos q) i) := by
  subst hq hi
  exact (congrArg A (eq_ix2 j)).trans (sinRow m c A hA (j 0) (j 1))

/-- The zeros before the sines, by any index. -/
theorem zeroAt8 (A : Vec Ideal S8192x8 .f32) (hA : A = StableHlo.upto hostOps0 (fun b => m (c, b)) 34 (Proc.devRef .tc main_v24)) (j : S8192x8.Idx) :
    A j = (0 : EReal) :=
  (congrArg A (eq_ix2 j)).trans (zeroRow8 m c A hA (j 0) (j 1))

/-- The zeros after them, by any index. -/
theorem zeroAt48 (A : Vec Ideal S8192x48 .f32) (hA : A = StableHlo.upto hostOps0 (fun b => m (c, b)) 34 (Proc.devRef .tc main_v25)) (j : S8192x48.Idx) :
    A j = (0 : EReal) :=
  (congrArg A (eq_ix2 j)).trans (zeroRow48 m c A hA (j 0) (j 1))

set_option maxHeartbeats 1000000 in
/-- The table of cosines. -/
theorem blk3 (w l : Fin 128) (q : ℕ) (hq : q = t.val % 64 * 128 + w.val) :
    (iblk m c 3 t : Vec Ideal S128x128 .f32) (ix2 w l) = tabC (pos q) (l.val % 64) := by
  have e := (idx t).2.2.1
  have e0 : (((View.whole main_v29).slice (win0_3.rect t)).emb (ix2 w l) 0).val = q := by
    show win0_3.index t 0 * 128 + 1 * w.val = _; rw [e, hq]; show t.val % 64 * 128 + 1 * w.val = _; omega
  have e1 : (((View.whole main_v29).slice (win0_3.rect t)).emb (ix2 w l) 1).val = l.val := by
    show win0_3.index t 1 * 128 + 1 * _ = _; rw [e]; simp
  blk_simp [iblk, e]
  unfold V
  after_reads_simp
  dsimp only [Matrix.cons_val_zero, Matrix.cons_val_one, Matrix.cons_val]
  obtain ⟨A, hA⟩ : ∃ A : Vec Ideal S8192x8 .f32, A = StableHlo.upto hostOps0 (fun b => m (c, b)) 25 (Proc.devRef .tc main_v17) := ⟨_, rfl⟩
  obtain ⟨B, hB⟩ : ∃ B : Vec Ideal S8192x48 .f32, B = StableHlo.upto hostOps0 (fun b => m (c, b)) 25 (Proc.devRef .tc main_v19) := ⟨_, rfl⟩
  rw [← hA, ← hB]
  clean_types
  pointwise
  simp only [e1]
  unfold tabC
  split_ifs <;> first
    | exact cosAt m c A hA _ _ _ e0 rfl
    | exact oneAt m c B hB _

set_option maxHeartbeats 1000000 in
/-- The table for the number eight places on. -/
theorem blk4 (w l : Fin 128) (q : ℕ) (hq : q = t.val % 64 * 128 + w.val) :
    (iblk m c 4 t : Vec Ideal S128x128 .f32) (ix2 w l) = tabP (pos q) (l.val % 64) := by
  have e := (idx t).2.2.2.1
  have e0 : (((View.whole main_v32).slice (win0_4.rect t)).emb (ix2 w l) 0).val = q := by
    show win0_4.index t 0 * 128 + 1 * w.val = _; rw [e, hq]; show t.val % 64 * 128 + 1 * w.val = _; omega
  have e1 : (((View.whole main_v32).slice (win0_4.rect t)).emb (ix2 w l) 1).val = l.val := by
    show win0_4.index t 1 * 128 + 1 * _ = _; rw [e]; simp
  blk_simp [iblk, e]; entry_read; pointwise
  simp only [e0, e1]
  unfold tabP
  split_ifs <;> rfl

set_option maxHeartbeats 1000000 in
/-- The table for the number eight places before. -/
theorem blk5 (w l : Fin 128) (q : ℕ) (hq : q = t.val % 64 * 128 + w.val) :
    (iblk m c 5 t : Vec Ideal S128x128 .f32) (ix2 w l) = tabM (pos q) (l.val % 64) := by
  have e := (idx t).2.2.2.2.1
  have e0 : (((View.whole main_v35).slice (win0_5.rect t)).emb (ix2 w l) 0).val = q := by
    show win0_5.index t 0 * 128 + 1 * w.val = _; rw [e, hq]; show t.val % 64 * 128 + 1 * w.val = _; omega
  have e1 : (((View.whole main_v35).slice (win0_5.rect t)).emb (ix2 w l) 1).val = l.val := by
    show win0_5.index t 1 * 128 + 1 * _ = _; rw [e]; simp
  blk_simp [iblk, e]
  unfold V
  after_reads_simp
  dsimp only [Matrix.cons_val_zero, Matrix.cons_val_one, Matrix.cons_val]
  obtain ⟨A, hA⟩ : ∃ A : Vec Ideal S8192x8 .f32, A = StableHlo.upto hostOps0 (fun b => m (c, b)) 34 (Proc.devRef .tc main_v24) := ⟨_, rfl⟩
  obtain ⟨S, hS⟩ : ∃ S : Vec Ideal S8192x8 .f32, S = StableHlo.upto hostOps0 (fun b => m (c, b)) 34 (Proc.devRef .tc main_v18) := ⟨_, rfl⟩
  obtain ⟨B, hB⟩ : ∃ B : Vec Ideal S8192x48 .f32, B = StableHlo.upto hostOps0 (fun b => m (c, b)) 34 (Proc.devRef .tc main_v25) := ⟨_, rfl⟩
  rw [← hA, ← hS, ← hB]
  clean_types
  pointwise
  simp only [e1]
  unfold tabM
  split_ifs <;> first
    | exact zeroAt8 m c A hA _
    | exact sinAt m c S hS _ _ _ e0 rfl
    | exact zeroAt48 m c B hB _

end Cert.AttnWinIdeal.Hand

end
-- ==== Proof.AttnWinValue.lean ====
/-
  The prompt's attention kernel at the extended reals (hand-written): the last of a sequence's 64 grid points leaves the
  window outputs, and they are the turned keys and the values of the sequence's last 128 tokens.
-/
module

public import proofs.«01_k».proof.Proof.AttnWinTables

@[expose] public section

noncomputable section

open Idealize.ShloMosaic Idealize.ShloMosaic.TcCoe Idealize.SL.Sem

namespace Cert.AttnWinIdeal.Hand

open Cert.AttnWinIdeal Cert.AttnWinIdeal.Gen Cert.AttnMath

/-- The windows are written back at the last point of a sequence, and only there. -/
theorem flush_last : ∀ t : Fin cfg0.N, ((cfg0.win 8).flush t = true ↔ t.val % 64 = 63) ∧ ((cfg0.win 9).flush t = true ↔ t.val % 64 = 63) := by
  decide +kernel

variable (m : (ℓ : Loc nD τ sig) → Buf (Elt Ideal) ℓ) (c : Dev nD) (t : Fin cfg0.N)

/-- The key windows: number `64g+d` of a sequence's token `8064+w` is number `d` of its turned key of head `g`. -/
def GK : Buf (Elt Ideal) ((c : Thread nD τ).loc main_v36_1) := fun i : S2x128x256.Idx =>
  rope (pos (8064 + (i 1).val)) (fun e : Fin 64 => argP m c
      ⟨8192 * (i 0).val + 8064 + (i 1).val, by have h0 : (i 0).val < 2 := (i 0).isLt; have h1 : (i 1).val < 128 := (i 1).isLt; omega⟩
      ⟨1024 + ((i 2).val / 64 * 64 + e.val), by have h2 : (i 2).val < 256 := (i 2).isLt; omega⟩)
    ⟨(i 2).val % 64, by omega⟩

/-- The value windows. -/
def GV : Buf (Elt Ideal) ((c : Thread nD τ).loc main_v36_2) := fun i : S2x128x256.Idx =>
  argP m c ⟨8192 * (i 0).val + 8064 + (i 1).val, by have h0 : (i 0).val < 2 := (i 0).isLt; have h1 : (i 1).val < 128 := (i 1).isLt; omega⟩
    ⟨1280 + (i 2).val, by have h2 : (i 2).val < 256 := (i 2).isLt; omega⟩

/-- A stored key at the last point of a sequence. -/
theorem key_entry (ht : t.val % 64 = 63) (w : Fin 128) (r : Fin 256) (B : Fin 2) (hB : B.val = t.val / 64) :
    pair (fun n => k0_pay15 (F := Ideal) (k0_pay13 (iblk m c 3 t) (iblk m c 4 t) (iblk m c 5 t) (tile (iblk m c 1 t) n))) (ix3 0 w r)
      = GK m c (ix3 B w r) := by
  have hr : r = (⟨128 * (r.val / 128) + (64 * (r.val / 64 % 2) + r.val % 64), by omega⟩ : Fin 256) := Fin.ext (by dsimp only; omega)
  refine (congrArg (fun k : Fin 256 => pair (fun n => k0_pay15 (F := Ideal) (k0_pay13 (iblk m c 3 t) (iblk m c 4 t) (iblk m c 5 t) (tile (iblk m c 1 t) n))) (ix3 0 w k)) hr).trans ?_
  refine (pair_apply _ w (⟨r.val / 128, by omega⟩ : Fin 2) (⟨64 * (r.val / 64 % 2) + r.val % 64, by omega⟩ : Fin 128)).trans ?_
  have hq : 8064 + w.val = t.val % 64 * 128 + w.val := by omega
  refine (keyTile_apply (pos (8064 + w.val)) _ _ _ _ w (fun l => blk3 m c t w l _ hq) (fun l => blk4 m c t w l _ hq) (fun l => blk5 m c t w l _ hq)
    (⟨r.val / 64 % 2, by omega⟩ : Fin 2) (⟨r.val % 64, by omega⟩ : Fin 64)).trans ?_
  refine congrArg (fun x => rope (pos (8064 + w.val)) x (⟨r.val % 64, by omega⟩ : Fin 64)) (funext fun e => ?_)
  refine (tile_apply _ _ w _).trans ((blk1 m c t w _ (⟨8192 * B.val + 8064 + w.val, by omega⟩ : Fin 16384) (by dsimp only; omega)).trans ?_)
  exact congrArg (argP m c (⟨8192 * B.val + 8064 + w.val, by omega⟩ : Fin 16384)) (Fin.ext (by
    show 1024 + (128 * (r.val / 128) + (64 * (r.val / 64 % 2) + e.val)) = 1024 + (r.val / 64 * 64 + e.val); omega))

/-- A stored value at the last point of a sequence. -/
theorem val_entry (ht : t.val % 64 = 63) (w : Fin 128) (r : Fin 256) (B : Fin 2) (hB : B.val = t.val / 64) :
    pair (fun n => k0_pay16 (F := Ideal) (k0_pay14 (tile (iblk m c 2 t) n))) (ix3 0 w r) = GV m c (ix3 B w r) := by
  have hr : r = (⟨128 * (r.val / 128) + r.val % 128, by omega⟩ : Fin 256) := Fin.ext (by dsimp only; omega)
  refine (congrArg (fun k : Fin 256 => pair (fun n => k0_pay16 (F := Ideal) (k0_pay14 (tile (iblk m c 2 t) n))) (ix3 0 w k)) hr).trans ?_
  refine (pair_apply _ w (⟨r.val / 128, by omega⟩ : Fin 2) (⟨r.val % 128, by omega⟩ : Fin 128)).trans ?_
  refine (valTile_apply _ w _).trans ((tile_apply _ _ w _).trans ((blk2 m c t w _ (⟨8192 * B.val + 8064 + w.val, by omega⟩ : Fin 16384) (by dsimp only; omega)).trans ?_))
  exact congrArg (argP m c (⟨8192 * B.val + 8064 + w.val, by omega⟩ : Fin 16384)) (Fin.ext (by
    show 1280 + (128 * (r.val / 128) + r.val % 128) = 1280 + r.val; omega))

/-- What the last point of a sequence writes back of the keys is its block of `GK`. -/
theorem flushed_keys (hf : (cfg0.win 8).flush t = true) : (dats m 0 c).flushed 8 t = ((cfg0.win 8).blk t).view.read (Elt Ideal) (GK m c) := by
  have ht := (flush_last t).1.1 hf
  rw [Value.flushed8_B m c t (by omega), out_keys]
  refine funext fun y : S1x128x256.Idx => ?_
  obtain ⟨z, w, r, rfl⟩ : ∃ (z : Fin 1) (w : Fin 128) (r : Fin 256), y = ix3 z w r := ⟨y 0, y 1, y 2, eq_ix3 y⟩
  obtain rfl : z = 0 := Subsingleton.elim _ _
  have hN := lt_of_lt_of_eq t.isLt (show cfg0.N = 128 from N_0)
  have e := (idx t).2.2.2.2.2.1
  have hemb : ((cfg0.win 8).blk t).view.emb (ix3 0 w r) = (ix3 ⟨t.val / 64, by omega⟩ w r : S2x128x256.Idx) := by
    funext a
    apply Fin.ext
    match a with
    | ⟨0, _⟩ => show win0_8.index t 0 * 1 + 1 * 0 = _; rw [e]; simp
    | ⟨1, _⟩ => show win0_8.index t 1 * 128 + 1 * w.val = _; rw [e]; simp
    | ⟨2, _⟩ => show win0_8.index t 2 * 256 + 1 * r.val = _; rw [e]; simp
  show pair (fun n => k0_pay15 (F := Ideal) (k0_pay13 (iblk m c 3 t) (iblk m c 4 t) (iblk m c 5 t) (tile (iblk m c 1 t) n))) (ix3 0 w r)
    = GK m c (((cfg0.win 8).blk t).view.emb (ix3 0 w r))
  rw [hemb]
  exact key_entry m c t ht w r _ rfl

/-- What the last point of a sequence writes back of the values is its block of `GV`. -/
theorem flushed_values (hf : (cfg0.win 9).flush t = true) : (dats m 0 c).flushed 9 t = ((cfg0.win 9).blk t).view.read (Elt Ideal) (GV m c) := by
  have ht := (flush_last t).2.1 hf
  rw [Value.flushed9_B m c t (by omega), out_values]
  refine funext fun y : S1x128x256.Idx => ?_
  obtain ⟨z, w, r, rfl⟩ : ∃ (z : Fin 1) (w : Fin 128) (r : Fin 256), y = ix3 z w r := ⟨y 0, y 1, y 2, eq_ix3 y⟩
  obtain rfl : z = 0 := Subsingleton.elim _ _
  have hN := lt_of_lt_of_eq t.isLt (show cfg0.N = 128 from N_0)
  have e := (idx t).2.2.2.2.2.2
  have hemb : ((cfg0.win 9).blk t).view.emb (ix3 0 w r) = (ix3 ⟨t.val / 64, by omega⟩ w r : S2x128x256.Idx) := by
    funext a
    apply Fin.ext
    match a with
    | ⟨0, _⟩ => show win0_9.index t 0 * 1 + 1 * 0 = _; rw [e]; simp
    | ⟨1, _⟩ => show win0_9.index t 1 * 128 + 1 * w.val = _; rw [e]; simp
    | ⟨2, _⟩ => show win0_9.index t 2 * 256 + 1 * r.val = _; rw [e]; simp
  show pair (fun n => k0_pay16 (F := Ideal) (k0_pay14 (tile (iblk m c 2 t) n))) (ix3 0 w r) = GV m c (((cfg0.win 9).blk t).view.emb (ix3 0 w r))
  rw [hemb]
  exact val_entry m c t ht w r _ rfl

/-- The block a point writes of the keys, by its bounds. -/
theorem mem_blk8 (i : S2x128x256.Idx) :
    i ∈ ((cfg0.win 8).blk t).view.set ↔ ∀ a : Fin 3, win0_8.index t a * S1x128x256.size a ≤ (i a).val
      ∧ (i a).val < win0_8.index t a * S1x128x256.size a + S1x128x256.size a := by
  show i ∈ ((View.whole main_v36_1).slice (win0_8.rect t)).set ↔ _
  rw [View.set_slice_whole, Rect.mem_set_unit]
  exact Iff.rfl

/-- The block a point writes of the values, by its bounds. -/
theorem mem_blk9 (i : S2x128x256.Idx) :
    i ∈ ((cfg0.win 9).blk t).view.set ↔ ∀ a : Fin 3, win0_9.index t a * S1x128x256.size a ≤ (i a).val
      ∧ (i a).val < win0_9.index t a * S1x128x256.size a + S1x128x256.size a := by
  show i ∈ ((View.whole main_v36_2).slice (win0_9.rect t)).set ↔ _
  rw [View.set_slice_whole, Rect.mem_set_unit]
  exact Iff.rfl

/-- The second result is the windows of keys. -/
theorem final_keys : (dats m 0 c).arrAt 8 cfg0.N = GK m c :=
  (dats m 0 c).arrAt_eq_of_cover 8 _ (fun t hf => flushed_keys m c t hf) fun (i : S2x128x256.Idx) => by
    have h0 : (i 0).val < 2 := (i 0).isLt
    have h1 : (i 1).val < 128 := (i 1).isLt
    have h2 : (i 2).val < 256 := (i 2).isLt
    refine ⟨⟨64 * (i 0).val + 63, lt_of_lt_of_eq (by omega) N_0.symm⟩, (flush_last _).1.2 (by dsimp only; omega), ?_⟩
    rw [mem_blk8]
    rw [(idx _).2.2.2.2.2.1]
    intro a
    match a with
    | ⟨0, _⟩ => show (64 * (i 0).val + 63) / 64 * 1 ≤ (i 0).val ∧ (i 0).val < (64 * (i 0).val + 63) / 64 * 1 + 1; omega
    | ⟨1, _⟩ => show 0 * 128 ≤ (i 1).val ∧ (i 1).val < 0 * 128 + 128; omega
    | ⟨2, _⟩ => show 0 * 256 ≤ (i 2).val ∧ (i 2).val < 0 * 256 + 256; omega

/-- The third result is the windows of values. -/
theorem final_values : (dats m 0 c).arrAt 9 cfg0.N = GV m c :=
  (dats m 0 c).arrAt_eq_of_cover 9 _ (fun t hf => flushed_values m c t hf) fun (i : S2x128x256.Idx) => by
    have h0 : (i 0).val < 2 := (i 0).isLt
    have h1 : (i 1).val < 128 := (i 1).isLt
    have h2 : (i 2).val < 256 := (i 2).isLt
    refine ⟨⟨64 * (i 0).val + 63, lt_of_lt_of_eq (by omega) N_0.symm⟩, (flush_last _).2.2 (by dsimp only; omega), ?_⟩
    rw [mem_blk9]
    rw [(idx _).2.2.2.2.2.2]
    intro a
    match a with
    | ⟨0, _⟩ => show (64 * (i 0).val + 63) / 64 * 1 ≤ (i 0).val ∧ (i 0).val < (64 * (i 0).val + 63) / 64 * 1 + 1; omega
    | ⟨1, _⟩ => show 0 * 128 ≤ (i 1).val ∧ (i 1).val < 0 * 128 + 128; omega
    | ⟨2, _⟩ => show 0 * 256 ≤ (i 2).val ∧ (i 2).val < 0 * 256 + 256; omega

/-- The run of the kernel: the two window results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v36_1) = GK m c
      ∧ r.2.mem ((c : Thread nD τ).loc main_v36_2) = GV m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).2.1.trans (final_keys m c), (h c).2.2.1.trans (final_values m c), (h c).2.2.2⟩) (Value.run_blocks m ρ)

end Cert.AttnWinIdeal.Hand

end
-- ==== Proof.AttnWinRef.lean ====
/-
  The prompt's last 128 keys and values as the reference writes them, in stages, each read at an entry, at the extended
  reals (hand-written): every key head turned by its position's angles, then the last 128 positions of each sequence.
-/
module

public import proofs.«01_k».proof.Proof.Gen.AttnWinRefIdeal.Run
public import proofs.«01_k».proof.Proof.AttnMath

@[expose] public section

noncomputable section

open Idealize.ShloMosaic Idealize.ShloMosaic.TcCoe Idealize.SL.Sem

namespace Cert.AttnWinRefIdeal.Hand

open Cert.AttnWinRefIdeal Cert.AttnWinRefIdeal.Gen Cert.AttnMath

section Stages

variable {F : FTy → Type} [FloatOps F]

/-- The eight angles of every position. -/
def angles : FVec F S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1 (Host.powf (broadcastInDim S8 ![] bcast_S_S8 (constant S_ .f32 0x48F42400#32))
      (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
        (broadcastInDim S8 ![] bcast_S_S8 (constant S_ .f32 0x41800000#32))))))

/-- Eight numbers per position, for every sequence and key head. -/
def spread (y : FVec F S8192x8 .f32) : FVec F S2x8192x4x8 .f32 :=
  broadcastInDim S2x8192x4x8 ![0, 1, 2, 3] bcast_S1x8192x1x8_S2x8192x4x8_0_1_2_3
    (broadcastInDim S1x8192x1x8 ![1, 2, 3] bcast_S8192x1x8_S1x8192x1x8_1_2_3 (broadcastInDim S8192x1x8 ![0, 2] bcast_S8192x8_S8192x1x8_0_2 y))

/-- The rotary embedding of the key heads. -/
def turned (a : FVec F S8192x8 .f32) (y : FVec F S2x8192x4x64 .f32) : FVec F S2x8192x4x64 .f32 :=
  concatenate S2x8192x4x64 3
    [⟨S2x8192x4x8, subf (mulf (extractStridedSlice S2x8192x4x8 ![0, 0, 0, 0] y slices_S2x8192x4x64_S2x8192x4x8_0_0_0_0) (spread (Host.cos a)))
        (mulf (extractStridedSlice S2x8192x4x8 ![0, 0, 0, 8] y slices_S2x8192x4x64_S2x8192x4x8_0_0_0_8) (spread (Host.sin a)))⟩,
     ⟨S2x8192x4x8, addf (mulf (extractStridedSlice S2x8192x4x8 ![0, 0, 0, 8] y slices_S2x8192x4x64_S2x8192x4x8_0_0_0_8) (spread (Host.cos a)))
        (mulf (extractStridedSlice S2x8192x4x8 ![0, 0, 0, 0] y slices_S2x8192x4x64_S2x8192x4x8_0_0_0_0) (spread (Host.sin a)))⟩,
     ⟨S2x8192x4x48, extractStridedSlice S2x8192x4x48 ![0, 0, 0, 16] y slices_S2x8192x4x64_S2x8192x4x48_0_0_0_16⟩]
    concatenates_S2x8192x4x8_S2x8192x4x8_S2x8192x4x48_S2x8192x4x64_d3

/-- The key heads of every token. -/
def keyHeads (x : FVec F S16384x5120 .bf16) : FVec F S2x8192x4x64 .f32 :=
  shapeCast _ (extractStridedSlice S16384x256 ![0, 1024] (extf .f32 x bitsLt_bf16_f32) slices_S16384x5120_S16384x256_0_1024) shapeCasts_S16384x256_S2x8192x4x64

/-- The value heads of every token. -/
def valHeads (x : FVec F S16384x5120 .bf16) : FVec F S2x8192x4x64 .f32 :=
  shapeCast _ (extractStridedSlice S16384x256 ![0, 1280] (extf .f32 x bitsLt_bf16_f32) slices_S16384x5120_S16384x256_0_1280) shapeCasts_S16384x256_S2x8192x4x64

/-- The last 128 positions of each sequence. -/
def lastOf (y : FVec F S2x8192x4x64 .f32) : FVec F S2x128x256 .f32 :=
  shapeCast _ (extractStridedSlice S2x128x4x64 ![0, 8064, 0, 0] y slices_S2x8192x4x64_S2x128x4x64_0_8064_0_0) shapeCasts_S2x128x4x64_S2x128x256

variable (m : (ℓ : Loc nD τ sig) → Buf (Elt F) ℓ) (c : Dev nD)

set_option maxRecDepth 8192 in
/-- The generated term of the keys, in these stages. -/
theorem keys_eq : Value.res_main_v45 m c = lastOf (turned angles (keyHeads (m ((c.tc : Thread nD τ).loc main_arg0)))) := rfl

end Stages

/-- An angle. -/
theorem angles_apply (q : Fin 8192) (i : Fin 8) :
    angles (F := Ideal) (ix2 q i) = ang (FloatOps.sitofp (F := Ideal) .f32 (BitVec.ofNat 32 q.val) : EReal) i.val := by
  unfold angles
  pointwise
  rfl

/-- The rotary embedding of a key head at an entry. -/
theorem turned_apply (p : Fin 8192 → EReal) (a : FVec Ideal S8192x8 .f32) (ha : ∀ q i, a (ix2 q i) = ang (p q) i.val) (y : FVec Ideal S2x8192x4x64 .f32)
    (B : Fin 2) (q : Fin 8192) (g : Fin 4) (d : Fin 64) :
    turned (F := Ideal) a y (ix4 B q g d) = rope (p q) (fun e => y (ix4 B q g e)) d := by
  unfold turned spread rope
  pointwise
  simp only [ha]
  refine dite_congr rfl (fun h1 => rfl) fun h1 => dite_congr rfl (fun h2 => ?_) fun h2 => ?_
  · have e : (⟨8 + (d.val - 8), by omega⟩ : Fin 64) = d := Fin.ext (by dsimp only; omega)
    rw [e]
  · have e : (⟨16 + (d.val - 8 - 8), by omega⟩ : Fin 64) = d := Fin.ext (by dsimp only; omega)
    rw [e]

/-- A key head's entries are columns of the projection. -/
theorem keyHeads_apply (x : FVec Ideal S16384x5120 .bf16) (B : Fin 2) (q : Fin 8192) (g : Fin 4) (d : Fin 64) :
    keyHeads (F := Ideal) x (ix4 B q g d) = x (ix2 (⟨B.val * 8192 + q.val, by omega⟩ : Fin 16384) (⟨1024 + (g.val * 64 + d.val), by omega⟩ : Fin 5120)) := by
  unfold keyHeads
  pointwise

/-- A value head's entries are columns of the projection. -/
theorem valHeads_apply (x : FVec Ideal S16384x5120 .bf16) (B : Fin 2) (q : Fin 8192) (g : Fin 4) (d : Fin 64) :
    valHeads (F := Ideal) x (ix4 B q g d) = x (ix2 (⟨B.val * 8192 + q.val, by omega⟩ : Fin 16384) (⟨1280 + (g.val * 64 + d.val), by omega⟩ : Fin 5120)) := by
  unfold valHeads
  pointwise

/-- An entry of the last positions. -/
theorem lastOf_apply (y : FVec Ideal S2x8192x4x64 .f32) (B : Fin 2) (w : Fin 128) (r : Fin 256) :
    lastOf (F := Ideal) y (ix3 B w r) = y (ix4 B (⟨8064 + w.val, by omega⟩ : Fin 8192) (⟨r.val / 64, by omega⟩ : Fin 4) (⟨r.val % 64, by omega⟩ : Fin 64)) := by
  unfold lastOf
  pointwise

end Cert.AttnWinRefIdeal.Hand

end
-- ==== Proof.AttnWinClaims.lean ====
/-
  The claims of the prompt's windows (hand-written): the frames, and that the two windows the kernel leaves are the
  reference's at the extended reals.
-/
module

public import proofs.«01_k».proof.Defs
public import proofs.«01_k».proof.Proof.AttnWinValue
public import proofs.«01_k».proof.Proof.AttnWinRef
public import proofs.«01_k».proof.Proof.Gen.AttnWin.Frame
public import Idealize.ShloMosaic.Lib.Quiescent

@[expose] public section

noncomputable section

open Idealize.ShloMosaic Idealize.ShloMosaic.TcCoe Idealize.SL.Sem

namespace Cert.Proof.AttnWin

open Cert.AttnMath

/-- The kernel as printed runs, keeps its arguments and ends with every counter at zero. -/
theorem frame_bits : Cert.quiescent_AttnWin := fun m ρ _ => Cert.AttnWin.Gen.frame m ρ

/-- The same of the kernel at the extended reals. -/
theorem frame_ideal : Cert.quiescent_AttnWinIdeal := fun m ρ _ => Cert.AttnWinIdeal.Gen.frame m ρ

/-- The reference runs and keeps its arguments; it declares no semaphore. -/
theorem frame_ref : Cert.quiescent_AttnWinRefIdeal := fun m ρ _ =>
  (θ_run Cert.AttnWinRefIdeal.defs _ _).mono (fun r h => ⟨fun c => (h c).2.2, sem_eq_zero_of_no_sems (by decide) r.2⟩)
    (Cert.AttnWinRefIdeal.Value.run (F := Ideal) m ρ)

section Ref

open Cert.AttnWinRefIdeal.Hand

variable (m : (ℓ : Loc Cert.AttnWinIdeal.nD Cert.AttnWinIdeal.τ Cert.AttnWinIdeal.sig) → Buf (Elt Ideal) ℓ)
  (m' : (ℓ : Loc Cert.AttnWinRefIdeal.nD Cert.AttnWinRefIdeal.τ Cert.AttnWinRefIdeal.sig) → Buf (Elt Ideal) ℓ) (c : Dev Cert.AttnWinIdeal.nD)
  (e0 : m' ((c.tc : Thread Cert.AttnWinRefIdeal.nD Cert.AttnWinRefIdeal.τ).loc Cert.AttnWinRefIdeal.main_arg0)
    = m ((c.tc : Thread Cert.AttnWinIdeal.nD Cert.AttnWinIdeal.τ).loc Cert.AttnWinIdeal.main_arg0))

include e0

/-- The reference's key windows are the kernel's. -/
theorem keys_spec (B : Fin 2) (w : Fin 128) (r : Fin 256) :
    lastOf (turned (F := Ideal) angles (keyHeads (m' ((c.tc : Thread Cert.AttnWinRefIdeal.nD Cert.AttnWinRefIdeal.τ).loc Cert.AttnWinRefIdeal.main_arg0)))) (ix3 B w r)
      = Cert.AttnWinIdeal.Hand.GK m c (ix3 B w r) := by
  rw [e0]
  refine (lastOf_apply _ B w r).trans ?_
  refine (turned_apply (fun q : Fin 8192 => Cert.AttnWinIdeal.Hand.pos q.val) _ angles_apply _ B _ _ _).trans ?_
  refine congrArg (fun x => rope (Cert.AttnWinIdeal.Hand.pos (8064 + w.val)) x (⟨r.val % 64, by omega⟩ : Fin 64)) (funext fun e => ?_)
  refine (keyHeads_apply _ B _ _ e).trans ?_
  exact congrArg (fun k : Fin 16384 => Cert.AttnWinIdeal.Hand.argP m c k _) (Fin.ext (by
    show B.val * 8192 + (8064 + w.val) = 8192 * B.val + 8064 + w.val; omega))

/-- The reference's value windows are the kernel's. -/
theorem vals_spec (B : Fin 2) (w : Fin 128) (r : Fin 256) :
    lastOf (F := Ideal) (valHeads (m' ((c.tc : Thread Cert.AttnWinRefIdeal.nD Cert.AttnWinRefIdeal.τ).loc Cert.AttnWinRefIdeal.main_arg0))) (ix3 B w r)
      = Cert.AttnWinIdeal.Hand.GV m c (ix3 B w r) := by
  rw [e0]
  refine (lastOf_apply _ B w r).trans ((valHeads_apply _ B _ _ _).trans ?_)
  exact congrArg₂ (Cert.AttnWinIdeal.Hand.argP m c) (Fin.ext (by
      show B.val * 8192 + (8064 + w.val) = 8192 * B.val + 8064 + w.val; omega))
    (Fin.ext (by show 1280 + (r.val / 64 * 64 + r.val % 64) = 1280 + r.val; omega))

end Ref

/-- From arguments that agree, the kernel and the reference end with equal windows: the turned keys and the values of the
    last 128 tokens of each sequence. -/
theorem algebraic : Cert.algebraic_AttnWinIdeal_AttnWinRefIdeal := fun m ρ m' ρ' _ hag =>
  ⟨fun c => Cert.AttnWinIdeal.Hand.GK m c, fun c => Cert.AttnWinIdeal.Hand.GV m c, Cert.AttnWinIdeal.Hand.run m ρ,
    (θ_run Cert.AttnWinRefIdeal.defs _ _).mono (fun r h c => ⟨(h c).1.trans (funext fun j => by
        obtain ⟨B, w, r, rfl⟩ : ∃ (B : Fin 2) (w : Fin 128) (r : Fin 256), j = ix3 B w r := ⟨j 0, j 1, j 2, eq_ix3 j⟩
        rw [Cert.AttnWinRefIdeal.Hand.keys_eq]
        exact keys_spec m m' c (hag c).1 B w r),
      (h c).2.1.trans (funext fun j => by
        obtain ⟨B, w, r, rfl⟩ : ∃ (B : Fin 2) (w : Fin 128) (r : Fin 256), j = ix3 B w r := ⟨j 0, j 1, j 2, eq_ix3 j⟩
        exact vals_spec m m' c (hag c).1 B w r),
      (h c).2.2⟩)
      (Cert.AttnWinRefIdeal.Value.run (F := Ideal) m' ρ')⟩

end Cert.Proof.AttnWin

end
-- ==== Proof.lean ====
/-
  The proof of `Cert.Claim` (hand-written): the facts of the programs, the frames and the value claims, in the claim's order.
-/
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.MergeIdeal.Value
public import proofs.«01_k».proof.Proof.Gen.FfnIdeal.Value
public import proofs.«01_k».proof.Proof.Gen.MergeRefIdeal.Run
public import proofs.«01_k».proof.Proof.Gen.FfnRefIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojSample
public import proofs.«01_k».proof.Proof.Gen.InprojSample.Frame
public import proofs.«01_k».proof.Proof.Gen.InprojSampleIdeal
public import proofs.«01_k».proof.Proof.Gen.InprojSampleIdeal.Frame
public import proofs.«01_k».proof.Proof.Gen.InprojSampleRefIdeal
public import proofs.«01_k».proof.Proof.Gen.InprojSampleRefIdeal.Run
public import proofs.«01_k».proof.Proof.Gen.AttnSample
public import proofs.«01_k».proof.Proof.Gen.AttnSample.Frame
public import proofs.«01_k».proof.Proof.Gen.AttnSampleIdeal
public import proofs.«01_k».proof.Proof.Gen.AttnSampleIdeal.Frame
public import proofs.«01_k».proof.Proof.Gen.AttnSampleIdeal.Value
public import proofs.«01_k».proof.Proof.Gen.AttnSampleRefIdeal
public import proofs.«01_k».proof.Proof.Gen.AttnSampleRefIdeal.Run
public import proofs.«01_k».proof.Proof.Gen.AttnWin
public import proofs.«01_k».proof.Proof.Gen.AttnWin.Frame
public import proofs.«01_k».proof.Proof.Gen.AttnWinIdeal
public import proofs.«01_k».proof.Proof.Gen.AttnWinIdeal.Frame
public import proofs.«01_k».proof.Proof.Gen.AttnWinIdeal.Value
public import proofs.«01_k».proof.Proof.Gen.AttnWinRefIdeal
public import proofs.«01_k».proof.Proof.Gen.AttnWinRefIdeal.Run
public import proofs.«01_k».proof.Proof.MergeClaims
public import proofs.«01_k».proof.Proof.FfnClaims
public import proofs.«01_k».proof.Proof.InprojClaims
public import proofs.«01_k».proof.Proof.InprojSampleClaims
public import proofs.«01_k».proof.Proof.AttnSampleClaims
public import proofs.«01_k».proof.Proof.AttnWinClaims
public import Idealize.ShloMosaic.Adequacy
public import Idealize.ShloMosaic.Init

@[expose] public section

noncomputable section

namespace Cert.Proof

open Idealize.ShloMosaic Idealize.SL.Sem

/-- `Cert.Claim`: the frames and the value claims. -/
theorem claim : Cert.Claim := ⟨Cert.Merge.Gen.facts, Cert.MergeIdeal.Gen.facts, Cert.MergeRefIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.InprojSample.Gen.facts, Cert.InprojSampleIdeal.Gen.facts, Cert.InprojSampleRefIdeal.Gen.facts,
  Cert.AttnSample.Gen.facts, Cert.AttnSampleIdeal.Gen.facts, Cert.AttnSampleRefIdeal.Gen.facts,
  Cert.AttnWin.Gen.facts, Cert.AttnWinIdeal.Gen.facts, Cert.AttnWinRefIdeal.Gen.facts, AttnSample.preFacts,
  Merge.frame_bits, Merge.frame_ideal, Merge.frame_ref, Ffn.frame_bits, Ffn.frame_ideal, Ffn.frame_ref,
  Inproj.frame_bits, Inproj.frame_ideal, Inproj.frame_ref,
  InprojSample.frame_bits, InprojSample.frame_ideal, InprojSample.frame_ref,
  AttnSample.frame_bits, AttnSample.frame_ideal, AttnSample.frame_ideal_pre, AttnSample.frame_ref, AttnSample.frame_ref_pre,
  AttnWin.frame_bits, AttnWin.frame_ideal, AttnWin.frame_ref,
  trivial, Merge.algebraic, trivial, Ffn.algebraic, trivial, Inproj.algebraic, trivial, InprojSample.algebraic,
  trivial, AttnSample.algebraic, trivial, AttnWin.algebraic⟩

end Cert.Proof

end
